-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S4096x128 : Shape := ⟨2, ![4096, 128]⟩
abbrev S4096x3 : Shape := ⟨2, ![4096, 3]⟩
abbrev S4096 : Shape := ⟨1, ![4096]⟩
abbrev S17 : Shape := ⟨1, ![17]⟩
abbrev S16x1 : Shape := ⟨2, ![16, 1]⟩
abbrev S128x1 : Shape := ⟨2, ![128, 1]⟩
abbrev S4 : Shape := ⟨1, ![4]⟩
abbrev S_ : Shape := ⟨0, ![]⟩
abbrev S16x256 : Shape := ⟨2, ![16, 256]⟩
abbrev S16 : Shape := ⟨1, ![16]⟩
abbrev S4096x1 : Shape := ⟨2, ![4096, 1]⟩
abbrev S16x256x3 : Shape := ⟨3, ![16, 256, 3]⟩
abbrev S16x256x1x3 : Shape := ⟨4, ![16, 256, 1, 3]⟩
abbrev S16x1x256x3 : Shape := ⟨4, ![16, 1, 256, 3]⟩
abbrev S16x256x256x3 : Shape := ⟨4, ![16, 256, 256, 3]⟩
abbrev S16x256x256 : Shape := ⟨3, ![16, 256, 256]⟩
abbrev S16x256x1 : Shape := ⟨3, ![16, 256, 1]⟩
abbrev S16x1x256 : Shape := ⟨3, ![16, 1, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x256x258 : Shape := ⟨3, ![16, 256, 258]⟩
abbrev S16x1x1 : Shape := ⟨3, ![16, 1, 1]⟩
abbrev S16x1x258 : Shape := ⟨3, ![16, 1, 258]⟩
abbrev S16x257x258 : Shape := ⟨3, ![16, 257, 258]⟩
abbrev S16x257x1 : Shape := ⟨3, ![16, 257, 1]⟩
abbrev S257 : Shape := ⟨1, ![257]⟩
abbrev S1x257x1 : Shape := ⟨3, ![1, 257, 1]⟩

class Facts : Prop where
  bcast_S_S4096 : S_.BroadcastsInDim S4096 (![] : Fin 0 → Fin S4096.rank)
  reducesTo_S4096_S_d0 : S4096.ReducesTo [0] S_
  h_S_ : 0 < S_.numel
  shapeCasts_S4096_S16x256 : S4096.ShapeCasts S16x256
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  reducesTo_S16x256_S_d0_1 : S16x256.ReducesTo [0, 1] S_
  shapeCasts_S4096x1_S16x256 : S4096x1.ShapeCasts S16x256
  bcast_S4096_S4096x1_0 : S4096.BroadcastsInDim S4096x1 (![0] : Fin 1 → Fin S4096x1.rank)
  shapeCasts_S4096x3_S16x256x3 : S4096x3.ShapeCasts S16x256x3
  bcast_S16x256x3_S16x256x1x3_0_1_3 : S16x256x3.BroadcastsInDim S16x256x1x3 (![0, 1, 3] : Fin 3 → Fin S16x256x1x3.rank)
  bcast_S16x256x3_S16x1x256x3_0_2_3 : S16x256x3.BroadcastsInDim S16x1x256x3 (![0, 2, 3] : Fin 3 → Fin S16x1x256x3.rank)
  bcast_S16x256x1x3_S16x256x256x3_0_1_2_3 : S16x256x1x3.BroadcastsInDim S16x256x256x3 (![0, 1, 2, 3] : Fin 4 → Fin S16x256x256x3.rank)
  bcast_S16x1x256x3_S16x256x256x3_0_1_2_3 : S16x1x256x3.BroadcastsInDim S16x256x256x3 (![0, 1, 2, 3] : Fin 4 → Fin S16x256x256x3.rank)
  bcast_S_S16x256x256x3 : S_.BroadcastsInDim S16x256x256x3 (![] : Fin 0 → Fin S16x256x256x3.rank)
  reducesTo_S16x256x256x3_S16x256x256_d3 : S16x256x256x3.ReducesTo [3] S16x256x256
  bcast_S16x256_S16x256x1_0_1 : S16x256.BroadcastsInDim S16x256x1 (![0, 1] : Fin 2 → Fin S16x256x1.rank)
  bcast_S16x256_S16x1x256_0_2 : S16x256.BroadcastsInDim S16x1x256 (![0, 2] : Fin 2 → Fin S16x1x256.rank)
  bcast_S16x256x1_S16x256x256_0_1_2 : S16x256x1.BroadcastsInDim S16x256x256 (![0, 1, 2] : Fin 3 → Fin S16x256x256.rank)
  bcast_S16x1x256_S16x256x256_0_1_2 : S16x1x256.BroadcastsInDim S16x256x256 (![0, 1, 2] : Fin 3 → Fin S16x256x256.rank)
  bcast_S_S16x256x256 : S_.BroadcastsInDim S16x256x256 (![] : Fin 0 → Fin S16x256x256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S256x256_S16x256x256_1_2 : S256x256.BroadcastsInDim S16x256x256 (![1, 2] : Fin 2 → Fin S16x256x256.rank)
  bcast_S_S16x256 : S_.BroadcastsInDim S16x256 (![] : Fin 0 → Fin S16x256.rank)
  transposes_S16x256x256_S16x256x256_0_2_1 : S16x256x256.Transposes [0, 2, 1] S16x256x256
  bcast_S_S16x256x1 : S_.BroadcastsInDim S16x256x1 (![] : Fin 0 → Fin S16x256x1.rank)
  concatenates_S16x256x256_S16x256x1_S16x256x1_S16x256x258_d2 : Shape.Concatenates [S16x256x256, S16x256x1, S16x256x1] S16x256x258 2
  bcast_S_S16x1x256 : S_.BroadcastsInDim S16x1x256 (![] : Fin 0 → Fin S16x1x256.rank)
  bcast_S_S16x1x1 : S_.BroadcastsInDim S16x1x1 (![] : Fin 0 → Fin S16x1x1.rank)
  bcast_S16x1_S16x1x1_0_1 : S16x1.BroadcastsInDim S16x1x1 (![0, 1] : Fin 2 → Fin S16x1x1.rank)
  concatenates_S16x1x256_S16x1x1_S16x1x1_S16x1x258_d2 : Shape.Concatenates [S16x1x256, S16x1x1, S16x1x1] S16x1x258 2
  concatenates_S16x256x258_S16x1x258_S16x257x258_d1 : Shape.Concatenates [S16x256x258, S16x1x258] S16x257x258 1
  bcast_S_S16x257x258 : S_.BroadcastsInDim S16x257x258 (![] : Fin 0 → Fin S16x257x258.rank)
  reducesTo_S16x257x258_S_d0_1_2 : S16x257x258.ReducesTo [0, 1, 2] S_
  sliceFits_S16x257x258_S16x1x258 : S16x257x258.Slices (fun _ => 0) S16x1x258
  sliceFits_S16x1x258_S16x1x1 : S16x1x258.Slices (fun _ => 0) S16x1x1
  bcast_S16x1x1_S16x1x258_0_1_2 : S16x1x1.BroadcastsInDim S16x1x258 (![0, 1, 2] : Fin 3 → Fin S16x1x258.rank)
  sliceFits_S16x257x258_S16x257x1 : S16x257x258.Slices (fun _ => 0) S16x257x1
  bcast_S257_S1x257x1_1 : S257.BroadcastsInDim S1x257x1 (![1] : Fin 1 → Fin S1x257x1.rank)
  bcast_S_S1x257x1 : S_.BroadcastsInDim S1x257x1 (![] : Fin 0 → Fin S1x257x1.rank)
  bcast_S16x257x1_S16x257x258_0_1_2 : S16x257x1.BroadcastsInDim S16x257x258 (![0, 1, 2] : Fin 3 → Fin S16x257x258.rank)
  bcast_S16x1x258_S16x257x258_0_1_2 : S16x1x258.BroadcastsInDim S16x257x258 (![0, 1, 2] : Fin 3 → Fin S16x257x258.rank)
  bcast_S1x257x1_S16x257x258_0_1_2 : S1x257x1.BroadcastsInDim S16x257x258 (![0, 1, 2] : Fin 3 → Fin S16x257x258.rank)
  reducesTo_S16x1x1_S_d0_1_2 : S16x1x1.ReducesTo [0, 1, 2] S_
  dot_S4096x128_S128x1_S4096x1_1_0_0_1_n_n_wf : DotDims.WF S4096x128 S128x1 S4096x1 [1] [0] [0] [1] [] []
  gather_S4_S4096x1_S4096_n_0_n_n_0_1_1_wf : GatherDims.WF S4 S4096x1 S4096 [] [0] [] [0] [] 1 ![1]

variable [Facts]

def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def gather_S4_S4096x1_S4096_n_0_n_n_0_1_1 : GatherDims S4 S4096x1 S4096 where
  offsetDims := []
  collapsedSliceDims := [0]
  operandBatchingDims := []
  startIndicesBatchingDims := []
  startIndexMap := [0]
  indexVectorDim := 1
  sliceSizes := ![1]
  wf := gather_S4_S4096x1_S4096_n_0_n_n_0_1_1_wf
def fn_where {F : FTy → Type} [FloatOps F] (arg0 : IVec S256x256 1) (arg1 : FVec F S16x256x256 .f32) (arg2 : FVec F S_ .f32) : FVec F S16x256x256 .f32 :=
  let v0 : FVec F S_ .f32 := id arg2
  let v1 : IVec S16x256x256 1 := broadcastInDim S16x256x256 ![1, 2] bcast_S256x256_S16x256x256_1_2 arg0
  let v2 : FVec F S16x256x256 .f32 := broadcastInDim S16x256x256 ![] bcast_S_S16x256x256 v0
  let v3 : FVec F S16x256x256 .f32 := select v1 arg1 v2
  v3

def fn_where_0 {F : FTy → Type} [FloatOps F] (arg0 : IVec S256x256 1) (arg1 : FVec F S16x256x1 .f32) (arg2 : FVec F S_ .f32) : FVec F S16x256x256 .f32 :=
  let v0 : FVec F S_ .f32 := id arg2
  let v1 : IVec S16x256x256 1 := broadcastInDim S16x256x256 ![1, 2] bcast_S256x256_S16x256x256_1_2 arg0
  let v2 : FVec F S16x256x256 .f32 := broadcastInDim S16x256x256 ![0, 1, 2] bcast_S16x256x1_S16x256x256_0_1_2 arg1
  let v3 : FVec F S16x256x256 .f32 := broadcastInDim S16x256x256 ![] bcast_S_S16x256x256 v0
  let v4 : FVec F S16x256x256 .f32 := select v1 v2 v3
  v4

def fn_where_8 {F : FTy → Type} [FloatOps F] (arg0 : IVec S1x257x1 1) (arg1 : FVec F S16x1x258 .f32) (arg2 : FVec F S16x257x258 .f32) : FVec F S16x257x258 .f32 :=
  let v0 : IVec S16x257x258 1 := broadcastInDim S16x257x258 ![0, 1, 2] bcast_S1x257x1_S16x257x258_0_1_2 arg0
  let v1 : FVec F S16x257x258 .f32 := broadcastInDim S16x257x258 ![0, 1, 2] bcast_S16x1x258_S16x257x258_0_1_2 arg1
  let v2 : FVec F S16x257x258 .f32 := select v0 v1 arg2
  v2

def fn_pivoted_part2 {F : FTy → Type} [FloatOps F] (arg0 : IVec S_ 32) (arg2 : IVec S_ 1) (v3 : FVec F S16x1x258 .f32) (v4 : IVec S_ 32) (v27 : FVec F S16x257x258 .f32) (v28 : IVec S_ 1) (c_17 : IVec S_ 32) : IVec S_ 32 × FVec F S16x257x258 .f32 × IVec S_ 1 :=
  let v29 : IVec S_ 32 := addi arg0 c_17
  let v30 : IVec S_ 32 := select v28 v29 arg0
  let c_18 : IVec S_ 32 := constantI S_ 32 0#32
  let c_19 : IVec S_ 32 := constantI S_ 32 0#32
  let v31 : FVec F S16x1x1 .f32 := (fun x i => Host.dynamicSlice S16x1x1 x (fun k => (i k (Shape.Idx.first h_S_)).toInt) sliceFits_S16x1x258_S16x1x1) v3 (![c_18, c_19, v30] : Fin 3 → IVec S_ 32)
  let cst : FVec F S_ .f32 := constant S_ .f32 0x00000000#32
  let v32 : FVec F S16x1x1 .f32 := broadcastInDim S16x1x1 ![] bcast_S_S16x1x1 cst
  let v33 : IVec S16x1x1 1 := cmpf .une v31 v32
  let c_20 : IVec S_ 1 := constantI S_ 1 1#1
  let v34 : IVec S_ 1 := (fun x v => Host.reduce IntOp.andi x v reducesTo_S16x1x1_S_d0_1_2 h_S_) v33 c_20
  let v35 : IVec S_ 1 := andi arg2 v34
  (v4, v27, v35)

def fn_pivoted_part1 {F : FTy → Type} [FloatOps F] (arg0 : IVec S_ 32) (arg1 : FVec F S16x257x258 .f32) (arg2 : IVec S_ 1) (v3 : FVec F S16x1x258 .f32) (v4 : IVec S_ 32) (v8 : FVec F S16x1x258 .f32) (v11 : IVec S_ 32) (c_10 : IVec S_ 32) : IVec S_ 32 × FVec F S16x257x258 .f32 × IVec S_ 1 :=
  let c_11 : IVec S_ 32 := constantI S_ 32 0#32
  let v12 : FVec F S16x1x1 .f32 := (fun x i => Host.dynamicSlice S16x1x1 x (fun k => (i k (Shape.Idx.first h_S_)).toInt) sliceFits_S16x1x258_S16x1x1) v8 (![c_10, c_11, v11] : Fin 3 → IVec S_ 32)
  let v13 : FVec F S16x1x258 .f32 := broadcastInDim S16x1x258 ![0, 1, 2] bcast_S16x1x1_S16x1x258_0_1_2 v12
  let v14 : FVec F S16x1x258 .f32 := Host.divf v8 v13
  let c_12 : IVec S_ 32 := constantI S_ 32 0#32
  let v15 : IVec S_ 1 := cmpi .slt arg0 c_12
  let c_13 : IVec S_ 32 := constantI S_ 32 258#32
  let v16 : IVec S_ 32 := addi arg0 c_13
  let v17 : IVec S_ 32 := select v15 v16 arg0
  let c_14 : IVec S_ 32 := constantI S_ 32 0#32
  let c_15 : IVec S_ 32 := constantI S_ 32 0#32
  let v18 : FVec F S16x257x1 .f32 := (fun x i => Host.dynamicSlice S16x257x1 x (fun k => (i k (Shape.Idx.first h_S_)).toInt) sliceFits_S16x257x258_S16x257x1) arg1 (![c_14, c_15, v17] : Fin 3 → IVec S_ 32)
  let v19 : IVec S257 32 := iotaInDim S257 32 0
  let v20 : IVec S1x257x1 32 := broadcastInDim S1x257x1 ![1] bcast_S257_S1x257x1_1 v19
  let v21 : IVec S1x257x1 32 := broadcastInDim S1x257x1 ![] bcast_S_S1x257x1 arg0
  let v22 : IVec S1x257x1 1 := cmpi .eq v20 v21
  let v23 : FVec F S16x257x258 .f32 := broadcastInDim S16x257x258 ![0, 1, 2] bcast_S16x257x1_S16x257x258_0_1_2 v18
  let v24 : FVec F S16x257x258 .f32 := broadcastInDim S16x257x258 ![0, 1, 2] bcast_S16x1x258_S16x257x258_0_1_2 v14
  let v25 : FVec F S16x257x258 .f32 := mulf v23 v24
  let v26 : FVec F S16x257x258 .f32 := subf arg1 v25
  let v27 : FVec F S16x257x258 .f32 := fn_where_8 (F := F) v22 v14 v26
  let c_16 : IVec S_ 32 := constantI S_ 32 0#32
  let v28 : IVec S_ 1 := cmpi .slt arg0 c_16
  let c_17 : IVec S_ 32 := constantI S_ 32 258#32
  fn_pivoted_part2 (F := F) arg0 arg2 v3 v4 v27 v28 c_17

def fn_pivoted {F : FTy → Type} [FloatOps F] (arg0 : IVec S_ 32) (arg1 : FVec F S16x257x258 .f32) (arg2 : IVec S_ 1) : IVec S_ 32 × FVec F S16x257x258 .f32 × IVec S_ 1 :=
  let c : IVec S_ 32 := constantI S_ 32 0#32
  let v0 : IVec S_ 1 := cmpi .slt arg0 c
  let c_0 : IVec S_ 32 := constantI S_ 32 257#32
  let v1 : IVec S_ 32 := addi arg0 c_0
  let v2 : IVec S_ 32 := select v0 v1 arg0
  let c_1 : IVec S_ 32 := constantI S_ 32 0#32
  let c_2 : IVec S_ 32 := constantI S_ 32 0#32
  let v3 : FVec F S16x1x258 .f32 := (fun x i => Host.dynamicSlice S16x1x258 x (fun k => (i k (Shape.Idx.first h_S_)).toInt) sliceFits_S16x257x258_S16x1x258) arg1 (![c_1, v2, c_2] : Fin 3 → IVec S_ 32)
  let c_3 : IVec S_ 32 := constantI S_ 32 1#32
  let v4 : IVec S_ 32 := addi arg0 c_3
  let c_4 : IVec S_ 32 := constantI S_ 32 0#32
  let v5 : IVec S_ 1 := cmpi .slt arg0 c_4
  let c_5 : IVec S_ 32 := constantI S_ 32 257#32
  let v6 : IVec S_ 32 := addi arg0 c_5
  let v7 : IVec S_ 32 := select v5 v6 arg0
  let c_6 : IVec S_ 32 := constantI S_ 32 0#32
  let c_7 : IVec S_ 32 := constantI S_ 32 0#32
  let v8 : FVec F S16x1x258 .f32 := (fun x i => Host.dynamicSlice S16x1x258 x (fun k => (i k (Shape.Idx.first h_S_)).toInt) sliceFits_S16x257x258_S16x1x258) arg1 (![c_6, v7, c_7] : Fin 3 → IVec S_ 32)
  let c_8 : IVec S_ 32 := constantI S_ 32 0#32
  let v9 : IVec S_ 1 := cmpi .slt arg0 c_8
  let c_9 : IVec S_ 32 := constantI S_ 32 258#32
  let v10 : IVec S_ 32 := addi arg0 c_9
  let v11 : IVec S_ 32 := select v9 v10 arg0
  let c_10 : IVec S_ 32 := constantI S_ 32 0#32
  fn_pivoted_part1 (F := F) arg0 arg1 arg2 v3 v4 v8 v11 c_10

def fn_lambda_7 {F : FTy → Type} [FloatOps F] (arg0 : IVec S_ 32) (arg1 : FVec F S16x257x258 .f32) (arg2 : IVec S_ 1) : IVec S_ 32 × FVec F S16x257x258 .f32 × IVec S_ 1 :=
  let v0_0 : IVec S_ 32 := (fn_pivoted (F := F) arg0 arg1 arg2).1
  let v0_1 : FVec F S16x257x258 .f32 := (fn_pivoted (F := F) arg0 arg1 arg2).2.1
  let v0_2 : IVec S_ 1 := (fn_pivoted (F := F) arg0 arg1 arg2).2.2
  let v1_0 : IVec S_ 32 := (fn_pivoted (F := F) v0_0 v0_1 v0_2).1
  let v1_1 : FVec F S16x257x258 .f32 := (fn_pivoted (F := F) v0_0 v0_1 v0_2).2.1
  let v1_2 : IVec S_ 1 := (fn_pivoted (F := F) v0_0 v0_1 v0_2).2.2
  (v1_0, v1_1, v1_2)

def fn_lambda_6 {F : FTy → Type} [FloatOps F] (arg0 : IVec S_ 32) (arg1 : FVec F S16x257x258 .f32) (arg2 : IVec S_ 1) : IVec S_ 32 × FVec F S16x257x258 .f32 × IVec S_ 1 :=
  let v0_0 : IVec S_ 32 := (fn_lambda_7 (F := F) arg0 arg1 arg2).1
  let v0_1 : FVec F S16x257x258 .f32 := (fn_lambda_7 (F := F) arg0 arg1 arg2).2.1
  let v0_2 : IVec S_ 1 := (fn_lambda_7 (F := F) arg0 arg1 arg2).2.2
  let v1_0 : IVec S_ 32 := (fn_lambda_7 (F := F) v0_0 v0_1 v0_2).1
  let v1_1 : FVec F S16x257x258 .f32 := (fn_lambda_7 (F := F) v0_0 v0_1 v0_2).2.1
  let v1_2 : IVec S_ 1 := (fn_lambda_7 (F := F) v0_0 v0_1 v0_2).2.2
  (v1_0, v1_1, v1_2)

def fn_lambda_5 {F : FTy → Type} [FloatOps F] (arg0 : IVec S_ 32) (arg1 : FVec F S16x257x258 .f32) (arg2 : IVec S_ 1) : IVec S_ 32 × FVec F S16x257x258 .f32 × IVec S_ 1 :=
  let v0_0 : IVec S_ 32 := (fn_lambda_6 (F := F) arg0 arg1 arg2).1
  let v0_1 : FVec F S16x257x258 .f32 := (fn_lambda_6 (F := F) arg0 arg1 arg2).2.1
  let v0_2 : IVec S_ 1 := (fn_lambda_6 (F := F) arg0 arg1 arg2).2.2
  let v1_0 : IVec S_ 32 := (fn_lambda_6 (F := F) v0_0 v0_1 v0_2).1
  let v1_1 : FVec F S16x257x258 .f32 := (fn_lambda_6 (F := F) v0_0 v0_1 v0_2).2.1
  let v1_2 : IVec S_ 1 := (fn_lambda_6 (F := F) v0_0 v0_1 v0_2).2.2
  (v1_0, v1_1, v1_2)

def fn_lambda_4 {F : FTy → Type} [FloatOps F] (arg0 : IVec S_ 32) (arg1 : FVec F S16x257x258 .f32) (arg2 : IVec S_ 1) : IVec S_ 32 × FVec F S16x257x258 .f32 × IVec S_ 1 :=
  let v0_0 : IVec S_ 32 := (fn_lambda_5 (F := F) arg0 arg1 arg2).1
  let v0_1 : FVec F S16x257x258 .f32 := (fn_lambda_5 (F := F) arg0 arg1 arg2).2.1
  let v0_2 : IVec S_ 1 := (fn_lambda_5 (F := F) arg0 arg1 arg2).2.2
  let v1_0 : IVec S_ 32 := (fn_lambda_5 (F := F) v0_0 v0_1 v0_2).1
  let v1_1 : FVec F S16x257x258 .f32 := (fn_lambda_5 (F := F) v0_0 v0_1 v0_2).2.1
  let v1_2 : IVec S_ 1 := (fn_lambda_5 (F := F) v0_0 v0_1 v0_2).2.2
  (v1_0, v1_1, v1_2)

def fn_lambda_3 {F : FTy → Type} [FloatOps F] (arg0 : IVec S_ 32) (arg1 : FVec F S16x257x258 .f32) (arg2 : IVec S_ 1) : IVec S_ 32 × FVec F S16x257x258 .f32 × IVec S_ 1 :=
  let v0_0 : IVec S_ 32 := (fn_lambda_4 (F := F) arg0 arg1 arg2).1
  let v0_1 : FVec F S16x257x258 .f32 := (fn_lambda_4 (F := F) arg0 arg1 arg2).2.1
  let v0_2 : IVec S_ 1 := (fn_lambda_4 (F := F) arg0 arg1 arg2).2.2
  let v1_0 : IVec S_ 32 := (fn_lambda_4 (F := F) v0_0 v0_1 v0_2).1
  let v1_1 : FVec F S16x257x258 .f32 := (fn_lambda_4 (F := F) v0_0 v0_1 v0_2).2.1
  let v1_2 : IVec S_ 1 := (fn_lambda_4 (F := F) v0_0 v0_1 v0_2).2.2
  (v1_0, v1_1, v1_2)

def fn_lambda_2 {F : FTy → Type} [FloatOps F] (arg0 : IVec S_ 32) (arg1 : FVec F S16x257x258 .f32) (arg2 : IVec S_ 1) : IVec S_ 32 × FVec F S16x257x258 .f32 × IVec S_ 1 :=
  let v0_0 : IVec S_ 32 := (fn_lambda_3 (F := F) arg0 arg1 arg2).1
  let v0_1 : FVec F S16x257x258 .f32 := (fn_lambda_3 (F := F) arg0 arg1 arg2).2.1
  let v0_2 : IVec S_ 1 := (fn_lambda_3 (F := F) arg0 arg1 arg2).2.2
  let v1_0 : IVec S_ 32 := (fn_lambda_3 (F := F) v0_0 v0_1 v0_2).1
  let v1_1 : FVec F S16x257x258 .f32 := (fn_lambda_3 (F := F) v0_0 v0_1 v0_2).2.1
  let v1_2 : IVec S_ 1 := (fn_lambda_3 (F := F) v0_0 v0_1 v0_2).2.2
  (v1_0, v1_1, v1_2)

def fn_lambda_1 {F : FTy → Type} [FloatOps F] (arg0 : IVec S_ 32) (arg1 : FVec F S16x257x258 .f32) (arg2 : IVec S_ 1) : IVec S_ 32 × FVec F S16x257x258 .f32 × IVec S_ 1 :=
  let v0_0 : IVec S_ 32 := (fn_lambda_2 (F := F) arg0 arg1 arg2).1
  let v0_1 : FVec F S16x257x258 .f32 := (fn_lambda_2 (F := F) arg0 arg1 arg2).2.1
  let v0_2 : IVec S_ 1 := (fn_lambda_2 (F := F) arg0 arg1 arg2).2.2
  let v1_0 : IVec S_ 32 := (fn_lambda_2 (F := F) v0_0 v0_1 v0_2).1
  let v1_1 : FVec F S16x257x258 .f32 := (fn_lambda_2 (F := F) v0_0 v0_1 v0_2).2.1
  let v1_2 : IVec S_ 1 := (fn_lambda_2 (F := F) v0_0 v0_1 v0_2).2.2
  (v1_0, v1_1, v1_2)

def fn_lambda {F : FTy → Type} [FloatOps F] (arg0 : IVec S_ 32) (arg1 : FVec F S16x257x258 .f32) (arg2 : IVec S_ 1) : IVec S_ 32 × FVec F S16x257x258 .f32 × IVec S_ 1 :=
  let v0_0 : IVec S_ 32 := (fn_lambda_1 (F := F) arg0 arg1 arg2).1
  let v0_1 : FVec F S16x257x258 .f32 := (fn_lambda_1 (F := F) arg0 arg1 arg2).2.1
  let v0_2 : IVec S_ 1 := (fn_lambda_1 (F := F) arg0 arg1 arg2).2.2
  let v1_0 : IVec S_ 32 := (fn_lambda_1 (F := F) v0_0 v0_1 v0_2).1
  let v1_1 : FVec F S16x257x258 .f32 := (fn_lambda_1 (F := F) v0_0 v0_1 v0_2).2.1
  let v1_2 : IVec S_ 1 := (fn_lambda_1 (F := F) v0_0 v0_1 v0_2).2.2
  (v1_0, v1_1, v1_2)

def fn_part7 {F : FTy → Type} [FloatOps F] (main_v94 : IVec S_ 1) (main_v95_0 : IVec S_ 32) (main_v95_2 : IVec S_ 1) (main_v99 : FVec F S16x1x258 .f32) (main_v124 : IVec S_ 1) : IVec S_ 1 :=
  let main_c_39 : IVec S_ 32 := constantI S_ 32 258#32
  let main_v125 : IVec S_ 32 := addi main_v95_0 main_c_39
  let main_v126 : IVec S_ 32 := select main_v124 main_v125 main_v95_0
  let main_c_40 : IVec S_ 32 := constantI S_ 32 0#32
  let main_c_41 : IVec S_ 32 := constantI S_ 32 0#32
  let main_v127 : FVec F S16x1x1 .f32 := (fun x i => Host.dynamicSlice S16x1x1 x (fun k => (i k (Shape.Idx.first h_S_)).toInt) sliceFits_S16x1x258_S16x1x1) main_v99 (![main_c_40, main_c_41, main_v126] : Fin 3 → IVec S_ 32)
  let main_cst_42 : FVec F S_ .f32 := constant S_ .f32 0x00000000#32
  let main_v128 : FVec F S16x1x1 .f32 := broadcastInDim S16x1x1 ![] bcast_S_S16x1x1 main_cst_42
  let main_v129 : IVec S16x1x1 1 := cmpf .une main_v127 main_v128
  let main_c_43 : IVec S_ 1 := constantI S_ 1 1#1
  let main_v130 : IVec S_ 1 := (fun x v => Host.reduce IntOp.andi x v reducesTo_S16x1x1_S_d0_1_2 h_S_) main_v129 main_c_43
  let main_v131 : IVec S_ 1 := andi main_v95_2 main_v130
  let main_v132 : IVec S_ 1 := andi main_v94 main_v131
  main_v132

def fn_part6 {F : FTy → Type} [FloatOps F] (main_v94 : IVec S_ 1) (main_v95_0 : IVec S_ 32) (main_v95_1 : FVec F S16x257x258 .f32) (main_v95_2 : IVec S_ 1) (main_v99 : FVec F S16x1x258 .f32) (main_v104 : FVec F S16x1x258 .f32) (main_v107 : IVec S_ 32) : IVec S_ 1 :=
  let main_c_32 : IVec S_ 32 := constantI S_ 32 0#32
  let main_c_33 : IVec S_ 32 := constantI S_ 32 0#32
  let main_v108 : FVec F S16x1x1 .f32 := (fun x i => Host.dynamicSlice S16x1x1 x (fun k => (i k (Shape.Idx.first h_S_)).toInt) sliceFits_S16x1x258_S16x1x1) main_v104 (![main_c_32, main_c_33, main_v107] : Fin 3 → IVec S_ 32)
  let main_v109 : FVec F S16x1x258 .f32 := broadcastInDim S16x1x258 ![0, 1, 2] bcast_S16x1x1_S16x1x258_0_1_2 main_v108
  let main_v110 : FVec F S16x1x258 .f32 := Host.divf main_v104 main_v109
  let main_c_34 : IVec S_ 32 := constantI S_ 32 0#32
  let main_v111 : IVec S_ 1 := cmpi .slt main_v95_0 main_c_34
  let main_c_35 : IVec S_ 32 := constantI S_ 32 258#32
  let main_v112 : IVec S_ 32 := addi main_v95_0 main_c_35
  let main_v113 : IVec S_ 32 := select main_v111 main_v112 main_v95_0
  let main_c_36 : IVec S_ 32 := constantI S_ 32 0#32
  let main_c_37 : IVec S_ 32 := constantI S_ 32 0#32
  let main_v114 : FVec F S16x257x1 .f32 := (fun x i => Host.dynamicSlice S16x257x1 x (fun k => (i k (Shape.Idx.first h_S_)).toInt) sliceFits_S16x257x258_S16x257x1) main_v95_1 (![main_c_36, main_c_37, main_v113] : Fin 3 → IVec S_ 32)
  let main_v115 : IVec S257 32 := iotaInDim S257 32 0
  let main_v116 : IVec S1x257x1 32 := broadcastInDim S1x257x1 ![1] bcast_S257_S1x257x1_1 main_v115
  let main_v117 : IVec S1x257x1 32 := broadcastInDim S1x257x1 ![] bcast_S_S1x257x1 main_v95_0
  let main_v118 : IVec S1x257x1 1 := cmpi .eq main_v116 main_v117
  let main_v119 : FVec F S16x257x258 .f32 := broadcastInDim S16x257x258 ![0, 1, 2] bcast_S16x257x1_S16x257x258_0_1_2 main_v114
  let main_v120 : FVec F S16x257x258 .f32 := broadcastInDim S16x257x258 ![0, 1, 2] bcast_S16x1x258_S16x257x258_0_1_2 main_v110
  let main_v121 : FVec F S16x257x258 .f32 := mulf main_v119 main_v120
  let main_v122 : FVec F S16x257x258 .f32 := subf main_v95_1 main_v121
  let main_v123 : FVec F S16x257x258 .f32 := fn_where_8 (F := F) main_v118 main_v110 main_v122
  let main_c_38 : IVec S_ 32 := constantI S_ 32 0#32
  let main_v124 : IVec S_ 1 := cmpi .slt main_v95_0 main_c_38
  fn_part7 (F := F) main_v94 main_v95_0 main_v95_2 main_v99 main_v124

def fn_part5 {F : FTy → Type} [FloatOps F] (main_v88 : FVec F S16x257x258 .f32) (main_v94 : IVec S_ 1) (main_c_19 : IVec S_ 32) (main_c_20 : IVec S_ 1) (main_v95_0 : IVec S_ 32) (main_v95_1 : FVec F S16x257x258 .f32) : IVec S_ 1 :=
  let main_v95_2 : IVec S_ 1 := (fn_lambda (F := F) main_c_19 main_v88 main_c_20).2.2
  let main_c_21 : IVec S_ 32 := constantI S_ 32 0#32
  let main_v96 : IVec S_ 1 := cmpi .slt main_v95_0 main_c_21
  let main_c_22 : IVec S_ 32 := constantI S_ 32 257#32
  let main_v97 : IVec S_ 32 := addi main_v95_0 main_c_22
  let main_v98 : IVec S_ 32 := select main_v96 main_v97 main_v95_0
  let main_c_23 : IVec S_ 32 := constantI S_ 32 0#32
  let main_c_24 : IVec S_ 32 := constantI S_ 32 0#32
  let main_v99 : FVec F S16x1x258 .f32 := (fun x i => Host.dynamicSlice S16x1x258 x (fun k => (i k (Shape.Idx.first h_S_)).toInt) sliceFits_S16x257x258_S16x1x258) main_v95_1 (![main_c_23, main_v98, main_c_24] : Fin 3 → IVec S_ 32)
  let main_c_25 : IVec S_ 32 := constantI S_ 32 1#32
  let main_v100 : IVec S_ 32 := addi main_v95_0 main_c_25
  let main_c_26 : IVec S_ 32 := constantI S_ 32 0#32
  let main_v101 : IVec S_ 1 := cmpi .slt main_v95_0 main_c_26
  let main_c_27 : IVec S_ 32 := constantI S_ 32 257#32
  let main_v102 : IVec S_ 32 := addi main_v95_0 main_c_27
  let main_v103 : IVec S_ 32 := select main_v101 main_v102 main_v95_0
  let main_c_28 : IVec S_ 32 := constantI S_ 32 0#32
  let main_c_29 : IVec S_ 32 := constantI S_ 32 0#32
  let main_v104 : FVec F S16x1x258 .f32 := (fun x i => Host.dynamicSlice S16x1x258 x (fun k => (i k (Shape.Idx.first h_S_)).toInt) sliceFits_S16x257x258_S16x1x258) main_v95_1 (![main_c_28, main_v103, main_c_29] : Fin 3 → IVec S_ 32)
  let main_c_30 : IVec S_ 32 := constantI S_ 32 0#32
  let main_v105 : IVec S_ 1 := cmpi .slt main_v95_0 main_c_30
  let main_c_31 : IVec S_ 32 := constantI S_ 32 258#32
  let main_v106 : IVec S_ 32 := addi main_v95_0 main_c_31
  let main_v107 : IVec S_ 32 := select main_v105 main_v106 main_v95_0
  fn_part6 (F := F) main_v94 main_v95_0 main_v95_1 main_v95_2 main_v99 main_v104 main_v107

def fn_part4 {F : FTy → Type} [FloatOps F] (main_arg5 : FVec F S16x1 .f32) (main_v5 : IVec S_ 1) (main_v11 : IVec S_ 1) (main_v13 : FVec F S16x256 .f32) (main_v79 : FVec F S16x256x256 .f32) : IVec S_ 1 :=
  let main_cst_14 : FVec F S_ .f32 := constant S_ .f32 0x3F800000#32
  let main_v80 : FVec F S16x256x1 .f32 := broadcastInDim S16x256x1 ![] bcast_S_S16x256x1 main_cst_14
  let main_v81 : FVec F S16x256x1 .f32 := broadcastInDim S16x256x1 ![0, 1] bcast_S16x256_S16x256x1_0_1 main_v13
  let main_v82 : FVec F S16x256x1 .f32 := Host.negf main_v81
  let main_v83 : FVec F S16x256x258 .f32 := concatenate S16x256x258 2 [⟨S16x256x256, main_v79⟩, ⟨S16x256x1, main_v80⟩, ⟨S16x256x1, main_v82⟩] concatenates_S16x256x256_S16x256x1_S16x256x1_S16x256x258_d2
  let main_cst_15 : FVec F S_ .f32 := constant S_ .f32 0x3F800000#32
  let main_v84 : FVec F S16x1x256 .f32 := broadcastInDim S16x1x256 ![] bcast_S_S16x1x256 main_cst_15
  let main_cst_16 : FVec F S_ .f32 := constant S_ .f32 0x00000000#32
  let main_v85 : FVec F S16x1x1 .f32 := broadcastInDim S16x1x1 ![] bcast_S_S16x1x1 main_cst_16
  let main_v86 : FVec F S16x1x1 .f32 := broadcastInDim S16x1x1 ![0, 1] bcast_S16x1_S16x1x1_0_1 main_arg5
  let main_v87 : FVec F S16x1x258 .f32 := concatenate S16x1x258 2 [⟨S16x1x256, main_v84⟩, ⟨S16x1x1, main_v85⟩, ⟨S16x1x1, main_v86⟩] concatenates_S16x1x256_S16x1x1_S16x1x1_S16x1x258_d2
  let main_v88 : FVec F S16x257x258 .f32 := (fun a b => concatenate S16x257x258 1 [⟨S16x256x258, a⟩, ⟨S16x1x258, b⟩] concatenates_S16x256x258_S16x1x258_S16x257x258_d1) main_v83 main_v87
  let main_v89 : IVec S_ 1 := andi main_v5 main_v11
  let main_v90 : FVec F S16x257x258 .f32 := Host.absf main_v88
  let main_cst_17 : FVec F S_ .f32 := constant S_ .f32 0x7F800000#32
  let main_v91 : FVec F S16x257x258 .f32 := broadcastInDim S16x257x258 ![] bcast_S_S16x257x258 main_cst_17
  let main_v92 : IVec S16x257x258 1 := cmpf .olt main_v90 main_v91
  let main_c_18 : IVec S_ 1 := constantI S_ 1 1#1
  let main_v93 : IVec S_ 1 := (fun x v => Host.reduce IntOp.andi x v reducesTo_S16x257x258_S_d0_1_2 h_S_) main_v92 main_c_18
  let main_v94 : IVec S_ 1 := andi main_v89 main_v93
  let main_c_19 : IVec S_ 32 := constantI S_ 32 0#32
  let main_c_20 : IVec S_ 1 := constantI S_ 1 1#1
  let main_v95_0 : IVec S_ 32 := (fn_lambda (F := F) main_c_19 main_v88 main_c_20).1
  let main_v95_1 : FVec F S16x257x258 .f32 := (fn_lambda (F := F) main_c_19 main_v88 main_c_20).2.1
  fn_part5 (F := F) main_v88 main_v94 main_c_19 main_c_20 main_v95_0 main_v95_1

def fn_part3 {F : FTy → Type} [FloatOps F] (main_arg5 : FVec F S16x1 .f32) (main_v5 : IVec S_ 1) (main_v11 : IVec S_ 1) (main_v13 : FVec F S16x256 .f32) (main_v22 : FVec F S16x256 .f32) (main_v30 : FVec F S16x256 .f32) (main_v56 : FVec F S16x256x256 .f32) (main_v58 : IVec S256x1 32) (main_v59 : IVec S1x256 32) : IVec S_ 1 :=
  let main_v60 : IVec S256x256 32 := broadcastInDim S256x256 ![0, 1] bcast_S256x1_S256x256_0_1 main_v58
  let main_v61 : IVec S256x256 32 := broadcastInDim S256x256 ![0, 1] bcast_S1x256_S256x256_0_1 main_v59
  let main_v62 : IVec S256x256 1 := cmpi .slt main_v60 main_v61
  let main_cst_10 : FVec F S_ .f32 := constant S_ .f32 0x00000000#32
  let main_v63 : FVec F S16x256x256 .f32 := fn_where (F := F) main_v62 main_v56 main_cst_10
  let main_cst_11 : FVec F S_ .f32 := constant S_ .f32 0x3FE2DFC5#32
  let main_v64 : FVec F S16x256 .f32 := broadcastInDim S16x256 ![] bcast_S_S16x256 main_cst_11
  let main_v65 : FVec F S16x256 .f32 := mulf main_v64 main_v30
  let main_cst_12 : FVec F S_ .f32 := constant S_ .f32 0x416664F3#32
  let main_v66 : FVec F S16x256 .f32 := broadcastInDim S16x256 ![] bcast_S_S16x256 main_cst_12
  let main_v67 : FVec F S16x256 .f32 := Host.divf main_v66 main_v65
  let main_v68 : FVec F S16x256 .f32 := addf main_v22 main_v67
  let main_v69 : IVec S256 32 := iotaInDim S256 32 0
  let main_v70 : FVec F S16x256x256 .f32 := (transpose S16x256x256 [0, 2, 1] · transposes_S16x256x256_S16x256x256_0_2_1) main_v63
  let main_v71 : FVec F S16x256x256 .f32 := addf main_v63 main_v70
  let main_v72 : IVec S256x1 32 := broadcastInDim S256x1 ![0] bcast_S256_S256x1_0 main_v69
  let main_v73 : IVec S1x256 32 := broadcastInDim S1x256 ![1] bcast_S256_S1x256_1 main_v69
  let main_v74 : IVec S256x256 32 := broadcastInDim S256x256 ![0, 1] bcast_S256x1_S256x256_0_1 main_v72
  let main_v75 : IVec S256x256 32 := broadcastInDim S256x256 ![0, 1] bcast_S1x256_S256x256_0_1 main_v73
  let main_v76 : IVec S256x256 1 := cmpi .eq main_v74 main_v75
  let main_v77 : FVec F S16x256x1 .f32 := broadcastInDim S16x256x1 ![0, 1] bcast_S16x256_S16x256x1_0_1 main_v68
  let main_cst_13 : FVec F S_ .f32 := constant S_ .f32 0x00000000#32
  let main_v78 : FVec F S16x256x256 .f32 := fn_where_0 (F := F) main_v76 main_v77 main_cst_13
  let main_v79 : FVec F S16x256x256 .f32 := addf main_v71 main_v78
  fn_part4 (F := F) main_arg5 main_v5 main_v11 main_v13 main_v79

def fn_part2 {F : FTy → Type} [FloatOps F] (main_arg5 : FVec F S16x1 .f32) (main_v5 : IVec S_ 1) (main_v11 : IVec S_ 1) (main_v13 : FVec F S16x256 .f32) (main_v22 : FVec F S16x256 .f32) (main_v30 : FVec F S16x256 .f32) (main_v38 : FVec F S16x256x256x3 .f32) : IVec S_ 1 :=
  let main_v39 : FVec F S16x256x256x3 .f32 := mulf main_v38 main_v38
  let main_cst_7 : FVec F S_ .f32 := constant S_ .f32 0x00000000#32
  let main_v40 : FVec F S16x256x256 .f32 := (fun x v => Host.reduceAdd x v reducesTo_S16x256x256x3_S16x256x256_d3 h_S_) main_v39 main_cst_7
  let main_v41 : FVec F S16x256x256 .f32 := Host.sqrt main_v40
  let main_v42 : FVec F S16x256 .f32 := mulf main_v30 main_v30
  let main_v43 : FVec F S16x256x1 .f32 := broadcastInDim S16x256x1 ![0, 1] bcast_S16x256_S16x256x1_0_1 main_v42
  let main_v44 : FVec F S16x256 .f32 := mulf main_v30 main_v30
  let main_v45 : FVec F S16x1x256 .f32 := broadcastInDim S16x1x256 ![0, 2] bcast_S16x256_S16x1x256_0_2 main_v44
  let main_v46 : FVec F S16x256x256 .f32 := broadcastInDim S16x256x256 ![0, 1, 2] bcast_S16x256x1_S16x256x256_0_1_2 main_v43
  let main_v47 : FVec F S16x256x256 .f32 := broadcastInDim S16x256x256 ![0, 1, 2] bcast_S16x1x256_S16x256x256_0_1_2 main_v45
  let main_v48 : FVec F S16x256x256 .f32 := addf main_v46 main_v47
  let main_v49 : FVec F S16x256x256 .f32 := Host.sqrt main_v48
  let main_cst_8 : FVec F S_ .f32 := constant S_ .f32 0x3FB504F3#32
  let main_v50 : FVec F S16x256x256 .f32 := broadcastInDim S16x256x256 ![] bcast_S_S16x256x256 main_cst_8
  let main_v51 : FVec F S16x256x256 .f32 := Host.divf main_v41 main_v50
  let main_v52 : FVec F S16x256x256 .f32 := Host.divf main_v51 main_v49
  let main_v53 : FVec F S16x256x256 .f32 := Host.erf main_v52
  let main_cst_9 : FVec F S_ .f32 := constant S_ .f32 0x416664F3#32
  let main_v54 : FVec F S16x256x256 .f32 := broadcastInDim S16x256x256 ![] bcast_S_S16x256x256 main_cst_9
  let main_v55 : FVec F S16x256x256 .f32 := mulf main_v54 main_v53
  let main_v56 : FVec F S16x256x256 .f32 := Host.divf main_v55 main_v41
  let main_v57 : IVec S256 32 := iotaInDim S256 32 0
  let main_v58 : IVec S256x1 32 := broadcastInDim S256x1 ![0] bcast_S256_S256x1_0 main_v57
  let main_v59 : IVec S1x256 32 := broadcastInDim S1x256 ![1] bcast_S256_S1x256_1 main_v57
  fn_part3 (F := F) main_arg5 main_v5 main_v11 main_v13 main_v22 main_v30 main_v56 main_v58 main_v59

def fn_part1 {F : FTy → Type} [FloatOps F] (main_arg1 : FVec F S4096x3 .f32) (main_arg2 : IVec S4096 32) (main_arg5 : FVec F S16x1 .f32) (main_arg8 : FVec F S4 .f32) (main_v5 : IVec S_ 1) (main_v11 : IVec S_ 1) (main_v13 : FVec F S16x256 .f32) (main_v14 : FVec F S4 .f32) (main_v16 : IVec S4096 1) (main_v17 : IVec S4096 32) : IVec S_ 1 :=
  let main_v18 : IVec S4096 32 := addi main_arg2 main_v17
  let main_v19 : IVec S4096 32 := select main_v16 main_v18 main_arg2
  let main_v20 : IVec S4096x1 32 := broadcastInDim S4096x1 ![0] bcast_S4096_S4096x1_0 main_v19
  let main_v21 : FVec F S4096 .f32 := (fun x i => Host.gather gather_S4_S4096x1_S4096_n_0_n_n_0_1_1 x i) main_v14 main_v20
  let main_v22 : FVec F S16x256 .f32 := shapeCast S16x256 main_v21 shapeCasts_S4096_S16x256
  let main_c_5 : IVec S_ 32 := constantI S_ 32 0#32
  let main_v23 : IVec S4096 32 := broadcastInDim S4096 ![] bcast_S_S4096 main_c_5
  let main_v24 : IVec S4096 1 := cmpi .slt main_arg2 main_v23
  let main_c_6 : IVec S_ 32 := constantI S_ 32 4#32
  let main_v25 : IVec S4096 32 := broadcastInDim S4096 ![] bcast_S_S4096 main_c_6
  let main_v26 : IVec S4096 32 := addi main_arg2 main_v25
  let main_v27 : IVec S4096 32 := select main_v24 main_v26 main_arg2
  let main_v28 : IVec S4096x1 32 := broadcastInDim S4096x1 ![0] bcast_S4096_S4096x1_0 main_v27
  let main_v29 : FVec F S4096 .f32 := (fun x i => Host.gather gather_S4_S4096x1_S4096_n_0_n_n_0_1_1 x i) main_arg8 main_v28
  let main_v30 : FVec F S16x256 .f32 := shapeCast S16x256 main_v29 shapeCasts_S4096_S16x256
  let main_v31 : FVec F S16x256x3 .f32 := shapeCast S16x256x3 main_arg1 shapeCasts_S4096x3_S16x256x3
  let main_v32 : FVec F S16x256x1x3 .f32 := broadcastInDim S16x256x1x3 ![0, 1, 3] bcast_S16x256x3_S16x256x1x3_0_1_3 main_v31
  let main_v33 : FVec F S16x1x256x3 .f32 := broadcastInDim S16x1x256x3 ![0, 2, 3] bcast_S16x256x3_S16x1x256x3_0_2_3 main_v31
  let main_v34 : FVec F S16x256x256x3 .f32 := broadcastInDim S16x256x256x3 ![0, 1, 2, 3] bcast_S16x256x1x3_S16x256x256x3_0_1_2_3 main_v32
  let main_v35 : FVec F S16x256x256x3 .f32 := broadcastInDim S16x256x256x3 ![0, 1, 2, 3] bcast_S16x1x256x3_S16x256x256x3_0_1_2_3 main_v33
  let main_v36 : FVec F S16x256x256x3 .f32 := subf main_v34 main_v35
  let main_cst : FVec F S_ .f32 := constant S_ .f32 0x358637BD#32
  let main_v37 : FVec F S16x256x256x3 .f32 := broadcastInDim S16x256x256x3 ![] bcast_S_S16x256x256x3 main_cst
  let main_v38 : FVec F S16x256x256x3 .f32 := addf main_v36 main_v37
  fn_part2 (F := F) main_arg5 main_v5 main_v11 main_v13 main_v22 main_v30 main_v38

def fn {F : FTy → Type} [FloatOps F] (main_arg0 : FVec F S4096x128 .f32) (main_arg1 : FVec F S4096x3 .f32) (main_arg2 : IVec S4096 32) (main_arg3 : IVec S17 32) (main_arg4 : IVec S4096 32) (main_arg5 : FVec F S16x1 .f32) (main_arg6 : FVec F S128x1 .f32) (main_arg7 : FVec F S4 .f32) (main_arg8 : FVec F S4 .f32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 4#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : IVec S16x256 32 := shapeCast S16x256 main_arg4 shapeCasts_S4096_S16x256
  let main_v7 : IVec S16 32 := iotaInDim S16 32 0
  let main_v8 : IVec S16x1 32 := broadcastInDim S16x1 ![0] bcast_S16_S16x1_0 main_v7
  let main_v9 : IVec S16x256 32 := broadcastInDim S16x256 ![0, 1] bcast_S16x1_S16x256_0_1 main_v8
  let main_v10 : IVec S16x256 1 := cmpi .eq main_v6 main_v9
  let main_c_2 : IVec S_ 1 := constantI S_ 1 1#1
  let main_v11 : IVec S_ 1 := (fun x v => Host.reduce IntOp.andi x v reducesTo_S16x256_S_d0_1 h_S_) main_v10 main_c_2
  let main_v12 : FVec F S4096x1 .f32 := (fun l r => Host.dotGeneral dot_S4096x128_S128x1_S4096x1_1_0_0_1_n_n none l r) main_arg0 main_arg6
  let main_v13 : FVec F S16x256 .f32 := shapeCast S16x256 main_v12 shapeCasts_S4096x1_S16x256
  let main_v14 : FVec F S4 .f32 := mulf main_arg7 main_arg7
  let main_c_3 : IVec S_ 32 := constantI S_ 32 0#32
  let main_v15 : IVec S4096 32 := broadcastInDim S4096 ![] bcast_S_S4096 main_c_3
  let main_v16 : IVec S4096 1 := cmpi .slt main_arg2 main_v15
  let main_c_4 : IVec S_ 32 := constantI S_ 32 4#32
  let main_v17 : IVec S4096 32 := broadcastInDim S4096 ![] bcast_S_S4096 main_c_4
  fn_part1 (F := F) main_arg1 main_arg2 main_arg5 main_arg8 main_v5 main_v11 main_v13 main_v14 main_v16 main_v17
-- ==== Kernel.lean ====
abbrev S4096x128 : Shape := ⟨2, ![4096, 128]⟩
abbrev S4096x3 : Shape := ⟨2, ![4096, 3]⟩
abbrev S4096 : Shape := ⟨1, ![4096]⟩
abbrev S17 : Shape := ⟨1, ![17]⟩
abbrev S16x1 : Shape := ⟨2, ![16, 1]⟩
abbrev S128x1 : Shape := ⟨2, ![128, 1]⟩
abbrev S4 : Shape := ⟨1, ![4]⟩
abbrev S16x256x128 : Shape := ⟨3, ![16, 256, 128]⟩
abbrev S4096x1 : Shape := ⟨2, ![4096, 1]⟩
abbrev S16x256 : Shape := ⟨2, ![16, 256]⟩
abbrev S1x16 : Shape := ⟨2, ![1, 16]⟩
abbrev S1x128 : Shape := ⟨2, ![1, 128]⟩
abbrev S16x256x256 : Shape := ⟨3, ![16, 256, 256]⟩
abbrev S16x2x256 : Shape := ⟨3, ![16, 2, 256]⟩
abbrev S16x32x256 : Shape := ⟨3, ![16, 32, 256]⟩
abbrev S1 : Shape := ⟨1, ![1]⟩
abbrev S128 : Shape := ⟨1, ![128]⟩
abbrev S1x1x128 : Shape := ⟨3, ![1, 1, 128]⟩
abbrev S16x256x1 : Shape := ⟨3, ![16, 256, 1]⟩
abbrev S16x1x256 : Shape := ⟨3, ![16, 1, 256]⟩
abbrev S256x256 : Shape := ⟨2, ![256, 256]⟩
abbrev S1x256x256 : Shape := ⟨3, ![1, 256, 256]⟩
abbrev S1x1x256 : Shape := ⟨3, ![1, 1, 256]⟩
abbrev S1x1x16 : Shape := ⟨3, ![1, 1, 16]⟩
abbrev S16x1x1 : Shape := ⟨3, ![16, 1, 1]⟩
abbrev S16x1x16 : Shape := ⟨3, ![16, 1, 16]⟩
abbrev S16x16x1 : Shape := ⟨3, ![16, 16, 1]⟩
abbrev S16x16x256 : Shape := ⟨3, ![16, 16, 256]⟩
abbrev S16x2 : Shape := ⟨2, ![16, 2]⟩
abbrev S16x2x1 : Shape := ⟨3, ![16, 2, 1]⟩
abbrev S16x16x240 : Shape := ⟨3, ![16, 16, 240]⟩
abbrev S16x240x16 : Shape := ⟨3, ![16, 240, 16]⟩
abbrev S16x240x256 : Shape := ⟨3, ![16, 240, 256]⟩
abbrev S16x16x224 : Shape := ⟨3, ![16, 16, 224]⟩
abbrev S16x224x16 : Shape := ⟨3, ![16, 224, 16]⟩
abbrev S16x224x256 : Shape := ⟨3, ![16, 224, 256]⟩
abbrev S16x16x208 : Shape := ⟨3, ![16, 16, 208]⟩
abbrev S16x208x16 : Shape := ⟨3, ![16, 208, 16]⟩
abbrev S16x208x256 : Shape := ⟨3, ![16, 208, 256]⟩
abbrev S16x16x192 : Shape := ⟨3, ![16, 16, 192]⟩
abbrev S16x192x16 : Shape := ⟨3, ![16, 192, 16]⟩
abbrev S16x192x256 : Shape := ⟨3, ![16, 192, 256]⟩
abbrev S16x16x176 : Shape := ⟨3, ![16, 16, 176]⟩
abbrev S16x176x16 : Shape := ⟨3, ![16, 176, 16]⟩
abbrev S16x176x256 : Shape := ⟨3, ![16, 176, 256]⟩
abbrev S16x16x160 : Shape := ⟨3, ![16, 16, 160]⟩
abbrev S16x160x16 : Shape := ⟨3, ![16, 160, 16]⟩
abbrev S16x160x256 : Shape := ⟨3, ![16, 160, 256]⟩
abbrev S16x16x144 : Shape := ⟨3, ![16, 16, 144]⟩
abbrev S16x144x16 : Shape := ⟨3, ![16, 144, 16]⟩
abbrev S16x144x256 : Shape := ⟨3, ![16, 144, 256]⟩
abbrev S16x16x128 : Shape := ⟨3, ![16, 16, 128]⟩
abbrev S16x128x16 : Shape := ⟨3, ![16, 128, 16]⟩
abbrev S16x128x128 : Shape := ⟨3, ![16, 128, 128]⟩
abbrev S16x1x128 : Shape := ⟨3, ![16, 1, 128]⟩
abbrev S16x16x112 : Shape := ⟨3, ![16, 16, 112]⟩
abbrev S16x112x16 : Shape := ⟨3, ![16, 112, 16]⟩
abbrev S16x112x128 : Shape := ⟨3, ![16, 112, 128]⟩
abbrev S16x16x96 : Shape := ⟨3, ![16, 16, 96]⟩
abbrev S16x96x16 : Shape := ⟨3, ![16, 96, 16]⟩
abbrev S16x96x128 : Shape := ⟨3, ![16, 96, 128]⟩
abbrev S16x16x80 : Shape := ⟨3, ![16, 16, 80]⟩
abbrev S16x80x16 : Shape := ⟨3, ![16, 80, 16]⟩
abbrev S16x80x128 : Shape := ⟨3, ![16, 80, 128]⟩
abbrev S16x16x64 : Shape := ⟨3, ![16, 16, 64]⟩
abbrev S16x64x16 : Shape := ⟨3, ![16, 64, 16]⟩
abbrev S16x64x128 : Shape := ⟨3, ![16, 64, 128]⟩
abbrev S16x16x48 : Shape := ⟨3, ![16, 16, 48]⟩
abbrev S16x48x16 : Shape := ⟨3, ![16, 48, 16]⟩
abbrev S16x48x128 : Shape := ⟨3, ![16, 48, 128]⟩
abbrev S16x16x32 : Shape := ⟨3, ![16, 16, 32]⟩
abbrev S16x32x16 : Shape := ⟨3, ![16, 32, 16]⟩
abbrev S16x32x128 : Shape := ⟨3, ![16, 32, 128]⟩
abbrev S16x16x16 : Shape := ⟨3, ![16, 16, 16]⟩
abbrev S16 : Shape := ⟨1, ![16]⟩

abbrev nBuf : Space → Nat
  | .hbm => 24
  | .vmem => 13
  | .smem => 2
  | _ => 0

abbrev bufTy : (tb : Table) → Fin (tcTables nBuf tb) → BufTy
  | .hbm, ⟨0, _⟩ => ⟨S4096x128, .f32⟩
  | .hbm, ⟨1, _⟩ => ⟨S4096x3, .f32⟩
  | .hbm, ⟨2, _⟩ => ⟨S4096, .i32⟩
  | .hbm, ⟨3, _⟩ => ⟨S17, .i32⟩
  | .hbm, ⟨4, _⟩ => ⟨S4096, .i32⟩
  | .hbm, ⟨5, _⟩ => ⟨S16x1, .f32⟩
  | .hbm, ⟨6, _⟩ => ⟨S128x1, .f32⟩
  | .hbm, ⟨7, _⟩ => ⟨S4, .f32⟩
  | .hbm, ⟨8, _⟩ => ⟨S4, .f32⟩
  | .hbm, ⟨9, _⟩ => ⟨S16x256x128, .f32⟩
  | .hbm, ⟨10, _⟩ => ⟨S4096x1, .f32⟩
  | .hbm, ⟨11, _⟩ => ⟨S4096, .f32⟩
  | .hbm, ⟨12, _⟩ => ⟨S16x256, .f32⟩
  | .hbm, ⟨13, _⟩ => ⟨S4096x1, .f32⟩
  | .hbm, ⟨14, _⟩ => ⟨S4096, .f32⟩
  | .hbm, ⟨15, _⟩ => ⟨S16x256, .f32⟩
  | .hbm, ⟨16, _⟩ => ⟨S4096x1, .f32⟩
  | .hbm, ⟨17, _⟩ => ⟨S4096, .f32⟩
  | .hbm, ⟨18, _⟩ => ⟨S16x256, .f32⟩
  | .hbm, ⟨19, _⟩ => ⟨S16x256, .i32⟩
  | .hbm, ⟨20, _⟩ => ⟨S1x16, .f32⟩
  | .hbm, ⟨21, _⟩ => ⟨S1x128, .f32⟩
  | .hbm, ⟨22, _⟩ => ⟨S1x16, .f32⟩
  | .hbm, ⟨23, _⟩ => ⟨S16x1, .f32⟩
  | .local _ .vmem, ⟨0, _⟩ => ⟨S16x256x128, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .i32⟩
  | .local _ .vmem, ⟨5, _⟩ => ⟨S1x16, .f32⟩
  | .local _ .vmem, ⟨6, _⟩ => ⟨S1x128, .f32⟩
  | .local _ .vmem, ⟨7, _⟩ => ⟨S1x16, .f32⟩
  | .local _ .vmem, ⟨8, _⟩ => ⟨S16x256x256, .f32⟩
  | .local _ .vmem, ⟨9, _⟩ => ⟨S16x256x256, .f32⟩
  | .local _ .vmem, ⟨10, _⟩ => ⟨S16x2x256, .f32⟩
  | .local _ .vmem, ⟨11, _⟩ => ⟨S16x32x256, .f32⟩
  | .local _ .vmem, ⟨12, _⟩ => ⟨S16x2x256, .f32⟩
  | .local _ .smem, ⟨0, _⟩ => ⟨S4, .f32⟩
  | .local _ .smem, ⟨1, _⟩ => ⟨S4, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg9_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg7_0 : Ref sig .tc := ⟨.smem, 0, rfl⟩
abbrev cc0_stg8_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32_47 : BitVec 32 := 0#32
  let c16_i32 : BitVec 32 := 16#32
  let v145 : BitVec 32 := Scalar.addi c0_i32_47 c16_i32
  let c1_i32_48 : BitVec 32 := 1#32
  ⟨c0_i32_47, v145, c1_i32_48⟩
def k0_off1 (k0_t1 : Fin k0_t1_loop.trips) : Fin 3 → Nat :=
  let c0_313 : Index := 0#32
  let c0_i32_47 : BitVec 32 := 0#32
  let c1_i32_48 : BitVec 32 := 1#32
  let arg15 : BitVec 32 := Scf.iv c0_i32_47 c1_i32_48 k0_t1
  let v389 : Index := Scalar.indexCast arg15
  let c0_314 : Index := 0#32
  ![0, v389.toNat, 0]
def k0_off2 (k0_t1 : Fin k0_t1_loop.trips) : Fin 3 → Nat :=
  let c0_319 : Index := 0#32
  let c0_i32_47 : BitVec 32 := 0#32
  let c1_i32_48 : BitVec 32 := 1#32
  let arg15 : BitVec 32 := Scf.iv c0_i32_47 c1_i32_48 k0_t1
  let c0_i32_318 : BitVec 32 := 0#32
  let v403 : BitVec 32 := Scalar.subi arg15 c0_i32_318
  let v404 : Index := Scalar.indexCast v403
  let c0_320 : Index := 0#32
  ![0, v404.toNat, 0]
@[reducible] def k0_t2_loop : Scf.Loop 32 :=
  let c16_i32_63 : BitVec 32 := 16#32
  let c16_i32_64 : BitVec 32 := 16#32
  let v159 : BitVec 32 := Scalar.addi c16_i32_63 c16_i32_64
  let c1_i32_65 : BitVec 32 := 1#32
  ⟨c16_i32_63, v159, c1_i32_65⟩
def k0_off3 (k0_t2 : Fin k0_t2_loop.trips) : Fin 3 → Nat :=
  let c0_313 : Index := 0#32
  let c16_i32_63 : BitVec 32 := 16#32
  let c1_i32_65 : BitVec 32 := 1#32
  let arg15 : BitVec 32 := Scf.iv c16_i32_63 c1_i32_65 k0_t2
  let v389 : Index := Scalar.indexCast arg15
  let c0_314 : Index := 0#32
  ![0, v389.toNat, 0]
def k0_off4 (k0_t2 : Fin k0_t2_loop.trips) : Fin 3 → Nat :=
  let c0_319 : Index := 0#32
  let c16_i32_63 : BitVec 32 := 16#32
  let c1_i32_65 : BitVec 32 := 1#32
  let arg15 : BitVec 32 := Scf.iv c16_i32_63 c1_i32_65 k0_t2
  let c16_i32_318 : BitVec 32 := 16#32
  let v403 : BitVec 32 := Scalar.subi arg15 c16_i32_318
  let v404 : Index := Scalar.indexCast v403
  let c0_320 : Index := 0#32
  ![0, v404.toNat, 0]
@[reducible] def k0_t3_loop : Scf.Loop 32 :=
  let c32_i32_79 : BitVec 32 := 32#32
  let c16_i32_80 : BitVec 32 := 16#32
  let v173 : BitVec 32 := Scalar.addi c32_i32_79 c16_i32_80
  let c1_i32_81 : BitVec 32 := 1#32
  ⟨c32_i32_79, v173, c1_i32_81⟩
def k0_off5 (k0_t3 : Fin k0_t3_loop.trips) : Fin 3 → Nat :=
  let c0_313 : Index := 0#32
  let c32_i32_79 : BitVec 32 := 32#32
  let c1_i32_81 : BitVec 32 := 1#32
  let arg15 : BitVec 32 := Scf.iv c32_i32_79 c1_i32_81 k0_t3
  let v389 : Index := Scalar.indexCast arg15
  let c0_314 : Index := 0#32
  ![0, v389.toNat, 0]
def k0_off6 (k0_t3 : Fin k0_t3_loop.trips) : Fin 3 → Nat :=
  let c0_319 : Index := 0#32
  let c32_i32_79 : BitVec 32 := 32#32
  let c1_i32_81 : BitVec 32 := 1#32
  let arg15 : BitVec 32 := Scf.iv c32_i32_79 c1_i32_81 k0_t3
  let c32_i32_318 : BitVec 32 := 32#32
  let v403 : BitVec 32 := Scalar.subi arg15 c32_i32_318
  let v404 : Index := Scalar.indexCast v403
  let c0_320 : Index := 0#32
  ![0, v404.toNat, 0]
@[reducible] def k0_t4_loop : Scf.Loop 32 :=
  let c48_i32_95 : BitVec 32 := 48#32
  let c16_i32_96 : BitVec 32 := 16#32
  let v187 : BitVec 32 := Scalar.addi c48_i32_95 c16_i32_96
  let c1_i32_97 : BitVec 32 := 1#32
  ⟨c48_i32_95, v187, c1_i32_97⟩
def k0_off7 (k0_t4 : Fin k0_t4_loop.trips) : Fin 3 → Nat :=
  let c0_313 : Index := 0#32
  let c48_i32_95 : BitVec 32 := 48#32
  let c1_i32_97 : BitVec 32 := 1#32
  let arg15 : BitVec 32 := Scf.iv c48_i32_95 c1_i32_97 k0_t4
  let v389 : Index := Scalar.indexCast arg15
  let c0_314 : Index := 0#32
  ![0, v389.toNat, 0]
def k0_off8 (k0_t4 : Fin k0_t4_loop.trips) : Fin 3 → Nat :=
  let c0_319 : Index := 0#32
  let c48_i32_95 : BitVec 32 := 48#32
  let c1_i32_97 : BitVec 32 := 1#32
  let arg15 : BitVec 32 := Scf.iv c48_i32_95 c1_i32_97 k0_t4
  let c48_i32_318 : BitVec 32 := 48#32
  let v403 : BitVec 32 := Scalar.subi arg15 c48_i32_318
  let v404 : Index := Scalar.indexCast v403
  let c0_320 : Index := 0#32
  ![0, v404.toNat, 0]
@[reducible] def k0_t5_loop : Scf.Loop 32 :=
  let c64_i32_111 : BitVec 32 := 64#32
  let c16_i32_112 : BitVec 32 := 16#32
  let v201 : BitVec 32 := Scalar.addi c64_i32_111 c16_i32_112
  let c1_i32_113 : BitVec 32 := 1#32
  ⟨c64_i32_111, v201, c1_i32_113⟩
def k0_off9 (k0_t5 : Fin k0_t5_loop.trips) : Fin 3 → Nat :=
  let c0_313 : Index := 0#32
  let c64_i32_111 : BitVec 32 := 64#32
  let c1_i32_113 : BitVec 32 := 1#32
  let arg15 : BitVec 32 := Scf.iv c64_i32_111 c1_i32_113 k0_t5
  let v389 : Index := Scalar.indexCast arg15
  let c0_314 : Index := 0#32
  ![0, v389.toNat, 0]
def k0_off10 (k0_t5 : Fin k0_t5_loop.trips) : Fin 3 → Nat :=
  let c0_319 : Index := 0#32
  let c64_i32_111 : BitVec 32 := 64#32
  let c1_i32_113 : BitVec 32 := 1#32
  let arg15 : BitVec 32 := Scf.iv c64_i32_111 c1_i32_113 k0_t5
  let c64_i32_318 : BitVec 32 := 64#32
  let v403 : BitVec 32 := Scalar.subi arg15 c64_i32_318
  let v404 : Index := Scalar.indexCast v403
  let c0_320 : Index := 0#32
  ![0, v404.toNat, 0]
@[reducible] def k0_t6_loop : Scf.Loop 32 :=
  let c80_i32_127 : BitVec 32 := 80#32
  let c16_i32_128 : BitVec 32 := 16#32
  let v215 : BitVec 32 := Scalar.addi c80_i32_127 c16_i32_128
  let c1_i32_129 : BitVec 32 := 1#32
  ⟨c80_i32_127, v215, c1_i32_129⟩
def k0_off11 (k0_t6 : Fin k0_t6_loop.trips) : Fin 3 → Nat :=
  let c0_313 : Index := 0#32
  let c80_i32_127 : BitVec 32 := 80#32
  let c1_i32_129 : BitVec 32 := 1#32
  let arg15 : BitVec 32 := Scf.iv c80_i32_127 c1_i32_129 k0_t6
  let v389 : Index := Scalar.indexCast arg15
  let c0_314 : Index := 0#32
  ![0, v389.toNat, 0]
def k0_off12 (k0_t6 : Fin k0_t6_loop.trips) : Fin 3 → Nat :=
  let c0_319 : Index := 0#32
  let c80_i32_127 : BitVec 32 := 80#32
  let c1_i32_129 : BitVec 32 := 1#32
  let arg15 : BitVec 32 := Scf.iv c80_i32_127 c1_i32_129 k0_t6
  let c80_i32_318 : BitVec 32 := 80#32
  let v403 : BitVec 32 := Scalar.subi arg15 c80_i32_318
  let v404 : Index := Scalar.indexCast v403
  let c0_320 : Index := 0#32
  ![0, v404.toNat, 0]
@[reducible] def k0_t7_loop : Scf.Loop 32 :=
  let c96_i32_143 : BitVec 32 := 96#32
  let c16_i32_144 : BitVec 32 := 16#32
  let v229 : BitVec 32 := Scalar.addi c96_i32_143 c16_i32_144
  let c1_i32_145 : BitVec 32 := 1#32
  ⟨c96_i32_143, v229, c1_i32_145⟩
def k0_off13 (k0_t7 : Fin k0_t7_loop.trips) : Fin 3 → Nat :=
  let c0_313 : Index := 0#32
  let c96_i32_143 : BitVec 32 := 96#32
  let c1_i32_145 : BitVec 32 := 1#32
  let arg15 : BitVec 32 := Scf.iv c96_i32_143 c1_i32_145 k0_t7
  let v389 : Index := Scalar.indexCast arg15
  let c0_314 : Index := 0#32
  ![0, v389.toNat, 0]
def k0_off14 (k0_t7 : Fin k0_t7_loop.trips) : Fin 3 → Nat :=
  let c0_319 : Index := 0#32
  let c96_i32_143 : BitVec 32 := 96#32
  let c1_i32_145 : BitVec 32 := 1#32
  let arg15 : BitVec 32 := Scf.iv c96_i32_143 c1_i32_145 k0_t7
  let c96_i32_318 : BitVec 32 := 96#32
  let v403 : BitVec 32 := Scalar.subi arg15 c96_i32_318
  let v404 : Index := Scalar.indexCast v403
  let c0_320 : Index := 0#32
  ![0, v404.toNat, 0]
@[reducible] def k0_t8_loop : Scf.Loop 32 :=
  let c112_i32_159 : BitVec 32 := 112#32
  let c16_i32_160 : BitVec 32 := 16#32
  let v243 : BitVec 32 := Scalar.addi c112_i32_159 c16_i32_160
  let c1_i32_161 : BitVec 32 := 1#32
  ⟨c112_i32_159, v243, c1_i32_161⟩
def k0_off15 (k0_t8 : Fin k0_t8_loop.trips) : Fin 3 → Nat :=
  let c0_313 : Index := 0#32
  let c112_i32_159 : BitVec 32 := 112#32
  let c1_i32_161 : BitVec 32 := 1#32
  let arg15 : BitVec 32 := Scf.iv c112_i32_159 c1_i32_161 k0_t8
  let v389 : Index := Scalar.indexCast arg15
  let c0_314 : Index := 0#32
  ![0, v389.toNat, 0]
def k0_off16 (k0_t8 : Fin k0_t8_loop.trips) : Fin 3 → Nat :=
  let c0_319 : Index := 0#32
  let c112_i32_159 : BitVec 32 := 112#32
  let c1_i32_161 : BitVec 32 := 1#32
  let arg15 : BitVec 32 := Scf.iv c112_i32_159 c1_i32_161 k0_t8
  let c112_i32_318 : BitVec 32 := 112#32
  let v403 : BitVec 32 := Scalar.subi arg15 c112_i32_318
  let v404 : Index := Scalar.indexCast v403
  let c0_320 : Index := 0#32
  ![0, v404.toNat, 0]
@[reducible] def k0_t9_loop : Scf.Loop 32 :=
  let c128_i32_175 : BitVec 32 := 128#32
  let c16_i32_176 : BitVec 32 := 16#32
  let v257 : BitVec 32 := Scalar.addi c128_i32_175 c16_i32_176
  let c1_i32_177 : BitVec 32 := 1#32
  ⟨c128_i32_175, v257, c1_i32_177⟩
def k0_off17 (k0_t9 : Fin k0_t9_loop.trips) : Fin 3 → Nat :=
  let c0_313 : Index := 0#32
  let c128_i32_175 : BitVec 32 := 128#32
  let c1_i32_177 : BitVec 32 := 1#32
  let arg15 : BitVec 32 := Scf.iv c128_i32_175 c1_i32_177 k0_t9
  let v389 : Index := Scalar.indexCast arg15
  let c0_314 : Index := 0#32
  ![0, v389.toNat, 0]
def k0_off18 (k0_t9 : Fin k0_t9_loop.trips) : Fin 3 → Nat :=
  let c0_319 : Index := 0#32
  let c128_i32_175 : BitVec 32 := 128#32
  let c1_i32_177 : BitVec 32 := 1#32
  let arg15 : BitVec 32 := Scf.iv c128_i32_175 c1_i32_177 k0_t9
  let c128_i32_318 : BitVec 32 := 128#32
  let v403 : BitVec 32 := Scalar.subi arg15 c128_i32_318
  let v404 : Index := Scalar.indexCast v403
  let c0_320 : Index := 0#32
  ![0, v404.toNat, 0]
@[reducible] def k0_t10_loop : Scf.Loop 32 :=
  let c144_i32_191 : BitVec 32 := 144#32
  let c16_i32_192 : BitVec 32 := 16#32
  let v271 : BitVec 32 := Scalar.addi c144_i32_191 c16_i32_192
  let c1_i32_193 : BitVec 32 := 1#32
  ⟨c144_i32_191, v271, c1_i32_193⟩
def k0_off19 (k0_t10 : Fin k0_t10_loop.trips) : Fin 3 → Nat :=
  let c0_313 : Index := 0#32
  let c144_i32_191 : BitVec 32 := 144#32
  let c1_i32_193 : BitVec 32 := 1#32
  let arg15 : BitVec 32 := Scf.iv c144_i32_191 c1_i32_193 k0_t10
  let v389 : Index := Scalar.indexCast arg15
  let c0_314 : Index := 0#32
  ![0, v389.toNat, 0]
def k0_off20 (k0_t10 : Fin k0_t10_loop.trips) : Fin 3 → Nat :=
  let c0_319 : Index := 0#32
  let c144_i32_191 : BitVec 32 := 144#32
  let c1_i32_193 : BitVec 32 := 1#32
  let arg15 : BitVec 32 := Scf.iv c144_i32_191 c1_i32_193 k0_t10
  let c144_i32_318 : BitVec 32 := 144#32
  let v403 : BitVec 32 := Scalar.subi arg15 c144_i32_318
  let v404 : Index := Scalar.indexCast v403
  let c0_320 : Index := 0#32
  ![0, v404.toNat, 0]
@[reducible] def k0_t11_loop : Scf.Loop 32 :=
  let c160_i32_207 : BitVec 32 := 160#32
  let c16_i32_208 : BitVec 32 := 16#32
  let v285 : BitVec 32 := Scalar.addi c160_i32_207 c16_i32_208
  let c1_i32_209 : BitVec 32 := 1#32
  ⟨c160_i32_207, v285, c1_i32_209⟩
def k0_off21 (k0_t11 : Fin k0_t11_loop.trips) : Fin 3 → Nat :=
  let c0_313 : Index := 0#32
  let c160_i32_207 : BitVec 32 := 160#32
  let c1_i32_209 : BitVec 32 := 1#32
  let arg15 : BitVec 32 := Scf.iv c160_i32_207 c1_i32_209 k0_t11
  let v389 : Index := Scalar.indexCast arg15
  let c0_314 : Index := 0#32
  ![0, v389.toNat, 0]
def k0_off22 (k0_t11 : Fin k0_t11_loop.trips) : Fin 3 → Nat :=
  let c0_319 : Index := 0#32
  let c160_i32_207 : BitVec 32 := 160#32
  let c1_i32_209 : BitVec 32 := 1#32
  let arg15 : BitVec 32 := Scf.iv c160_i32_207 c1_i32_209 k0_t11
  let c160_i32_318 : BitVec 32 := 160#32
  let v403 : BitVec 32 := Scalar.subi arg15 c160_i32_318
  let v404 : Index := Scalar.indexCast v403
  let c0_320 : Index := 0#32
  ![0, v404.toNat, 0]
@[reducible] def k0_t12_loop : Scf.Loop 32 :=
  let c176_i32_223 : BitVec 32 := 176#32
  let c16_i32_224 : BitVec 32 := 16#32
  let v299 : BitVec 32 := Scalar.addi c176_i32_223 c16_i32_224
  let c1_i32_225 : BitVec 32 := 1#32
  ⟨c176_i32_223, v299, c1_i32_225⟩
def k0_off23 (k0_t12 : Fin k0_t12_loop.trips) : Fin 3 → Nat :=
  let c0_313 : Index := 0#32
  let c176_i32_223 : BitVec 32 := 176#32
  let c1_i32_225 : BitVec 32 := 1#32
  let arg15 : BitVec 32 := Scf.iv c176_i32_223 c1_i32_225 k0_t12
  let v389 : Index := Scalar.indexCast arg15
  let c0_314 : Index := 0#32
  ![0, v389.toNat, 0]
def k0_off24 (k0_t12 : Fin k0_t12_loop.trips) : Fin 3 → Nat :=
  let c0_319 : Index := 0#32
  let c176_i32_223 : BitVec 32 := 176#32
  let c1_i32_225 : BitVec 32 := 1#32
  let arg15 : BitVec 32 := Scf.iv c176_i32_223 c1_i32_225 k0_t12
  let c176_i32_318 : BitVec 32 := 176#32
  let v403 : BitVec 32 := Scalar.subi arg15 c176_i32_318
  let v404 : Index := Scalar.indexCast v403
  let c0_320 : Index := 0#32
  ![0, v404.toNat, 0]
@[reducible] def k0_t13_loop : Scf.Loop 32 :=
  let c192_i32_239 : BitVec 32 := 192#32
  let c16_i32_240 : BitVec 32 := 16#32
  let v313 : BitVec 32 := Scalar.addi c192_i32_239 c16_i32_240
  let c1_i32_241 : BitVec 32 := 1#32
  ⟨c192_i32_239, v313, c1_i32_241⟩
def k0_off25 (k0_t13 : Fin k0_t13_loop.trips) : Fin 3 → Nat :=
  let c0_313 : Index := 0#32
  let c192_i32_239 : BitVec 32 := 192#32
  let c1_i32_241 : BitVec 32 := 1#32
  let arg15 : BitVec 32 := Scf.iv c192_i32_239 c1_i32_241 k0_t13
  let v389 : Index := Scalar.indexCast arg15
  let c0_314 : Index := 0#32
  ![0, v389.toNat, 0]
def k0_off26 (k0_t13 : Fin k0_t13_loop.trips) : Fin 3 → Nat :=
  let c0_319 : Index := 0#32
  let c192_i32_239 : BitVec 32 := 192#32
  let c1_i32_241 : BitVec 32 := 1#32
  let arg15 : BitVec 32 := Scf.iv c192_i32_239 c1_i32_241 k0_t13
  let c192_i32_318 : BitVec 32 := 192#32
  let v403 : BitVec 32 := Scalar.subi arg15 c192_i32_318
  let v404 : Index := Scalar.indexCast v403
  let c0_320 : Index := 0#32
  ![0, v404.toNat, 0]
@[reducible] def k0_t14_loop : Scf.Loop 32 :=
  let c208_i32_255 : BitVec 32 := 208#32
  let c16_i32_256 : BitVec 32 := 16#32
  let v327 : BitVec 32 := Scalar.addi c208_i32_255 c16_i32_256
  let c1_i32_257 : BitVec 32 := 1#32
  ⟨c208_i32_255, v327, c1_i32_257⟩
def k0_off27 (k0_t14 : Fin k0_t14_loop.trips) : Fin 3 → Nat :=
  let c0_313 : Index := 0#32
  let c208_i32_255 : BitVec 32 := 208#32
  let c1_i32_257 : BitVec 32 := 1#32
  let arg15 : BitVec 32 := Scf.iv c208_i32_255 c1_i32_257 k0_t14
  let v389 : Index := Scalar.indexCast arg15
  let c0_314 : Index := 0#32
  ![0, v389.toNat, 0]
def k0_off28 (k0_t14 : Fin k0_t14_loop.trips) : Fin 3 → Nat :=
  let c0_319 : Index := 0#32
  let c208_i32_255 : BitVec 32 := 208#32
  let c1_i32_257 : BitVec 32 := 1#32
  let arg15 : BitVec 32 := Scf.iv c208_i32_255 c1_i32_257 k0_t14
  let c208_i32_318 : BitVec 32 := 208#32
  let v403 : BitVec 32 := Scalar.subi arg15 c208_i32_318
  let v404 : Index := Scalar.indexCast v403
  let c0_320 : Index := 0#32
  ![0, v404.toNat, 0]
@[reducible] def k0_t15_loop : Scf.Loop 32 :=
  let c224_i32_271 : BitVec 32 := 224#32
  let c16_i32_272 : BitVec 32 := 16#32
  let v341 : BitVec 32 := Scalar.addi c224_i32_271 c16_i32_272
  let c1_i32_273 : BitVec 32 := 1#32
  ⟨c224_i32_271, v341, c1_i32_273⟩
def k0_off29 (k0_t15 : Fin k0_t15_loop.trips) : Fin 3 → Nat :=
  let c0_313 : Index := 0#32
  let c224_i32_271 : BitVec 32 := 224#32
  let c1_i32_273 : BitVec 32 := 1#32
  let arg15 : BitVec 32 := Scf.iv c224_i32_271 c1_i32_273 k0_t15
  let v389 : Index := Scalar.indexCast arg15
  let c0_314 : Index := 0#32
  ![0, v389.toNat, 0]
def k0_off30 (k0_t15 : Fin k0_t15_loop.trips) : Fin 3 → Nat :=
  let c0_319 : Index := 0#32
  let c224_i32_271 : BitVec 32 := 224#32
  let c1_i32_273 : BitVec 32 := 1#32
  let arg15 : BitVec 32 := Scf.iv c224_i32_271 c1_i32_273 k0_t15
  let c224_i32_318 : BitVec 32 := 224#32
  let v403 : BitVec 32 := Scalar.subi arg15 c224_i32_318
  let v404 : Index := Scalar.indexCast v403
  let c0_320 : Index := 0#32
  ![0, v404.toNat, 0]
@[reducible] def k0_t16_loop : Scf.Loop 32 :=
  let c240_i32_287 : BitVec 32 := 240#32
  let c16_i32_288 : BitVec 32 := 16#32
  let v355 : BitVec 32 := Scalar.addi c240_i32_287 c16_i32_288
  let c1_i32_289 : BitVec 32 := 1#32
  ⟨c240_i32_287, v355, c1_i32_289⟩
def k0_off31 (k0_t16 : Fin k0_t16_loop.trips) : Fin 3 → Nat :=
  let c0_313 : Index := 0#32
  let c240_i32_287 : BitVec 32 := 240#32
  let c1_i32_289 : BitVec 32 := 1#32
  let arg15 : BitVec 32 := Scf.iv c240_i32_287 c1_i32_289 k0_t16
  let v389 : Index := Scalar.indexCast arg15
  let c0_314 : Index := 0#32
  ![0, v389.toNat, 0]
def k0_off32 (k0_t16 : Fin k0_t16_loop.trips) : Fin 3 → Nat :=
  let c0_319 : Index := 0#32
  let c240_i32_287 : BitVec 32 := 240#32
  let c1_i32_289 : BitVec 32 := 1#32
  let arg15 : BitVec 32 := Scf.iv c240_i32_287 c1_i32_289 k0_t16
  let c240_i32_318 : BitVec 32 := 240#32
  let v403 : BitVec 32 := Scalar.subi arg15 c240_i32_318
  let v404 : Index := Scalar.indexCast v403
  let c0_320 : Index := 0#32
  ![0, v404.toNat, 0]
@[reducible] def k0_t17_loop : Scf.Loop 32 :=
  let c0_i32_295 : BitVec 32 := 0#32
  let c256_i32 : BitVec 32 := 256#32
  let v360 : BitVec 32 := Scalar.addi c0_i32_295 c256_i32
  let c1_i32_296 : BitVec 32 := 1#32
  ⟨c0_i32_295, v360, c1_i32_296⟩
def k0_off33 (k0_t17 : Fin k0_t17_loop.trips) : Fin 3 → Nat :=
  let c0_313 : Index := 0#32
  let c255_i32 : BitVec 32 := 255#32
  let c0_i32_295 : BitVec 32 := 0#32
  let c1_i32_296 : BitVec 32 := 1#32
  let arg15 : BitVec 32 := Scf.iv c0_i32_295 c1_i32_296 k0_t17
  let v389 : BitVec 32 := Scalar.subi c255_i32 arg15
  let v390 : Index := Scalar.indexCast v389
  let c0_314 : Index := 0#32
  ![0, v390.toNat, 0]
abbrev stage0_0 : Fin 1 → Memref sig .tc .vmem S16x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S4096x128 : Shape := ⟨2, ![4096, 128]⟩
abbrev S4096x3 : Shape := ⟨2, ![4096, 3]⟩
abbrev S4096 : Shape := ⟨1, ![4096]⟩
abbrev S17 : Shape := ⟨1, ![17]⟩
abbrev S16x1 : Shape := ⟨2, ![16, 1]⟩
abbrev S128x1 : Shape := ⟨2, ![128, 1]⟩
abbrev S4 : Shape := ⟨1, ![4]⟩
abbrev S4096x1 : Shape := ⟨2, ![4096, 1]⟩
abbrev S16x256 : Shape := ⟨2, ![16, 256]⟩
abbrev S_ : Shape := ⟨0, ![]⟩
abbrev S16x256x3 : Shape := ⟨3, ![16, 256, 3]⟩
abbrev S16x256x1x3 : Shape := ⟨4, ![16, 256, 1, 3]⟩
abbrev S16x1x256x3 : Shape := ⟨4, ![16, 1, 256, 3]⟩
abbrev S16x256x256x3 : Shape := ⟨4, ![16, 256, 256, 3]⟩
abbrev S16x256x256 : Shape := ⟨3, ![16, 256, 256]⟩
abbrev S16x256x1 : Shape := ⟨3, ![16, 256, 1]⟩
abbrev S16x1x256 : Shape := ⟨3, ![16, 1, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x256x258 : Shape := ⟨3, ![16, 256, 258]⟩
abbrev S16x1x1 : Shape := ⟨3, ![16, 1, 1]⟩
abbrev S16x1x258 : Shape := ⟨3, ![16, 1, 258]⟩
abbrev S16x257x258 : Shape := ⟨3, ![16, 257, 258]⟩
abbrev S16x257x1 : Shape := ⟨3, ![16, 257, 1]⟩
abbrev S257 : Shape := ⟨1, ![257]⟩
abbrev S1x257x1 : Shape := ⟨3, ![1, 257, 1]⟩
abbrev S16 : Shape := ⟨1, ![16]⟩

abbrev nBuf : Space → Nat
  | .hbm => 255
  | .vmem => 0
  | .smem => 0
  | _ => 0

abbrev hbmTy0_0 (i : Nat) : BufTy := match i % 128 with
  | 0 => ⟨S4096x128, .f32⟩
  | 1 => ⟨S4096x3, .f32⟩
  | 2 => ⟨S4096, .i32⟩
  | 3 => ⟨S17, .i32⟩
  | 4 => ⟨S4096, .i32⟩
  | 5 => ⟨S16x1, .f32⟩
  | 6 => ⟨S128x1, .f32⟩
  | 7 => ⟨S4, .f32⟩
  | 8 => ⟨S4, .f32⟩
  | 9 => ⟨S4096x1, .f32⟩
  | 10 => ⟨S16x256, .f32⟩
  | 11 => ⟨S4, .f32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S4096, .f32⟩
  | 21 => ⟨S16x256, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096, .f32⟩
  | 31 => ⟨S16x256, .f32⟩
  | 32 => ⟨S16x256x3, .f32⟩
  | 33 => ⟨S16x256x1x3, .f32⟩
  | 34 => ⟨S16x1x256x3, .f32⟩
  | 35 => ⟨S16x256x256x3, .f32⟩
  | 36 => ⟨S16x256x256x3, .f32⟩
  | 37 => ⟨S16x256x256x3, .f32⟩
  | 38 => ⟨S_, .f32⟩
  | 39 => ⟨S16x256x256x3, .f32⟩
  | 40 => ⟨S16x256x256x3, .f32⟩
  | 41 => ⟨S16x256x256x3, .f32⟩
  | 42 => ⟨S_, .f32⟩
  | 43 => ⟨S16x256x256, .f32⟩
  | 44 => ⟨S16x256x256, .f32⟩
  | 45 => ⟨S16x256, .f32⟩
  | 46 => ⟨S16x256x1, .f32⟩
  | 47 => ⟨S16x256, .f32⟩
  | 48 => ⟨S16x1x256, .f32⟩
  | 49 => ⟨S16x256x256, .f32⟩
  | 50 => ⟨S16x256x256, .f32⟩
  | 51 => ⟨S16x256x256, .f32⟩
  | 52 => ⟨S16x256x256, .f32⟩
  | 53 => ⟨S_, .f32⟩
  | 54 => ⟨S16x256x256, .f32⟩
  | 55 => ⟨S16x256x256, .f32⟩
  | 56 => ⟨S16x256x256, .f32⟩
  | 57 => ⟨S16x256x256, .f32⟩
  | 58 => ⟨S_, .f32⟩
  | 59 => ⟨S16x256x256, .f32⟩
  | 60 => ⟨S16x256x256, .f32⟩
  | 61 => ⟨S16x256x256, .f32⟩
  | 62 => ⟨S256, .i32⟩
  | 63 => ⟨S256x1, .i32⟩
  | 64 => ⟨S1x256, .i32⟩
  | 65 => ⟨S256x256, .i32⟩
  | 66 => ⟨S256x256, .i32⟩
  | 67 => ⟨S256x256, .i1⟩
  | 68 => ⟨S_, .f32⟩
  | 69 => ⟨S_, .f32⟩
  | 70 => ⟨S16x256x256, .i1⟩
  | 71 => ⟨S16x256x256, .f32⟩
  | 72 => ⟨S16x256x256, .f32⟩
  | 73 => ⟨S_, .f32⟩
  | 74 => ⟨S16x256, .f32⟩
  | 75 => ⟨S16x256, .f32⟩
  | 76 => ⟨S_, .f32⟩
  | 77 => ⟨S16x256, .f32⟩
  | 78 => ⟨S16x256, .f32⟩
  | 79 => ⟨S16x256, .f32⟩
  | 80 => ⟨S256, .i32⟩
  | 81 => ⟨S16x256x256, .f32⟩
  | 82 => ⟨S16x256x256, .f32⟩
  | 83 => ⟨S256x1, .i32⟩
  | 84 => ⟨S1x256, .i32⟩
  | 85 => ⟨S256x256, .i32⟩
  | 86 => ⟨S256x256, .i32⟩
  | 87 => ⟨S256x256, .i1⟩
  | 88 => ⟨S16x256x1, .f32⟩
  | 89 => ⟨S_, .f32⟩
  | 90 => ⟨S_, .f32⟩
  | 91 => ⟨S16x256x256, .i1⟩
  | 92 => ⟨S16x256x256, .f32⟩
  | 93 => ⟨S16x256x256, .f32⟩
  | 94 => ⟨S16x256x256, .f32⟩
  | 95 => ⟨S16x256x256, .f32⟩
  | 96 => ⟨S_, .f32⟩
  | 97 => ⟨S16x256x1, .f32⟩
  | 98 => ⟨S16x256x1, .f32⟩
  | 99 => ⟨S16x256x1, .f32⟩
  | 100 => ⟨S16x256x258, .f32⟩
  | 101 => ⟨S_, .f32⟩
  | 102 => ⟨S16x1x256, .f32⟩
  | 103 => ⟨S_, .f32⟩
  | 104 => ⟨S16x1x1, .f32⟩
  | 105 => ⟨S16x1x1, .f32⟩
  | 106 => ⟨S16x1x258, .f32⟩
  | 107 => ⟨S16x257x258, .f32⟩
  | 108 => ⟨S_, .i32⟩
  | 109 => ⟨S_, .i32⟩
  | 110 => ⟨S_, .i32⟩
  | 111 => ⟨S_, .i32⟩
  | 112 => ⟨S16x257x258, .f32⟩
  | 113 => ⟨S_, .i32⟩
  | 114 => ⟨S_, .i1⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S16x1x258, .f32⟩
  | 126 => ⟨S_, .i32⟩
  | 127 => ⟨S_, .i1⟩
  | _ => ⟨S4096x128, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S16x1x1, .f32⟩
  | 7 => ⟨S16x1x258, .f32⟩
  | 8 => ⟨S16x1x258, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S16x257x1, .f32⟩
  | 18 => ⟨S257, .i32⟩
  | 19 => ⟨S1x257x1, .i32⟩
  | 20 => ⟨S_, .i32⟩
  | 21 => ⟨S1x257x1, .i32⟩
  | 22 => ⟨S1x257x1, .i1⟩
  | 23 => ⟨S16x257x258, .f32⟩
  | 24 => ⟨S16x257x258, .f32⟩
  | 25 => ⟨S16x257x258, .f32⟩
  | 26 => ⟨S16x257x258, .f32⟩
  | 27 => ⟨S16x257x258, .i1⟩
  | 28 => ⟨S16x257x258, .f32⟩
  | 29 => ⟨S16x257x258, .f32⟩
  | 30 => ⟨S_, .i32⟩
  | 31 => ⟨S_, .i32⟩
  | 32 => ⟨S16x256x1, .f32⟩
  | 33 => ⟨S16x256, .f32⟩
  | 34 => ⟨S4096x1, .f32⟩
  | 35 => ⟨S16x256, .f32⟩
  | 36 => ⟨S4, .f32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S4096, .f32⟩
  | 46 => ⟨S16x256, .f32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096, .f32⟩
  | 56 => ⟨S16x256, .f32⟩
  | 57 => ⟨S16x256x3, .f32⟩
  | 58 => ⟨S16x256x1x3, .f32⟩
  | 59 => ⟨S16x1x256x3, .f32⟩
  | 60 => ⟨S16x256x256x3, .f32⟩
  | 61 => ⟨S16x256x256x3, .f32⟩
  | 62 => ⟨S16x256x256x3, .f32⟩
  | 63 => ⟨S_, .f32⟩
  | 64 => ⟨S16x256x256x3, .f32⟩
  | 65 => ⟨S16x256x256x3, .f32⟩
  | 66 => ⟨S16x256x256x3, .f32⟩
  | 67 => ⟨S_, .f32⟩
  | 68 => ⟨S16x256x256, .f32⟩
  | 69 => ⟨S16x256x256, .f32⟩
  | 70 => ⟨S16x256, .f32⟩
  | 71 => ⟨S16x256x1, .f32⟩
  | 72 => ⟨S16x256, .f32⟩
  | 73 => ⟨S16x1x256, .f32⟩
  | 74 => ⟨S16x256x256, .f32⟩
  | 75 => ⟨S16x256x256, .f32⟩
  | 76 => ⟨S16x256x256, .f32⟩
  | 77 => ⟨S16x256x256, .f32⟩
  | 78 => ⟨S_, .f32⟩
  | 79 => ⟨S16x256x256, .f32⟩
  | 80 => ⟨S16x256x256, .f32⟩
  | 81 => ⟨S16x256x256, .f32⟩
  | 82 => ⟨S16x256x256, .f32⟩
  | 83 => ⟨S_, .f32⟩
  | 84 => ⟨S16x256x256, .f32⟩
  | 85 => ⟨S16x256x256, .f32⟩
  | 86 => ⟨S16x256x256, .f32⟩
  | 87 => ⟨S256, .i32⟩
  | 88 => ⟨S256x1, .i32⟩
  | 89 => ⟨S1x256, .i32⟩
  | 90 => ⟨S256x256, .i32⟩
  | 91 => ⟨S256x256, .i32⟩
  | 92 => ⟨S256x256, .i1⟩
  | 93 => ⟨S_, .f32⟩
  | 94 => ⟨S_, .f32⟩
  | 95 => ⟨S16x256x256, .i1⟩
  | 96 => ⟨S16x256x256, .f32⟩
  | 97 => ⟨S16x256x256, .f32⟩
  | 98 => ⟨S_, .f32⟩
  | 99 => ⟨S16x256, .f32⟩
  | 100 => ⟨S16x256, .f32⟩
  | 101 => ⟨S_, .f32⟩
  | 102 => ⟨S16x256, .f32⟩
  | 103 => ⟨S16x256, .f32⟩
  | 104 => ⟨S16x256, .f32⟩
  | 105 => ⟨S16x256x1, .f32⟩
  | 106 => ⟨S16x256x256, .f32⟩
  | 107 => ⟨S16x256x256, .f32⟩
  | 108 => ⟨S16x1x256, .f32⟩
  | 109 => ⟨S16x256x256, .f32⟩
  | 110 => ⟨S16x256x256, .f32⟩
  | 111 => ⟨S_, .f32⟩
  | 112 => ⟨S16, .f32⟩
  | 113 => ⟨S16x256, .f32⟩
  | 114 => ⟨S_, .f32⟩
  | 115 => ⟨S16x256, .f32⟩
  | 116 => ⟨S16x256, .f32⟩
  | 117 => ⟨S16x256, .f32⟩
  | 118 => ⟨S16x256, .f32⟩
  | 119 => ⟨S16x256, .f32⟩
  | 120 => ⟨S4096, .f32⟩
  | 121 => ⟨S_, .f32⟩
  | 122 => ⟨S16, .f32⟩
  | 123 => ⟨S4096x1, .i32⟩
  | 124 => ⟨S16, .f32⟩
  | 125 => ⟨S16, .f32⟩
  | 126 => ⟨S16x1, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_9 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_11 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_13 : Ref sig .tc := ⟨.hbm, 108, rfl⟩
abbrev main_c_14 : Ref sig .tc := ⟨.hbm, 109, rfl⟩
abbrev main_v77_0 : Ref sig .tc := ⟨.hbm, 110, rfl⟩
abbrev main_v77_1 : Ref sig .tc := ⟨.hbm, 111, rfl⟩
abbrev main_v77_2 : Ref sig .tc := ⟨.hbm, 112, rfl⟩
abbrev main_while0c_c_31 : Ref sig .tc := ⟨.hbm, 113, rfl⟩
abbrev main_while0c_v156 : Ref sig .tc := ⟨.hbm, 114, rfl⟩
abbrev main_while0b_c_31 : Ref sig .tc := ⟨.hbm, 115, rfl⟩
abbrev main_while0b_v156 : Ref sig .tc := ⟨.hbm, 116, rfl⟩
abbrev main_while0b_c_32 : Ref sig .tc := ⟨.hbm, 117, rfl⟩
abbrev main_while0b_v157 : Ref sig .tc := ⟨.hbm, 118, rfl⟩
abbrev main_while0b_v158 : Ref sig .tc := ⟨.hbm, 119, rfl⟩
abbrev main_while0b_c_33 : Ref sig .tc := ⟨.hbm, 120, rfl⟩
abbrev main_while0b_v159 : Ref sig .tc := ⟨.hbm, 121, rfl⟩
abbrev main_while0b_v160 : Ref sig .tc := ⟨.hbm, 122, rfl⟩
abbrev main_while0b_c_34 : Ref sig .tc := ⟨.hbm, 123, rfl⟩
abbrev main_while0b_c_35 : Ref sig .tc := ⟨.hbm, 124, rfl⟩
abbrev main_while0b_v161 : Ref sig .tc := ⟨.hbm, 125, rfl⟩
abbrev main_while0b_c_36 : Ref sig .tc := ⟨.hbm, 126, rfl⟩
abbrev main_while0b_v162 : Ref sig .tc := ⟨.hbm, 127, rfl⟩
abbrev main_while0b_v163 : Ref sig .tc := ⟨.hbm, 128, rfl⟩
abbrev main_while0b_c_37 : Ref sig .tc := ⟨.hbm, 129, rfl⟩
abbrev main_while0b_v164 : Ref sig .tc := ⟨.hbm, 130, rfl⟩
abbrev main_while0b_v165 : Ref sig .tc := ⟨.hbm, 131, rfl⟩
abbrev main_while0b_c_38 : Ref sig .tc := ⟨.hbm, 132, rfl⟩
abbrev main_while0b_c_39 : Ref sig .tc := ⟨.hbm, 133, rfl⟩
abbrev main_while0b_v166 : Ref sig .tc := ⟨.hbm, 134, rfl⟩
abbrev main_while0b_v167 : Ref sig .tc := ⟨.hbm, 135, rfl⟩
abbrev main_while0b_v168 : Ref sig .tc := ⟨.hbm, 136, rfl⟩
abbrev main_while0b_c_40 : Ref sig .tc := ⟨.hbm, 137, rfl⟩
abbrev main_while0b_v169 : Ref sig .tc := ⟨.hbm, 138, rfl⟩
abbrev main_while0b_v170 : Ref sig .tc := ⟨.hbm, 139, rfl⟩
abbrev main_while0b_c_41 : Ref sig .tc := ⟨.hbm, 140, rfl⟩
abbrev main_while0b_v171 : Ref sig .tc := ⟨.hbm, 141, rfl⟩
abbrev main_while0b_v172 : Ref sig .tc := ⟨.hbm, 142, rfl⟩
abbrev main_while0b_c_42 : Ref sig .tc := ⟨.hbm, 143, rfl⟩
abbrev main_while0b_c_43 : Ref sig .tc := ⟨.hbm, 144, rfl⟩
abbrev main_while0b_v173 : Ref sig .tc := ⟨.hbm, 145, rfl⟩
abbrev main_while0b_v174 : Ref sig .tc := ⟨.hbm, 146, rfl⟩
abbrev main_while0b_v175 : Ref sig .tc := ⟨.hbm, 147, rfl⟩
abbrev main_while0b_v176 : Ref sig .tc := ⟨.hbm, 148, rfl⟩
abbrev main_while0b_v177 : Ref sig .tc := ⟨.hbm, 149, rfl⟩
abbrev main_while0b_v178 : Ref sig .tc := ⟨.hbm, 150, rfl⟩
abbrev main_while0b_v179 : Ref sig .tc := ⟨.hbm, 151, rfl⟩
abbrev main_while0b_v180 : Ref sig .tc := ⟨.hbm, 152, rfl⟩
abbrev main_while0b_v181 : Ref sig .tc := ⟨.hbm, 153, rfl⟩
abbrev main_while0b_v182 : Ref sig .tc := ⟨.hbm, 154, rfl⟩
abbrev main_while0b_call2_v0 : Ref sig .tc := ⟨.hbm, 155, rfl⟩
abbrev main_while0b_call2_v1 : Ref sig .tc := ⟨.hbm, 156, rfl⟩
abbrev main_while0b_v183 : Ref sig .tc := ⟨.hbm, 157, rfl⟩
abbrev main_while0b_c_44 : Ref sig .tc := ⟨.hbm, 158, rfl⟩
abbrev main_while0b_v184 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_c_15 : Ref sig .tc := ⟨.hbm, 165, rfl⟩
abbrev main_v83 : Ref sig .tc := ⟨.hbm, 166, rfl⟩
abbrev main_v84 : Ref sig .tc := ⟨.hbm, 167, rfl⟩
abbrev main_c_16 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_c_17 : Ref sig .tc := ⟨.hbm, 175, rfl⟩
abbrev main_v91 : Ref sig .tc := ⟨.hbm, 176, rfl⟩
abbrev main_v92 : Ref sig .tc := ⟨.hbm, 177, rfl⟩
abbrev main_c_18 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_cst_19 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_cst_20 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_21 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_cst_22 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_cst_23 : Ref sig .tc := ⟨.hbm, 221, rfl⟩
abbrev main_call3_v0 : Ref sig .tc := ⟨.hbm, 222, rfl⟩
abbrev main_call3_v1 : Ref sig .tc := ⟨.hbm, 223, rfl⟩
abbrev main_call3_v2 : Ref sig .tc := ⟨.hbm, 224, rfl⟩
abbrev main_v131 : Ref sig .tc := ⟨.hbm, 225, rfl⟩
abbrev main_cst_24 : Ref sig .tc := ⟨.hbm, 226, rfl⟩
abbrev main_v132 : Ref sig .tc := ⟨.hbm, 227, rfl⟩
abbrev main_v133 : Ref sig .tc := ⟨.hbm, 228, rfl⟩
abbrev main_cst_25 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_cst_26 : Ref sig .tc := ⟨.hbm, 239, rfl⟩
abbrev main_v143 : Ref sig .tc := ⟨.hbm, 240, rfl⟩
abbrev main_v144 : Ref sig .tc := ⟨.hbm, 241, rfl⟩
abbrev main_cst_27 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_cst_28 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩

abbrev nD : Nat := 1
abbrev τ : Topo := Topo.v7x

variable {F : FTy → Type} [FloatOps F]

abbrev main_while0_count : Scf.Loop 32 := ⟨0#32, 257#32, 1#32⟩
-- ==== Proof.Frames.KernelIdealParts.lean ====
/- The parts of the idealized kernel that eliminate: each owns the working matrices, the right-hand sides and the
   pivot rows at some contents and hands them back at some contents. These are the cuts at which the body's own run
   (`Frames/KernelIdeal.lean`) stops, so that no run has to carry the stores of more than two panels. -/
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 16384

noncomputable section

namespace Frames.KernelIdeal

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ)
variable {arg0 : Memref sig .tc .vmem S16x256x128 .f32} (harg0 : arg0.IsWhole)
variable {arg1 : Memref sig .tc .vmem S16x256 .f32} (harg1 : arg1.IsWhole)
variable {arg2 : Memref sig .tc .vmem S16x256 .f32} (harg2 : arg2.IsWhole)
variable {arg3 : Memref sig .tc .vmem S16x256 .f32} (harg3 : arg3.IsWhole)
variable {arg4 : Memref sig .tc .vmem S16x256 .i32} (harg4 : arg4.IsWhole)
variable {arg5 : Memref sig .tc .vmem S1x16 .f32} (harg5 : arg5.IsWhole)
variable {arg6 : Memref sig .tc .vmem S1x128 .f32} (harg6 : arg6.IsWhole)
variable {arg7 : Memref sig .tc .smem S4 .f32} (harg7 : arg7.IsWhole)
variable {arg8 : Memref sig .tc .smem S4 .f32} (harg8 : arg8.IsWhole)
variable {arg9 : Memref sig .tc .vmem S1x16 .f32} (harg9 : arg9.IsWhole)
variable {arg10 : Memref sig .tc .vmem S16x256x256 .f32} (harg10 : arg10.IsWhole)
variable {arg11 : Memref sig .tc .vmem S16x256x256 .f32} (harg11 : arg11.IsWhole)
variable {arg12 : Memref sig .tc .vmem S16x2x256 .f32} (harg12 : arg12.IsWhole)
variable {arg13 : Memref sig .tc .vmem S16x32x256 .f32} (harg13 : arg13.IsWhole)
variable {arg14 : Memref sig .tc .vmem S16x2x256 .f32} (harg14 : arg14.IsWhole)

/-- The three scratch buffers the elimination works in, each at some contents. -/
abbrev Work (arg10 : Memref sig .tc .vmem S16x256x256 .f32) (arg12 : Memref sig .tc .vmem S16x2x256 .f32)
    (arg13 : Memref sig .tc .vmem S16x32x256 .f32) : sProp 𝕄 :=
  iprop((∃ f, arg10.view.loc (c : Thread nD τ) ↦[arg10.view.set]{fullShare} f)
    ∗ (∃ f, arg12.view.loc (c : Thread nD τ) ↦[arg12.view.set]{fullShare} f)
    ∗ (∃ f, arg13.view.loc (c : Thread nD τ) ↦[arg13.view.set]{fullShare} f))

/-- Each part of the body runs on the buffers that it uses and gives them back. -/
theorem part20 (v51 : FVec F S16x256 .f32) :
    (Work c arg10 arg12 arg13 : sProp 𝕄)
      ⊢ wp frame (wpE (defs₀ (F := F)) Variants.none (c : Thread nD τ) none) E (k0_part20 (F := F) _ harg0 _ harg1 _ harg2 _ harg3 _ harg4 _ harg5 _ harg6 _ harg7 _ harg8 _ harg9 _ harg10 _ harg11 _ harg12 _ harg13 _ harg14 v51)
        (fun _ => Work c arg10 arg12 arg13) := by
  rw [k0_part20_eq_skeleton]; unfold k0_part20_skel
  iintro ⟨⟨%f, H10⟩, ⟨%g, H12⟩, ⟨%h, H13⟩⟩
  sl_exec
  sl_step
  sl_close

theorem part21 (v131 : IVec S1x1x256 32) (v158 : IVec S1x1x16 32) (c16_i32_63 : BitVec 32) :
    (Work c arg10 arg12 arg13 : sProp 𝕄)
      ⊢ wp frame (wpE (defs₀ (F := F)) Variants.none (c : Thread nD τ) none) E (k0_part21 (F := F) _ harg0 _ harg1 _ harg2 _ harg3 _ harg4 _ harg5 _ harg6 _ harg7 _ harg8 _ harg9 _ harg10 _ harg11 _ harg12 _ harg13 _ harg14 v131 v158 c16_i32_63)
        (fun _ => Work c arg10 arg12 arg13) := by
  rw [k0_part21_eq_skeleton]; unfold k0_part21_skel
  iintro ⟨⟨%f, H10⟩, ⟨%g, H12⟩, ⟨%h, H13⟩⟩
  sl_exec
  sl_step
  sl_close

theorem part22 (v131 : IVec S1x1x256 32) (v180 : FVec F S16x208x256 .f32) (v181 : Vec F S16x208x256 .f32) :
    (Work c arg10 arg12 arg13 : sProp 𝕄)
      ⊢ wp frame (wpE (defs₀ (F := F)) Variants.none (c : Thread nD τ) none) E (k0_part22 (F := F) _ harg0 _ harg1 _ harg2 _ harg3 _ harg4 _ harg5 _ harg6 _ harg7 _ harg8 _ harg9 _ harg10 _ harg11 _ harg12 _ harg13 _ harg14 v131 v180 v181)
        (fun _ => Work c arg10 arg12 arg13) := by
  rw [k0_part22_eq_skeleton]; unfold k0_part22_skel
  iintro ⟨⟨%f, H10⟩, ⟨%g, H12⟩, ⟨%h, H13⟩⟩
  sl_exec
  sl_step
  sl_close

theorem part23 (v131 : IVec S1x1x256 32) (v206 : FVec F S16x176x256 .f32) :
    (Work c arg10 arg12 arg13 : sProp 𝕄)
      ⊢ wp frame (wpE (defs₀ (F := F)) Variants.none (c : Thread nD τ) none) E (k0_part23 (F := F) _ harg0 _ harg1 _ harg2 _ harg3 _ harg4 _ harg5 _ harg6 _ harg7 _ harg8 _ harg9 _ harg10 _ harg11 _ harg12 _ harg13 _ harg14 v131 v206)
        (fun _ => Work c arg10 arg12 arg13) := by
  rw [k0_part23_eq_skeleton]; unfold k0_part23_skel
  iintro ⟨⟨%f, H10⟩, ⟨%g, H12⟩, ⟨%h, H13⟩⟩
  sl_exec
  sl_step
  sl_close

theorem part24 (v131 : IVec S1x1x256 32) (v231 : FVec F S16x16x144 .f32) :
    (Work c arg10 arg12 arg13 : sProp 𝕄)
      ⊢ wp frame (wpE (defs₀ (F := F)) Variants.none (c : Thread nD τ) none) E (k0_part24 (F := F) _ harg0 _ harg1 _ harg2 _ harg3 _ harg4 _ harg5 _ harg6 _ harg7 _ harg8 _ harg9 _ harg10 _ harg11 _ harg12 _ harg13 _ harg14 v131 v231)
        (fun _ => Work c arg10 arg12 arg13) := by
  rw [k0_part24_eq_skeleton]; unfold k0_part24_skel
  iintro ⟨⟨%f, H10⟩, ⟨%g, H12⟩, ⟨%h, H13⟩⟩
  sl_exec
  sl_step
  sl_close

theorem part25 (v131 : IVec S1x1x256 32) (v256 : IVec S1x1x16 32) (c128_i32_175 : BitVec 32) :
    (Work c arg10 arg12 arg13 : sProp 𝕄)
      ⊢ wp frame (wpE (defs₀ (F := F)) Variants.none (c : Thread nD τ) none) E (k0_part25 (F := F) _ harg0 _ harg1 _ harg2 _ harg3 _ harg4 _ harg5 _ harg6 _ harg7 _ harg8 _ harg9 _ harg10 _ harg11 _ harg12 _ harg13 _ harg14 v131 v256 c128_i32_175)
        (fun _ => Work c arg10 arg12 arg13) := by
  rw [k0_part25_eq_skeleton]; unfold k0_part25_skel
  iintro ⟨⟨%f, H10⟩, ⟨%g, H12⟩, ⟨%h, H13⟩⟩
  sl_exec
  sl_step
  sl_close

theorem part26 (v131 : IVec S1x1x256 32) (v281 : FVec F S16x96x128 .f32) :
    (Work c arg10 arg12 arg13 : sProp 𝕄)
      ⊢ wp frame (wpE (defs₀ (F := F)) Variants.none (c : Thread nD τ) none) E (k0_part26 (F := F) _ harg0 _ harg1 _ harg2 _ harg3 _ harg4 _ harg5 _ harg6 _ harg7 _ harg8 _ harg9 _ harg10 _ harg11 _ harg12 _ harg13 _ harg14 v131 v281)
        (fun _ => Work c arg10 arg12 arg13) := by
  rw [k0_part26_eq_skeleton]; unfold k0_part26_skel
  iintro ⟨⟨%f, H10⟩, ⟨%g, H12⟩, ⟨%h, H13⟩⟩
  sl_exec
  sl_step
  sl_close

theorem part27 (v131 : IVec S1x1x256 32) (v304 : FVec F S16x64x128 .f32) :
    (Work c arg10 arg12 arg13 : sProp 𝕄)
      ⊢ wp frame (wpE (defs₀ (F := F)) Variants.none (c : Thread nD τ) none) E (k0_part27 (F := F) _ harg0 _ harg1 _ harg2 _ harg3 _ harg4 _ harg5 _ harg6 _ harg7 _ harg8 _ harg9 _ harg10 _ harg11 _ harg12 _ harg13 _ harg14 v131 v304)
        (fun _ => Work c arg10 arg12 arg13) := by
  rw [k0_part27_eq_skeleton]; unfold k0_part27_skel
  iintro ⟨⟨%f, H10⟩, ⟨%g, H12⟩, ⟨%h, H13⟩⟩
  sl_exec
  sl_step
  sl_close

theorem part28 (v131 : IVec S1x1x256 32) (v330 : FVec F S16x32x16 .f32) :
    (Work c arg10 arg12 arg13 : sProp 𝕄)
      ⊢ wp frame (wpE (defs₀ (F := F)) Variants.none (c : Thread nD τ) none) E (k0_part28 (F := F) _ harg0 _ harg1 _ harg2 _ harg3 _ harg4 _ harg5 _ harg6 _ harg7 _ harg8 _ harg9 _ harg10 _ harg11 _ harg12 _ harg13 _ harg14 v131 v330)
        (fun _ => Work c arg10 arg12 arg13) := by
  rw [k0_part28_eq_skeleton]; unfold k0_part28_skel
  iintro ⟨⟨%f, H10⟩, ⟨%g, H12⟩, ⟨%h, H13⟩⟩
  sl_exec
  sl_step
  sl_close

end Frames.KernelIdeal

end
-- ==== Proof.Frames.KernelIdeal.lean ====
/- The frame of KernelIdeal: the body runs from whole staging buffers, by cutting it at the eliminating parts
   (`Frames/KernelIdealParts.lean`), and the launch around it ends with every argument array as it was and every semaphore at
   zero. The one output is forgotten: nothing here reads what the kernel leaves in it. -/
module

public import proofs.«01_k».proof.Proof.Frames.KernelIdealParts
public import proofs.«01_k».proof.Proof.Gen.KernelIdeal.Frame.Runs
public import Idealize.ShloMosaic.Lib.Claim

@[expose] public section

set_option maxRecDepth 16384

noncomputable section

namespace Frames.KernelIdeal

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] k0_part20 k0_part21 k0_part22 k0_part23 k0_part24 k0_part25 k0_part26 k0_part27 k0_part28

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs' at their contents and all others at anything, the body runs and leaves the
    inputs as they were. -/
theorem body_run (c : Dev nD) (arg0 : Memref sig .tc .vmem S16x256x128 .f32) (harg0 : arg0.IsWhole) (arg1 : Memref sig .tc .vmem S16x256 .f32) (harg1 : arg1.IsWhole) (arg2 : Memref sig .tc .vmem S16x256 .f32) (harg2 : arg2.IsWhole) (arg3 : Memref sig .tc .vmem S16x256 .f32) (harg3 : arg3.IsWhole) (arg4 : Memref sig .tc .vmem S16x256 .i32) (harg4 : arg4.IsWhole) (arg5 : Memref sig .tc .vmem S1x16 .f32) (harg5 : arg5.IsWhole) (arg6 : Memref sig .tc .vmem S1x128 .f32) (harg6 : arg6.IsWhole) (arg7 : Memref sig .tc .smem S4 .f32) (harg7 : arg7.IsWhole) (arg8 : Memref sig .tc .smem S4 .f32) (harg8 : arg8.IsWhole) (arg9 : Memref sig .tc .vmem S1x16 .f32) (harg9 : arg9.IsWhole) (arg10 : Memref sig .tc .vmem S16x256x256 .f32) (harg10 : arg10.IsWhole) (arg11 : Memref sig .tc .vmem S16x256x256 .f32) (harg11 : arg11.IsWhole) (arg12 : Memref sig .tc .vmem S16x2x256 .f32) (harg12 : arg12.IsWhole) (arg13 : Memref sig .tc .vmem S16x32x256 .f32) (harg13 : arg13.IsWhole) (arg14 : Memref sig .tc .vmem S16x2x256 .f32) (harg14 : arg14.IsWhole)
    (x0 : Vec F S16x256x128 .f32) (x1 : Vec F S16x256 .f32) (x2 : Vec F S16x256 .f32) (x3 : Vec F S16x256 .f32) (x4 : Vec F S16x256 .i32) (x5 : Vec F S1x16 .f32) (x6 : Vec F S1x128 .f32) (x7 : Vec F S4 .f32) (x8 : Vec F S4 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__qeq_kernel arg0 harg0 arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__qeq_kernel_eq_skeleton]; unfold cc0__qeq_kernel_skel
    simp only [k0_part17_eq_skeleton, k0_part18_eq_skeleton, k0_part19_eq_skeleton, k0_part29_eq_skeleton]
    have cut20 := fun v51 => part20 (F := F) c E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v51
    have cut21 := fun v131 v158 c16_i32_63 => part21 (F := F) c E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v158 c16_i32_63
    have cut22 := fun v131 v180 v181 => part22 (F := F) c E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v180 v181
    have cut23 := fun v131 v206 => part23 (F := F) c E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v206
    have cut24 := fun v131 v231 => part24 (F := F) c E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v231
    have cut25 := fun v131 v256 c128_i32_175 => part25 (F := F) c E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v256 c128_i32_175
    have cut26 := fun v131 v281 => part26 (F := F) c E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v281
    have cut27 := fun v131 v304 => part27 (F := F) c E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v304
    have cut28 := fun v131 v330 => part28 (F := F) c E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v330
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _, _; isplitr; swap; · iexact H9
      ipureintro; rfl
    isplitl [Hk0_part28_0]
    · iexists _, _; isplitr; swap; · iexact Hk0_part28_0
      ipureintro; rfl
    isplitl [HS1]
    · iexists _, _; isplitr; swap; · iexact HS1
      ipureintro; rfl
    isplitl [Hk0_part28_1]
    · iexists _, _; isplitr; swap; · iexact Hk0_part28_1
      ipureintro; rfl
    isplitl [Hk0_part28_2]
    · iexists _, _; isplitr; swap; · iexact Hk0_part28_2
      ipureintro; rfl
    iexists _, _; isplitr; swap; · iexact HS4
    ipureintro; rfl

/-- The buffer that the host fills after the launch; its contents depend on the launch's output, of which nothing is said here. -/
def T0 : Finset (Ref sig .tc) := {main_v14}
/-- The host's last operation writes none of the arguments. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- From a run of the launch to the unchanged arguments: those that a window reads by the window, the others because nothing writes them. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      (Pipeline.RDat.FramePostR.arr_in h c 8 rfl).trans ((hA c 8).trans (V_main_arg7 m c)),
      (Pipeline.RDat.FramePostR.arr_in h c 7 rfl).trans ((hA c 7).trans (V_main_arg8 m c))⟩) h

/-! ## The pipeline's proof data -/

/-- The output window, 9, of whose contents nothing is said. -/
def forgets0 : Fin 10 → Bool := fun w => w.val == 9

/-- What the launch's arrays and buffers hold: the arrays start at `V`; after the body each input's buffer still holds its
    block; nothing is owed and nothing is shared. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q _ := fullShare
  owed _ := 0

/-- The arrays at the start of the launch. -/
theorem A_eq (c : Dev nD) (w : Fin cfg0.W) : (dats m 0 c).A w = V m c (Pipeline.arrRef spec0 w) := by
  dsimp only [dats]

/-- What each buffer holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- What each input's buffer holds before the body: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body starts from at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d))

/-- What the body ends with at point `t`, window by window. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d))

set_option maxHeartbeats 1200000 in
/-- The body at any point, from the buffers of the launch: the inputs hold their blocks, the work buffers anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((body_run c _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The program's table calls the body on the buffers of point `t`. -/
theorem defs₀_row (t : Fin cfg0.N) :
    defs₀ (F := F) .tc cfg0.body (cfg0.bodyArgs t (cfg0.slots t)) = bodyAt0 t := by
  unfold defs₀; rw [Defs.onTc_tc]

/-- The body does at every point what the launch asks of it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The launch as in `run_main`, and every semaphore counter at zero at its end. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- Every execution of the program ends; the arrays that the launch reads are then unchanged, and so is every buffer that neither
    the launch nor the host's last line writes. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- The frame: the arguments end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Frames.KernelIdeal

end
-- ==== Proof.Qeq.RefLoop.lean ====
module
public import proofs.«01_k».proof.Proof.Gen.ReferenceIdeal.Run
public import proofs.«01_k».proof.Proof.Gen.ReferenceIdeal.Step
/-!
The reference's loop, step by step: the generated run carries the contents of all buffers around the loop; of these only
the bordered matrix and the step's number matter, and one pass of the body takes them to `step` and to the next number.
-/
@[expose] public section
noncomputable section
namespace Qeq.Ref
open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]
variable (V0 : Valuation τ sig (Elt F)) (s : State F) (j : ℕ)

/-- The buffers hold the matrix `s` and the number `j` of the step to come. -/
structure Holds : Prop where
  f_2 : V0 (Proc.devRef .tc main_v77_2) = s.main_v77_2
  n_0 : V0 (Proc.devRef .tc main_v77_0) = constantI S_ 32 (BitVec.ofNat 32 j)
  n_1 : V0 (Proc.devRef .tc main_v77_1) = constantI S_ 32 (BitVec.ofNat 32 j)

variable {V0 s j}

set_option maxRecDepth 8192 in
/-- One pass of the body is `step`. -/
theorem step_2 (h : Holds V0 s j) : step_main_v77_2 V0 = (step j s).main_v77_2 := by
  unfold step_main_v77_2 res_main_while0b_v168 res_main_while0b_v161
  rw [h.f_2, h.n_1]
  rfl

/-- The counter after a trip. -/
theorem step_0 (h : Holds V0 s j) : step_main_v77_0 V0 = constantI S_ 32 (BitVec.ofNat 32 (j + 1)) := by
  unfold step_main_v77_0
  rw [h.n_0]
  funext i
  show BitVec.ofNat 32 j + 1#32 = BitVec.ofNat 32 (j + 1)
  simp only [BitVec.ofNat_add]
/-- Its copy after a trip. -/
theorem step_1 (h : Holds V0 s j) : step_main_v77_1 V0 = constantI S_ 32 (BitVec.ofNat 32 (j + 1)) := by
  unfold step_main_v77_1
  rw [h.n_1]
  funext i
  show BitVec.ofNat 32 j + 1#32 = BitVec.ofNat 32 (j + 1)
  simp only [BitVec.ofNat_add]

set_option maxRecDepth 8192 in
/-- The result, of the matrix after the loop. -/
theorem out_main_v155_holds (h : Holds V0 s j) {x_main_arg0 : (⟨S4096x128, .f32⟩ : BufTy).Contents (Elt F)} (h_main_arg0 : V0 (Proc.devRef .tc main_arg0) = x_main_arg0) {x_main_arg1 : (⟨S4096x3, .f32⟩ : BufTy).Contents (Elt F)} (h_main_arg1 : V0 (Proc.devRef .tc main_arg1) = x_main_arg1) {x_main_arg2 : (⟨S4096, .i32⟩ : BufTy).Contents (Elt F)} (h_main_arg2 : V0 (Proc.devRef .tc main_arg2) = x_main_arg2) {x_main_arg4 : (⟨S4096, .i32⟩ : BufTy).Contents (Elt F)} (h_main_arg4 : V0 (Proc.devRef .tc main_arg4) = x_main_arg4) {x_main_arg6 : (⟨S128x1, .f32⟩ : BufTy).Contents (Elt F)} (h_main_arg6 : V0 (Proc.devRef .tc main_arg6) = x_main_arg6) {x_main_arg7 : (⟨S4, .f32⟩ : BufTy).Contents (Elt F)} (h_main_arg7 : V0 (Proc.devRef .tc main_arg7) = x_main_arg7) {x_main_arg8 : (⟨S4, .f32⟩ : BufTy).Contents (Elt F)} (h_main_arg8 : V0 (Proc.devRef .tc main_arg8) = x_main_arg8) : out_main_v155 V0 = Cert.ReferenceIdeal.Step.R_main_v155 s x_main_arg0 x_main_arg1 x_main_arg2 x_main_arg4 x_main_arg6 x_main_arg7 x_main_arg8 := by
  unfold out_main_v155 Cert.ReferenceIdeal.Step.R_main_v155
  rw [h.f_2, h_main_arg0, h_main_arg1, h_main_arg2, h_main_arg4, h_main_arg6, h_main_arg7, h_main_arg8]
  try rfl

/-- One trip keeps the valuation holding: `step` of the state, the same set-up values, the next number. -/
theorem holds_step (h : Holds V0 s j) : Holds (STEP V0) (step j s) (j + 1) where
  f_2 := (STEP_main_v77_2 V0).trans (step_2 h)
  n_0 := (STEP_main_v77_0 V0).trans (step_0 h)
  n_1 := (STEP_main_v77_1 V0).trans (step_1 h)

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))

variable (m : (ℓ : Loc nD τ sig) → Buf (Elt F) ℓ) (c : Dev nD)

section Entry
open Cert.ReferenceIdeal.Step

/-- Two pieces put together, piece by piece. -/
theorem concat_two {α : Type} {t s1 s2 : Shape} {d : Fin t.rank} {x x' : s1.Idx → α} {y y' : s2.Idx → α}
    {h : Shape.Concatenates (([⟨s1, x⟩, ⟨s2, y⟩] : List ((s : Shape) × (s.Idx → α))).map (·.1)) t d}
    {h' : Shape.Concatenates (([⟨s1, x'⟩, ⟨s2, y'⟩] : List ((s : Shape) × (s.Idx → α))).map (·.1)) t d}
    (hx : x = x') (hy : y = y') : concatenate t d [⟨s1, x⟩, ⟨s2, y⟩] h = concatenate t d [⟨s1, x'⟩, ⟨s2, y'⟩] h' := by
  subst hx hy; rfl

/-- Three pieces put together, piece by piece. -/
theorem concat_three {α : Type} {t s1 s2 s3 : Shape} {d : Fin t.rank} {x x' : s1.Idx → α} {y y' : s2.Idx → α} {z z' : s3.Idx → α}
    {h : Shape.Concatenates (([⟨s1, x⟩, ⟨s2, y⟩, ⟨s3, z⟩] : List ((s : Shape) × (s.Idx → α))).map (·.1)) t d}
    {h' : Shape.Concatenates (([⟨s1, x'⟩, ⟨s2, y'⟩, ⟨s3, z'⟩] : List ((s : Shape) × (s.Idx → α))).map (·.1)) t d}
    (hx : x = x') (hy : y = y') (hz : z = z') :
    concatenate t d [⟨s1, x⟩, ⟨s2, y⟩, ⟨s3, z⟩] h = concatenate t d [⟨s1, x'⟩, ⟨s2, y'⟩, ⟨s3, z'⟩] h' := by
  subst hx hy hz; rfl

set_option maxRecDepth 65536 in
set_option maxHeartbeats 4000000 in
/-- What stands in the buffers before the loop: number 0 and the bordered matrix. -/
theorem entry_holds : Holds (entryContents preI m c) (initState m c) 0 := by
  constructor
  · simp only [entryContents, afterL_cons, afterL_nil]
    after_reads_simp
    unfold initState init A_main_v76
    dsimp only [id]
    refine concat_two ?_ ?_
    · after_reads_simp
      unfold A_main_v71
      refine concat_three ?_ ?_ ?_
      · after_reads_simp
        rfl
      · after_reads_simp
        rfl
      · after_reads_simp
        rfl
    · after_reads_simp
      unfold A_main_v75
      refine concat_three ?_ ?_ ?_ <;> after_reads_simp <;> rfl
  · simp only [entryContents, afterL_cons, afterL_nil]
    after_reads_simp
    rfl
  · simp only [entryContents, afterL_cons, afterL_nil]
    after_reads_simp
    rfl

end Entry

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- Every execution of the reference ends, with the result that state number 257 gives, of any states that start at `initState`
    and go on by `step`, and with every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v155) = Cert.ReferenceIdeal.Step.R_main_v155 (it c 257) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 257
    ⟨(h c).1.trans (out_main_v155_holds hk (iter_main_arg0 m c 257) (iter_main_arg1 m c 257) (iter_main_arg2 m c 257) (iter_main_arg4 m c 257) (iter_main_arg6 m c 257) (iter_main_arg7 m c 257) (iter_main_arg8 m c 257)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Qeq.Ref

end
-- ==== Proof.Qeq.Elim.lean ====
/- Elimination over the reals: a symmetric matrix reduced without row exchanges and solved by substitution from below, and
   the same system with a border reduced by Gauss-Jordan steps. The two give the same charges. -/
module

public import Mathlib.Data.Real.Basic
public import Mathlib.Algebra.BigOperators.Intervals
public import Mathlib.Algebra.BigOperators.Ring.Finset
public import Mathlib.Algebra.BigOperators.Field
public import Mathlib.Tactic.Ring
public import Mathlib.Tactic.Linarith
public import Mathlib.Tactic.FieldSimp

@[expose] public section

noncomputable section

namespace Qeq

open Finset

/-- The matrix left after `t` columns of `C` are eliminated (row `t` is the next pivot row). -/
def schur (C : ℕ → ℕ → ℝ) : ℕ → ℕ → ℕ → ℝ
  | 0 => C
  | t + 1 => fun i j => schur C t i j - schur C t t i * (schur C t t j / schur C t t t)

/-- The right-hand side after `t` columns are eliminated. -/
def rhs (C : ℕ → ℕ → ℝ) (z : ℕ → ℝ) : ℕ → ℕ → ℝ
  | 0 => z
  | t + 1 => fun i => rhs C z t i - if t < i then schur C t t i / schur C t t t * rhs C z t t else 0

/-- Substitution from below: after `n` steps the last `n` unknowns of `U x = z` are known and the others are zero; `U` is read in
    whole rows. -/
def back (N : ℕ) (U : ℕ → ℕ → ℝ) (z : ℕ → ℝ) : ℕ → ℕ → ℝ
  | 0 => fun _ => 0
  | n + 1 => fun j => if j = N - 1 - n then
      (z j - ∑ l ∈ range N, U j l * back N U z n l) / U j j else back N U z n j

/-- `k` Gauss-Jordan steps without row exchanges. -/
def jordan (M : ℕ → ℕ → ℝ) : ℕ → ℕ → ℕ → ℝ
  | 0 => M
  | k + 1 => fun i j => if i = k then jordan M k k j / jordan M k k k
      else jordan M k i j - jordan M k i k * (jordan M k k j / jordan M k k k)

/-- Elimination keeps a symmetric matrix symmetric. -/
theorem schur_symm {C : ℕ → ℕ → ℝ} (hC : ∀ i j, C i j = C j i) (t : ℕ) : ∀ i j, schur C t i j = schur C t j i := by
  induction t with
  | zero => exact hC
  | succ t ih =>
    intro i j
    simp only [schur]
    rw [ih i j]; ring

/-- Below and right of the pivots the two eliminations agree. -/
theorem jordan_eq_schur {C M : ℕ → ℕ → ℝ} (N : ℕ) (hC : ∀ i j, C i j = C j i)
    (hM : ∀ i j, i < N → j < N → M i j = C i j) (t : ℕ) :
    ∀ i j, t ≤ i → i < N → t ≤ j → j < N → jordan M t i j = schur C t i j := by
  induction t with
  | zero => intro i j _ hi _ hj; exact hM i j hi hj
  | succ t ih =>
    intro i j hi hiN hj hjN
    have h : i ≠ t := by omega
    simp only [jordan, schur, if_neg h]
    rw [ih i j (by omega) hiN (by omega) hjN, ih i t (by omega) hiN le_rfl (by omega),
      ih t j le_rfl (by omega) (by omega) hjN, ih t t le_rfl (by omega) le_rfl (by omega), schur_symm hC t i t]

/-- A vector that the rows annihilate is annihilated after any number of steps. -/
theorem jordan_null {M : ℕ → ℕ → ℝ} {n m : ℕ} {y : ℕ → ℝ} (h : ∀ i < n, ∑ j ∈ range m, M i j * y j = 0) (k : ℕ) (hk : k ≤ n) :
    ∀ i < n, ∑ j ∈ range m, jordan M k i j * y j = 0 := by
  induction k with
  | zero => exact h
  | succ k ih =>
    intro i hi
    have ih := ih (by omega)
    have h1 : ∑ j ∈ range m, jordan M k k j / jordan M k k k * y j = 0 := by
      have : ∑ j ∈ range m, jordan M k k j / jordan M k k k * y j
          = (∑ j ∈ range m, jordan M k k j * y j) / jordan M k k k := by
        rw [sum_div]; exact sum_congr rfl fun j _ => by ring
      rw [this, ih k (by omega), zero_div]
    simp only [jordan]
    by_cases hik : i = k
    · simp only [if_pos hik]; exact h1
    · simp only [if_neg hik]
      have : ∑ j ∈ range m, (jordan M k i j - jordan M k i k * (jordan M k k j / jordan M k k k)) * y j
          = ∑ j ∈ range m, jordan M k i j * y j - jordan M k i k * ∑ j ∈ range m, jordan M k k j / jordan M k k k * y j := by
        rw [mul_sum, ← sum_sub_distrib]; exact sum_congr rfl fun j _ => by ring
      rw [this, ih i hi, h1]; ring

/-- With nonzero pivots the eliminated columns are unit columns. -/
theorem jordan_unit {M : ℕ → ℕ → ℝ} {n : ℕ} (hp : ∀ k < n, jordan M k k k ≠ 0) (k : ℕ) (hk : k ≤ n) :
    ∀ i j, j < k → jordan M k i j = if i = j then 1 else 0 := by
  induction k with
  | zero => intro i j hj; omega
  | succ k ih =>
    intro i j hj
    have ih := ih (by omega)
    have hpk := hp k (by omega)
    simp only [jordan]
    rcases Nat.lt_succ_iff_lt_or_eq.mp hj with hj' | rfl
    · have hkj : k ≠ j := by omega
      have h0 : jordan M k k j = 0 := by rw [ih k j hj', if_neg hkj]
      rw [h0, zero_div]
      by_cases hik : i = k
      · rw [if_pos hik, if_neg (by omega)]
      · rw [if_neg hik, ih i j hj']; ring
    · by_cases hik : i = j
      · rw [if_pos hik, if_pos hik, div_self hpk]
      · rw [if_neg hik, if_neg hik, div_self hpk]; ring

/-- The last column of the reduced matrix is the solution, up to the sign of the last weight. -/
theorem jordan_solution {M : ℕ → ℕ → ℝ} {n : ℕ} {y : ℕ → ℝ} (hp : ∀ k < n, jordan M k k k ≠ 0)
    (h : ∀ i < n, ∑ j ∈ range (n + 1), M i j * y j = 0) (i : ℕ) (hi : i < n) : y i + jordan M n i n * y n = 0 := by
  have := jordan_null h n le_rfl i hi
  rw [sum_range_succ] at this
  rw [← this]
  congr 1
  rw [sum_congr rfl (fun j hj => by rw [jordan_unit hp n le_rfl i j (mem_range.mp hj)] :
    ∀ j ∈ range n, jordan M n i j * y j = (if i = j then 1 else 0) * y j)]
  simp [hi]

/-! ## The substitution from below -/

/-- The unknowns that are not yet solved for are zero. -/
theorem back_zero (N : ℕ) (U : ℕ → ℕ → ℝ) (z : ℕ → ℝ) (n : ℕ) (hn : n ≤ N) : ∀ j, j + n < N → back N U z n j = 0 := by
  induction n with
  | zero => intro j _; rfl
  | succ n ih =>
    intro j hj
    simp only [back]
    rw [if_neg (by omega), ih (by omega) j (by omega)]

/-- An unknown once solved for does not change. -/
theorem back_stable (N : ℕ) (U : ℕ → ℕ → ℝ) (z : ℕ → ℝ) (n d : ℕ) (hd : n + d ≤ N) :
    ∀ j, N ≤ j + n → back N U z (n + d) j = back N U z n j := by
  induction d with
  | zero => intro j _; rfl
  | succ d ih =>
    intro j hj
    rw [← ih (by omega) j hj, ← Nat.add_assoc]
    simp only [back]
    rw [if_neg (by omega)]

/-- The solution's entry `k` from the entries below it. -/
theorem back_entry (N : ℕ) (U : ℕ → ℕ → ℝ) (z : ℕ → ℝ) (k : ℕ) (hk : k < N) :
    back N U z N k = (z k - ∑ l ∈ Ico (k + 1) N, U k l * back N U z N l) / U k k := by
  have h1 : back N U z N k = back N U z (N - 1 - k + 1) k := by
    have := back_stable N U z (N - 1 - k + 1) k (by omega) k (by omega)
    rwa [show N - 1 - k + 1 + k = N by omega] at this
  rw [h1]
  simp only [back]
  rw [if_pos (by omega)]
  congr 2
  rw [range_eq_Ico, ← sum_Ico_consecutive _ (Nat.zero_le (k + 1)) (by omega : k + 1 ≤ N)]
  rw [sum_eq_zero, zero_add]
  · refine sum_congr rfl fun l hl => ?_
    rw [mem_Ico] at hl
    have := back_stable N U z (N - 1 - k) (k + 1) (by omega) l (by omega)
    rw [show N - 1 - k + (k + 1) = N by omega] at this
    rw [this]
  · intro l hl
    rw [mem_Ico] at hl
    rw [back_zero N U z (N - 1 - k) (by omega) l (by omega), mul_zero]

/-- The substitution solves every reduced system. -/
theorem back_schur {C U : ℕ → ℕ → ℝ} {z w : ℕ → ℝ} {N : ℕ} (hC : ∀ i j, C i j = C j i)
    (hp : ∀ k < N, schur C k k k ≠ 0)
    (hU : ∀ k l, k < N → k ≤ l → l < N → U k l = schur C k k l) (hw : ∀ k < N, w k = rhs C z k k) (d : ℕ) (hd : d ≤ N) :
    ∀ i, N - d ≤ i → i < N → ∑ j ∈ Ico (N - d) N, schur C (N - d) i j * back N U w N j = rhs C z (N - d) i := by
  induction d with
  | zero => intro i h1 h2; omega
  | succ d ih =>
    intro i hi hiN
    have ih := ih (by omega)
    obtain ⟨t, ht⟩ : ∃ t, t = N - (d + 1) := ⟨_, rfl⟩
    have ht' : N - d = t + 1 := by omega
    have htN : t < N := by omega
    rw [ht'] at ih
    rw [← ht] at hi ⊢
    rw [sum_eq_sum_Ico_succ_bot htN]
    have hx := back_entry N U w t htN
    rw [hU t t htN le_rfl htN, hw t htN, sum_congr rfl (fun l hl => by
      rw [mem_Ico] at hl; rw [hU t l htN (by omega) hl.2] :
      ∀ l ∈ Ico (t + 1) N, U t l * back N U w N l = schur C t t l * back N U w N l)] at hx
    have hpt := hp t htN
    have hx' : schur C t t t * back N U w N t = rhs C z t t - ∑ l ∈ Ico (t + 1) N, schur C t t l * back N U w N l := by
      rw [hx]; field_simp
    rcases Nat.eq_or_lt_of_le hi with rfl | hlt
    · rw [hx']; ring
    · have h2 : ∑ j ∈ Ico (t + 1) N, schur C t i j * back N U w N j
          = ∑ j ∈ Ico (t + 1) N, schur C (t + 1) i j * back N U w N j
            + schur C t t i / schur C t t t * ∑ j ∈ Ico (t + 1) N, schur C t t j * back N U w N j := by
        rw [mul_sum, ← sum_add_distrib]
        refine sum_congr rfl fun j _ => ?_
        simp only [schur]; ring
      rw [h2, ih i (by omega) hiN]
      simp only [rhs]
      rw [if_pos hlt, schur_symm hC t i t]
      have h3 : ∑ l ∈ Ico (t + 1) N, schur C t t l * back N U w N l
          = rhs C z t t - schur C t t t * back N U w N t := by rw [hx']; ring
      rw [h3]; field_simp; ring

/-- The substitution solves the system. -/
theorem back_solves {C U : ℕ → ℕ → ℝ} {z w : ℕ → ℝ} {N : ℕ} (hC : ∀ i j, C i j = C j i)
    (hp : ∀ k < N, schur C k k k ≠ 0)
    (hU : ∀ k l, k < N → k ≤ l → l < N → U k l = schur C k k l) (hw : ∀ k < N, w k = rhs C z k k) (i : ℕ) (hi : i < N) :
    ∑ j ∈ range N, C i j * back N U w N j = z i := by
  have := back_schur hC hp hU hw N le_rfl i (by omega) hi
  rwa [Nat.sub_self, ← range_eq_Ico] at this

/-! ## The bordered system -/

/-- The system with its border: the matrix, a row and a column of ones, and the right-hand side as the last column. -/
def border (N : ℕ) (C : ℕ → ℕ → ℝ) (chi : ℕ → ℝ) (tc : ℝ) (i j : ℕ) : ℝ :=
  if i < N then (if j < N then C i j else if j = N then 1 else - chi i)
  else (if j < N then 1 else if j = N then 0 else tc)

/-- A row of the bordered matrix times its solution: the row of `C`, the multiplier, and the right-hand side. -/
theorem border_sum (N : ℕ) (C : ℕ → ℕ → ℝ) (chi : ℕ → ℝ) (tc : ℝ) (y : ℕ → ℝ) (i : ℕ) :
    ∑ j ∈ range (N + 1 + 1), border N C chi tc i j * y j
      = if i < N then ∑ j ∈ range N, C i j * y j + y N - chi i * y (N + 1) else ∑ j ∈ range N, y j + tc * y (N + 1) := by
  rw [sum_range_succ, sum_range_succ]
  by_cases h : i < N
  · rw [if_pos h, sum_congr rfl (fun j hj => by rw [border, if_pos h, if_pos (mem_range.mp hj)] :
      ∀ j ∈ range N, border N C chi tc i j * y j = C i j * y j)]
    simp only [border, if_pos h, if_neg (lt_irrefl N), if_neg (show ¬ N + 1 < N by omega), if_neg (show ¬ N + 1 = N by omega), if_true]
    ring
  · rw [if_neg h, sum_congr rfl (fun j hj => by rw [border, if_neg h, if_pos (mem_range.mp hj), one_mul] :
      ∀ j ∈ range N, border N C chi tc i j * y j = y j)]
    simp only [border, if_neg h, if_neg (lt_irrefl N), if_neg (show ¬ N + 1 < N by omega), if_neg (show ¬ N + 1 = N by omega), if_true]
    ring

/-- The charges by two substitutions and a multiplier are the last column of the reduced bordered matrix, and the multiplier's
    denominator is not zero. -/
theorem charges {C : ℕ → ℕ → ℝ} {chi xa xb : ℕ → ℝ} {tc : ℝ} {N : ℕ}
    (hp : ∀ k < N + 1, jordan (border N C chi tc) k k k ≠ 0)
    (ha : ∀ i < N, ∑ j ∈ range N, C i j * xa j = - chi i) (hb : ∀ i < N, ∑ j ∈ range N, C i j * xb j = 1) :
    ∑ j ∈ range N, xb j ≠ 0 ∧ ∀ i < N,
      xa i - (∑ j ∈ range N, xa j - tc) / (∑ j ∈ range N, xb j) * xb i = jordan (border N C chi tc) (N + 1) i (N + 1) := by
  have hb0 : ∑ j ∈ range N, xb j ≠ 0 := by
    intro h0
    have := jordan_solution (y := fun j => if j < N then xb j else if j = N then -1 else 0) hp (fun i hi => by
      rw [border_sum]
      have hx : ∀ j ∈ range N, (if j < N then xb j else if j = N then (-1 : ℝ) else 0) = xb j := fun j hj => if_pos (mem_range.mp hj)
      rw [sum_congr rfl hx, h0, sum_congr rfl (fun j hj => by rw [hx j hj] :
        ∀ j ∈ range N, C i j * (if j < N then xb j else if j = N then (-1 : ℝ) else 0) = C i j * xb j)]
      split_ifs with h <;> simp_all) N (by omega)
    simp at this
  refine ⟨hb0, fun i hi => ?_⟩
  obtain ⟨lam, hlam⟩ : ∃ lam, lam = (∑ j ∈ range N, xa j - tc) / (∑ j ∈ range N, xb j) := ⟨_, rfl⟩
  have hl : lam * ∑ j ∈ range N, xb j = ∑ j ∈ range N, xa j - tc := by rw [hlam]; field_simp
  rw [← hlam]
  have := jordan_solution (y := fun j => if j < N then xa j - lam * xb j else if j = N then lam else -1) hp (fun i hi => by
      rw [border_sum]
      have hx : ∀ j ∈ range N, (if j < N then xa j - lam * xb j else if j = N then lam else -1) = xa j - lam * xb j :=
        fun j hj => if_pos (mem_range.mp hj)
      rw [sum_congr rfl hx, sum_congr rfl (fun j hj => by rw [hx j hj] :
        ∀ j ∈ range N, C i j * (if j < N then xa j - lam * xb j else if j = N then lam else -1) = C i j * (xa j - lam * xb j)),
        sum_sub_distrib, ← mul_sum, hl]
      simp only [if_neg (lt_irrefl N), if_neg (show ¬ N + 1 < N by omega), if_neg (show ¬ N + 1 = N by omega), if_true]
      by_cases h : i < N
      · rw [if_pos h]
        have e : ∑ j ∈ range N, C i j * (xa j - lam * xb j)
            = ∑ j ∈ range N, C i j * xa j - lam * ∑ j ∈ range N, C i j * xb j := by
          rw [mul_sum, ← sum_sub_distrib]; exact sum_congr rfl fun j _ => by ring
        rw [e, ha i h, hb i h]
        ring
      · rw [if_neg h]; ring) i (by omega)
  rw [if_pos hi, if_neg (by omega), if_neg (by omega)] at this
  linarith

/-! ## The energy -/

/-- Half the quadratic form of a symmetric matrix split in its upper part and its diagonal. -/
theorem energy {C up : ℕ → ℕ → ℝ} {dg chi q : ℕ → ℝ} {N : ℕ}
    (hC : ∀ i j, i < N → j < N → C i j = up i j + up j i + if i = j then dg i else 0) :
    ∑ i ∈ range N, (1 / 2 * (∑ j ∈ range N, C i j * q j) + chi i) * q i
      = ∑ i ∈ range N, ∑ j ∈ range N, up i j * q i * q j
        + ∑ i ∈ range N, (chi i * q i + 1 / 2 * dg i * (q i * q i)) := by
  have h1 : ∀ i ∈ range N, (∑ j ∈ range N, C i j * q j) * q i
      = ∑ j ∈ range N, up i j * q i * q j + ∑ j ∈ range N, up j i * q j * q i + dg i * (q i * q i) := by
    intro i hi
    rw [sum_mul, ← sum_add_distrib]
    have : dg i * (q i * q i) = ∑ j ∈ range N, if i = j then dg i * (q i * q j) else 0 := by
      rw [sum_ite_eq, if_pos hi]
    rw [this, ← sum_add_distrib]
    refine sum_congr rfl fun j hj => ?_
    rw [hC i j (mem_range.mp hi) (mem_range.mp hj)]
    split_ifs <;> ring
  have h2 : ∑ i ∈ range N, ∑ j ∈ range N, up j i * q j * q i = ∑ i ∈ range N, ∑ j ∈ range N, up i j * q i * q j := sum_comm
  have h3 : ∑ i ∈ range N, (1 / 2 * (∑ j ∈ range N, C i j * q j) + chi i) * q i
      = ∑ i ∈ range N, (1 / 2 * ((∑ j ∈ range N, C i j * q j) * q i) + chi i * q i) := sum_congr rfl fun i _ => by ring
  rw [h3, sum_add_distrib, ← mul_sum, sum_congr rfl h1, sum_add_distrib, sum_add_distrib, h2, sum_add_distrib]
  have h4 : ∑ i ∈ range N, 1 / 2 * dg i * (q i * q i) = 1 / 2 * ∑ i ∈ range N, dg i * (q i * q i) := by
    rw [mul_sum]; exact sum_congr rfl fun i _ => by ring
  rw [h4]; ring

end Qeq

end
-- ==== Proof.Qeq.RefStep.lean ====
/- One trip of the reference's elimination, on real entries: the pivot row is divided by its pivot and taken from every other
   row. -/
module

public import proofs.«01_k».proof.Proof.Qeq.RefLoop
public import proofs.«01_k».proof.Proof.Qeq.Elim
public import Idealize.ShloMosaic.Lib.Pointwise
public import Idealize.ShloMosaic.Lib.WordCmp
public import Idealize.ShloMosaic.Lib.DynamicIndex
public import Idealize.ShloMosaic.Lib.StableHlo.Predicate

@[expose] public section

set_option maxRecDepth 16384

noncomputable section

namespace Qeq.Ref

open Idealize.ShloMosaic Cert.ReferenceIdeal Cert.ReferenceIdeal.Step

/-- A small number, read as a word and back. -/
theorem word_int (j : ℕ) (hj : j < 258) : (BitVec.ofNat 32 j).toInt = j := StableHlo.Predicate.toInt_ofNat_small j (by omega)

/-- The number of a trip, read as a start index. -/
theorem trip_start (j : ℕ) (hj : j < 257) (x : IVec S_ 32) (i : S_.Idx) :
    (select (cmpi .slt (constantI S_ 32 (BitVec.ofNat 32 j)) (constantI S_ 32 0#32)) x (constantI S_ 32 (BitVec.ofNat 32 j)) i).toInt = j := by
  rw [select_slt_zero_of_nonneg]
  · exact word_int j (by omega)
  · show 0 ≤ (BitVec.ofNat 32 j).toInt
    rw [word_int j (by omega)]; omega

/-- The pivot row. -/
theorem row_at (j : ℕ) (hj : j < 257) (s : State Ideal) (b : Fin 16) (k : Fin 258) :
    b10 j s (ix3 b 0 k) = s.main_v77_2 (ix3 b ⟨j, hj⟩ k) := by
  unfold b10
  refine (congrFun (WordCmp.dynamicSlice_eq_extract (s := S16x257x258) S16x1x258 _ _ _ ![0, j, 0] ⟨rfl, by intro a; fin_cases a <;> simp <;> omega⟩
    (by intro a; fin_cases a; · rfl
        · exact trip_start j hj _ _
        · rfl)) _).trans ?_
  pointwise

/-- The pivot. -/
theorem pivot_at (j : ℕ) (hj : j < 257) (s : State Ideal) (b : Fin 16) :
    b19 j s (ix3 b 0 0) = s.main_v77_2 (ix3 b ⟨j, hj⟩ ⟨j, by omega⟩) := by
  unfold b19
  refine (congrFun (WordCmp.dynamicSlice_eq_extract (s := S16x1x258) S16x1x1 _ _ _ ![0, 0, j] ⟨rfl, by intro a; fin_cases a <;> simp <;> omega⟩
    (by intro a; fin_cases a; · rfl
        · rfl
        · exact trip_start j hj _ _)) _).trans ?_
  rw [← row_at j hj s b ⟨j, by omega⟩]
  pointwise

/-- The pivot column. -/
theorem column_at (j : ℕ) (hj : j < 257) (s : State Ideal) (b : Fin 16) (i : Fin 257) :
    b30 j s (ix3 b i 0) = s.main_v77_2 (ix3 b i ⟨j, by omega⟩) := by
  unfold b30
  refine (congrFun (WordCmp.dynamicSlice_eq_extract (s := S16x257x258) S16x257x1 _ _ _ ![0, 0, j] ⟨rfl, by intro a; fin_cases a <;> simp <;> omega⟩
    (by intro a; fin_cases a; · rfl
        · rfl
        · exact trip_start j hj _ _)) _).trans ?_
  pointwise

/-- The pivot row over its pivot. -/
theorem scaled_at (j : ℕ) (hj : j < 257) (s : State Ideal) (b : Fin 16) (k : Fin 258) :
    b21 j s (ix3 b 0 k) = Ideal.div (s.main_v77_2 (ix3 b ⟨j, hj⟩ k)) (s.main_v77_2 (ix3 b ⟨j, hj⟩ ⟨j, by omega⟩)) := by
  rw [← row_at, ← pivot_at]
  unfold b21 b20
  pointwise

/-- What a trip leaves in an entry. -/
theorem trip_at (j : ℕ) (hj : j < 257) (s : State Ideal) (b : Fin 16) (i : Fin 257) (k : Fin 258) :
    b42 j s (ix3 b i k) = if (i : ℕ) = j then
        Ideal.div (s.main_v77_2 (ix3 b ⟨j, hj⟩ k)) (s.main_v77_2 (ix3 b ⟨j, hj⟩ ⟨j, by omega⟩))
      else s.main_v77_2 (ix3 b i k) - s.main_v77_2 (ix3 b i ⟨j, by omega⟩)
        * Ideal.div (s.main_v77_2 (ix3 b ⟨j, hj⟩ k)) (s.main_v77_2 (ix3 b ⟨j, hj⟩ ⟨j, by omega⟩)) := by
  rw [← scaled_at, ← column_at j hj s b i]
  unfold b42 b41 b40 b39 b38 b37 b36 b35 b34 b33 b32 b31
  pointwise
  rw [show id (constantI S_ 32 (BitVec.ofNat 32 j)) ix0 = BitVec.ofNat 32 j from rfl]
  by_cases h : (i : ℕ) = j
  · rw [if_pos h, h, StableHlo.Predicate.cmpi_eq_iff.mpr rfl]; rfl
  · have hne : IntOp.cmpi CmpIPredicate.eq (BitVec.ofNat 32 (i : ℕ)) (BitVec.ofNat 32 j) ≠ 1#1 := fun e => by
      have := congrArg BitVec.toInt (StableHlo.Predicate.cmpi_eq_iff.mp e)
      rw [word_int i (by omega), word_int j (by omega)] at this
      omega
    rw [if_neg h]
    exact if_neg hne

/-- A trip on real entries with a nonzero pivot is the elimination's step. -/
theorem trip_real (j : ℕ) (hj : j < 257) (s : State Ideal) (r : Fin 16 → ℕ → ℕ → ℝ)
    (hs : ∀ (b : Fin 16) (i : Fin 257) (k : Fin 258), s.main_v77_2 (ix3 b i k) = ((jordan (r b) j i k : ℝ) : EReal))
    (hp : ∀ b, jordan (r b) j j j ≠ 0) (b : Fin 16) (i : Fin 257) (k : Fin 258) :
    (step j s).main_v77_2 (ix3 b i k) = ((jordan (r b) (j + 1) i k : ℝ) : EReal) := by
  rw [step_main_v77_2, trip_at j hj, hs, hs, hs, hs, Ideal.div_coe (hp b)]
  simp only [jordan]
  split_ifs with h
  · rw [← EReal.coe_mul, ← div_eq_mul_one_div]
  · rw [← EReal.coe_mul, ← EReal.coe_mul, ← EReal.coe_sub, ← div_eq_mul_one_div]

end Qeq.Ref

end
-- ==== Proof.Qeq.RefMat.lean ====
/- The reference's bordered matrix, entry by entry. -/
module

public import proofs.«01_k».proof.Proof.Qeq.RefStep

@[expose] public section

set_option maxRecDepth 16384

noncomputable section

namespace Qeq.Ref

open Idealize.ShloMosaic Cert.ReferenceIdeal Cert.ReferenceIdeal.Gen Cert.ReferenceIdeal.Step

/-- The arguments of the computation. -/
structure Args where
  a0 : FVec Ideal S4096x128 .f32
  a1 : FVec Ideal S4096x3 .f32
  a2 : IVec S4096 32
  a4 : IVec S4096 32
  a5 : FVec Ideal S16x1 .f32
  a6 : FVec Ideal S128x1 .f32
  a7 : FVec Ideal S4 .f32
  a8 : FVec Ideal S4 .f32

/-- The bordered matrices. -/
abbrev bordered (A : Args) : FVec Ideal S16x257x258 .f32 := A_main_v76 (F := Ideal) A.a0 A.a1 A.a2 A.a5 A.a6 A.a7 A.a8

/-- The matrices. -/
abbrev matrix (A : Args) : FVec Ideal S16x256x256 .f32 := A_main_v67 (F := Ideal) A.a0 A.a1 A.a2 A.a5 A.a6 A.a7 A.a8

/-- The node energies. -/
abbrev chi (A : Args) : FVec Ideal S16x256 .f32 := A_main_v1 (F := Ideal) A.a0 A.a1 A.a2 A.a5 A.a6 A.a7 A.a8

/-- The part of the matrices above the diagonal. -/
abbrev upper (A : Args) : FVec Ideal S16x256x256 .f32 := A_main_v51 (F := Ideal) A.a0 A.a1 A.a2 A.a5 A.a6 A.a7 A.a8

/-- The entry of every pair of atoms. -/
abbrev pairs (A : Args) : FVec Ideal S16x256x256 .f32 := A_main_v44 (F := Ideal) A.a0 A.a1 A.a2 A.a5 A.a6 A.a7 A.a8

/-- The diagonals. -/
abbrev diagonal (A : Args) : FVec Ideal S16x256 .f32 := A_main_v56 (F := Ideal) A.a0 A.a1 A.a2 A.a5 A.a6 A.a7 A.a8

/-- The square of each atom's hardness. -/
abbrev hardness (A : Args) : FVec Ideal S16x256 .f32 := A_main_v10 (F := Ideal) A.a0 A.a1 A.a2 A.a5 A.a6 A.a7 A.a8

/-- The width of each atom. -/
abbrev width (A : Args) : FVec Ideal S16x256 .f32 := A_main_v18 (F := Ideal) A.a0 A.a1 A.a2 A.a5 A.a6 A.a7 A.a8

/-- The distance of each pair of atoms. -/
abbrev distance (A : Args) : FVec Ideal S16x256x256 .f32 := A_main_v29 (F := Ideal) A.a0 A.a1 A.a2 A.a5 A.a6 A.a7 A.a8

variable (A : Args)

/-- The first 256 rows and columns are the matrix. -/
theorem bordered_mat (b : Fin 16) (i j : Fin 256) : bordered A (ix3 b ⟨i, by omega⟩ ⟨j, by omega⟩) = matrix A (ix3 b i j) := by
  pointwise [bordered, A_main_v76, A_main_v71]

/-- The border's column is ones. -/
theorem bordered_one (b : Fin 16) (i : Fin 256) : bordered A (ix3 b ⟨i, by omega⟩ 256) = 1 := by
  pointwise [bordered, A_main_v76, A_main_v71, K_main_v68, K_main_cst_10]

/-- The right-hand side of an atom's row is its energy, negated. -/
theorem bordered_chi (b : Fin 16) (i : Fin 256) : bordered A (ix3 b ⟨i, by omega⟩ 257) = - chi A (ix2 b i) := by
  pointwise [bordered, A_main_v76, A_main_v71, A_main_v70, A_main_v69]

/-- The border's row is ones. -/
theorem bordered_last (b : Fin 16) (j : Fin 256) : bordered A (ix3 b 256 ⟨j, by omega⟩) = 1 := by
  pointwise [bordered, A_main_v76, A_main_v75, K_main_v72, K_main_cst_11]

/-- The corner is zero. -/
theorem bordered_zero (b : Fin 16) : bordered A (ix3 b 256 256) = 0 := by
  pointwise [bordered, A_main_v76, A_main_v75, K_main_v73, K_main_cst_12]

/-- The right-hand side of the border's row is the total charge. -/
theorem bordered_total (b : Fin 16) : bordered A (ix3 b 256 257) = A.a5 (ix2 b 0) := by
  pointwise [bordered, A_main_v76, A_main_v75, A_main_v74]

/-- A choice by equality of two small words. -/
theorem word_sel {α : Type} {i j : ℕ} (hi : i < 258) (hj : j < 258) (x y : α) :
    Scalar.select (IntOp.cmpi .eq (BitVec.ofNat 32 i) (BitVec.ofNat 32 j)) x y = if i = j then x else y := by
  unfold Scalar.select
  refine if_congr (StableHlo.Predicate.cmpi_eq_iff.trans ⟨fun e => ?_, fun e => by rw [e]⟩) rfl rfl
  have := congrArg BitVec.toInt e
  rw [word_int i hi, word_int j hj] at this
  omega

/-- The upper triangle at an entry. -/
theorem upper_at (b : Fin 16) (i j : Fin 256) :
    upper A (ix3 b i j) = if (i : ℕ) < j then pairs A (ix3 b i j) else 0 := by
  pointwise [upper, A_main_v51, K_main_call0_v1, K_main_call0_v2, K_main_v50, K_main_v48, K_main_v49, K_main_v46, K_main_v47, K_main_v45, K_main_call0_v0, K_main_cst_6]
  show Scalar.select _ (pairs A (ix3 b i j)) (Ideal.ofBits .f32 0#32) = _
  unfold Scalar.select
  rw [Ideal.ofBits_zero_f32]
  exact if_congr (StableHlo.Predicate.slt_ofNat_iff i j (by omega) (by omega)) rfl rfl

/-- The matrix at an entry: the triangle, its transpose and the diagonal. -/
theorem matrix_at (b : Fin 16) (i j : Fin 256) :
    matrix A (ix3 b i j) = (upper A (ix3 b i j) + upper A (ix3 b j i)) + if (i : ℕ) = j then diagonal A (ix2 b i) else 0 := by
  pointwise [matrix, A_main_v67, A_main_v59, A_main_v58, A_main_v66, A_main_call1_v2, A_main_v65, K_main_call1_v1, K_main_v64, K_main_v62, K_main_v63, K_main_v60, K_main_v61, K_main_v57, K_main_call1_v3, K_main_call1_v0, K_main_cst_9]
  show _ + Scalar.select _ (diagonal A (ix2 b i)) (Ideal.ofBits .f32 0#32) = _
  rw [word_sel (by omega) (by omega), Ideal.ofBits_zero_f32]

/-- The diagonal at an atom. -/
theorem diagonal_at (b : Fin 16) (i : Fin 256) : diagonal A (ix2 b i)
    = hardness A (ix2 b i) + Ideal.div (Ideal.ofBits .f32 0x416664F3#32) (Ideal.ofBits .f32 0x3FE2DFC5#32 * width A (ix2 b i)) := by
  pointwise [diagonal, A_main_v56, A_main_v55, A_main_v53, K_main_v52, K_main_v54, K_main_cst_7, K_main_cst_8]

/-- The interaction of two atoms. -/
theorem pairs_at (b : Fin 16) (i j : Fin 256) : pairs A (ix3 b i j)
    = Ideal.div (Ideal.ofBits .f32 0x416664F3#32 * Ideal.erf (Ideal.div (Ideal.div (distance A (ix3 b i j)) (Ideal.ofBits .f32 0x3FB504F3#32))
        (Ideal.sqrt (width A (ix2 b i) * width A (ix2 b i) + width A (ix2 b j) * width A (ix2 b j))))) (distance A (ix3 b i j)) := by
  pointwise [pairs, A_main_v44, A_main_v43, A_main_v41, A_main_v40, A_main_v39, A_main_v37, A_main_v36, A_main_v35, A_main_v34, A_main_v33, A_main_v32, A_main_v31, A_main_v30, K_main_v42, K_main_v38, K_main_cst_4, K_main_cst_5]

/-- An atom of a molecule, among all atoms. -/
abbrev atom (b : Fin 16) (i : Fin 256) : Fin 4096 := ⟨b * 256 + i, by omega⟩

/-- A coordinate of an atom. -/
def place (b : Fin 16) (i : Fin 256) (k : Fin 3) : EReal := A.a1 (ix2 (atom b i) k)

/-- The distance of two atoms. -/
theorem distance_at (b : Fin 16) (i j : Fin 256) : distance A (ix3 b i j)
    = Ideal.sqrt (∑ k : Fin 3, (place A b i k - place A b j k + Ideal.ofBits .f32 0x358637BD#32) * (place A b i k - place A b j k + Ideal.ofBits .f32 0x358637BD#32)) := by
  pointwise [distance, A_main_v29, A_main_v28, A_main_v27, A_main_v26, A_main_v24, A_main_v23, A_main_v22, A_main_v21, A_main_v20, A_main_v19, K_main_v25, K_main_cst, K_main_cst_3, place]

/-- The energy of an atom, a product with the weights. -/
theorem chi_at (b : Fin 16) (i : Fin 256) : chi A (ix2 b i) = ∑ k : Fin 128, A.a0 (ix2 (atom b i) k) * A.a6 (ix2 k 0) := by
  pointwise [chi, A_main_v1, A_main_v0]

/-- What a gather by a type in range takes. -/
theorem take_at (x : FVec Ideal S4 .f32) (t : IVec S4096x1 32) (p : Fin 4096) (n : Fin 4)
    (h : t (ix2 p 0) = BitVec.ofNat 32 n) : Host.gather gather_S4_S4096x1_S4096_n_0_n_n_0_1_1 x t (ix1 p) = x (ix1 n) := by
  have e1 : (ix1 p : S4096.Idx) = Shape.Idx.ofFin p := by funext a; fin_cases a; rfl
  have e2 : (StableHlo.Predicate.ixP p : S4096x1.Idx) = ix2 p 0 := by funext a; fin_cases a <;> rfl
  rw [e1]
  refine (StableHlo.Predicate.gather_take (N := 4) (n := 4096) _ rfl rfl rfl rfl x t p (by decide)).trans ?_
  congr 1
  funext a
  fin_cases a
  apply Fin.ext
  show min (t (StableHlo.Predicate.ixP p)).toInt.toNat (4 - 1) = n
  rw [e2, h, word_int n (by omega)]
  omega

/-- A type in range is not wrapped around. -/
theorem wrapped (x y : IVec S4096 32) (p : Fin 4096) (n : Fin 4) (h : x (ix1 p) = BitVec.ofNat 32 n) :
    broadcastInDim S4096x1 ![0] bcast_S4096_S4096x1_0 (select (cmpi .slt x (constantI S4096 32 0#32)) y x) (ix2 p 0) = BitVec.ofNat 32 n := by
  pointwise
  rw [h]
  refine if_neg fun e => ?_
  have := (StableHlo.Predicate.slt_ofNat_iff n 0 (by omega) (by omega)).mp e
  omega

/-- The width of an atom is that of its type. -/
theorem width_at (b : Fin 16) (i : Fin 256) (n : Fin 4) (h : A.a2 (ix1 (atom b i)) = BitVec.ofNat 32 n) :
    width A (ix2 b i) = A.a8 (ix1 n) := by
  pointwise [width, A_main_v18, A_main_v17]
  exact take_at _ _ _ n (wrapped _ _ _ n h)

/-- The hardness of an atom is that of its type, squared. -/
theorem hardness_at (b : Fin 16) (i : Fin 256) (n : Fin 4) (h : A.a2 (ix1 (atom b i)) = BitVec.ofNat 32 n) :
    hardness A (ix2 b i) = A.a7 (ix1 n) * A.a7 (ix1 n) := by
  pointwise [hardness, A_main_v10, A_main_v9]
  exact take_at _ _ _ n (wrapped _ _ _ n h)

end Qeq.Ref

end
-- ==== Proof.Qeq.Pay.lean ====
/- The values one elimination step stores, as functions of what it loads: the scaled pivot row, the panel, the right-hand
   sides. Each is read at an index; where the operands are real the results are. -/
module

public import proofs.«01_k».proof.Proof.Gen.KernelIdeal.Skeleton
public import Idealize.ShloMosaic.Lib.Pointwise
public import Idealize.ShloMosaic.Lib.WordCmp
public import proofs.«01_k».proof.Proof.Qeq.Elim

@[expose] public section

set_option maxRecDepth 16384

noncomputable section

namespace Qeq

open Idealize.ShloMosaic Cert.KernelIdeal Cert.KernelIdeal.Gen

variable {F : FTy → Type} [FloatOps F]

/-- The column numbers. -/
def lanes : IVec S1x1x256 32 := iota .tc S1x1x256 32 [2] iota_S1x1x256_d2_w32

/-- The row numbers of the panel that begins at `k0`. -/
def lanes16 (k0 : BitVec 32) : IVec S1x1x16 32 :=
  addi (broadcast S1x1x16 k0) (iota .tc S1x1x16 32 [2] iota_S1x1x16_d2_w32)

/-- The pivot row times the pivot's reciprocal. -/
def rowScaled (ln : IVec S1x1x256 32) (iv : BitVec 32) (row : Vec F S16x1x256 .f32) : FVec F S16x1x256 .f32 :=
  mulf row (broadcastTo S16x1x256 (divf (broadcast S16x1x1 (Scalar.ofBits .f32 0x3F800000#32))
    (shapeCast S16x1x1 (multiReduction .add [2] S16x1
      (select (broadcastTo S16x1x256 (shapeCast S1x1x256 (cmpi .eq ln (broadcast S1x1x256 iv)) shapeCasts_S1x1x256_S1x1x256)
        broadcasts_S1x1x256_S16x1x256) row (broadcast S16x1x256 (Scalar.ofBits .f32 0x00000000#32)))
      0x00000000#32 reduces_S16x1x256_S16x1 (.inl rfl) rfl) shapeCasts_S16x1_S16x1x1)) broadcasts_S16x1x1_S16x1x256)

/-- The pivot row's entries at the panel's columns, as a column, zero up to the pivot. -/
def panelCol (ln : IVec S1x1x16 32) (iv : BitVec 32) (off : Fin 3 → ℕ) (hs : S16x1x256.Slices off S16x1x16)
    (row : Vec F S16x1x256 .f32) : FVec F S16x16x1 .f32 :=
  transpose S16x16x1 [0, 2, 1]
    (select (broadcastTo S16x1x16 (shapeCast S1x1x16 (cmpi .sgt ln (broadcast S1x1x16 iv)) shapeCasts_S1x1x16_S1x1x16)
      broadcasts_S1x1x16_S16x1x16) (extractStridedSlice S16x1x16 off row hs)
      (broadcast S16x1x16 (Scalar.ofBits .f32 0x00000000#32))) transposes_S16x1x16_p0_2_1_S16x16x1

/-- The panel after one step, all 256 columns. -/
def panelWide (ln : IVec S1x1x256 32) (ln16 : IVec S1x1x16 32) (iv : BitVec 32) (off : Fin 3 → ℕ)
    (hs : S16x1x256.Slices off S16x1x16) (row : Vec F S16x1x256 .f32) (u : Vec F S16x16x256 .f32) : FVec F S16x16x256 .f32 :=
  shapeCast S16x16x256 (subf u (mulf (broadcastTo S16x16x256 (panelCol ln16 iv off hs row) broadcasts_S16x16x1_S16x16x256)
    (broadcastTo S16x16x256 (rowScaled ln iv row) broadcasts_S16x1x256_S16x16x256))) shapeCasts_S16x16x256_S16x16x256

/-- The panel after one step, the right 128 columns. -/
def panelNarrow (ln : IVec S1x1x256 32) (ln16 : IVec S1x1x16 32) (iv : BitVec 32) (off : Fin 3 → ℕ)
    (hs : S16x1x256.Slices off S16x1x16) (row : Vec F S16x1x256 .f32) (u : Vec F S16x16x128 .f32) : FVec F S16x16x128 .f32 :=
  shapeCast S16x16x128 (subf u (mulf (broadcastTo S16x16x128 (panelCol ln16 iv off hs row) broadcasts_S16x16x1_S16x16x128)
    (broadcastTo S16x16x128 (extractStridedSlice S16x1x128 ![0, 0, 128] (rowScaled ln iv row) slices_S16x1x256_o0_0_128_S16x1x128)
      broadcasts_S16x1x128_S16x16x128))) shapeCasts_S16x16x128_S16x16x128

/-- The right-hand sides after one step. -/
def rhsStep (ln : IVec S1x1x256 32) (iv : BitVec 32) (rs : FVec F S16x1x256 .f32) (z : Vec F S16x2x256 .f32) : FVec F S16x2x256 .f32 :=
  shapeCast S16x2x256 (subf z (select (broadcastTo S16x2x256 (shapeCast S1x1x256 (cmpi .sgt ln (broadcast S1x1x256 iv))
      shapeCasts_S1x1x256_S1x1x256) broadcasts_S1x1x256_S16x2x256)
    (mulf (broadcastTo S16x2x256 rs broadcasts_S16x1x256_S16x2x256)
      (broadcastTo S16x2x256 (shapeCast S16x2x1 (multiReduction .add [2] S16x2
        (select (broadcastTo S16x2x256 (shapeCast S1x1x256 (cmpi .eq ln (broadcast S1x1x256 iv)) shapeCasts_S1x1x256_S1x1x256)
          broadcasts_S1x1x256_S16x2x256) z (broadcast S16x2x256 (Scalar.ofBits .f32 0x00000000#32)))
        0x00000000#32 reduces_S16x2x256_S16x2 (.inl rfl) rfl) shapeCasts_S16x2_S16x2x1) broadcasts_S16x2x1_S16x2x256))
    (broadcast S16x2x256 (Scalar.ofBits .f32 0x00000000#32)))) shapeCasts_S16x2x256_S16x2x256

/-- A finite sum of reals, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-! ## The selections -/

/-- A choice by equality of two small words. -/
theorem sel_eq {α : Type} {x k : ℕ} (hx : x < 256) (hk : k < 256) (a b : α) :
    Scalar.select (IntOp.cmpi .eq (BitVec.ofNat 32 x) (BitVec.ofNat 32 k)) a b = if x = k then a else b := by
  have h : (BitVec.ofNat 32 x = BitVec.ofNat 32 k) ↔ x = k := by
    rw [← BitVec.toNat_inj, BitVec.toNat_ofNat, BitVec.toNat_ofNat, Nat.mod_eq_of_lt (by omega), Nat.mod_eq_of_lt (by omega)]
  unfold Scalar.select
  rw [WordCmp.cmpi_eq_eq]
  by_cases e : x = k <;> simp [h, e]

/-- A choice by order of two small words. -/
theorem sel_gt {α : Type} {x k : ℕ} (hx : x < 512) (hk : k < 512) (a b : α) :
    Scalar.select (IntOp.cmpi .sgt (BitVec.ofNat 32 x) (BitVec.ofNat 32 k)) a b = if k < x then a else b := by
  unfold Scalar.select
  rw [WordCmp.cmpi_sgt_ofNat (by omega) (by omega)]
  by_cases e : k < x <;> simp [e]

/-- A sum of two words. -/
theorem add_ofNat (a b : ℕ) : IntOp.addi (BitVec.ofNat 32 a) (BitVec.ofNat 32 b) = BitVec.ofNat 32 (a + b) :=
  (BitVec.ofNat_add a b).symm

/-- A sum over the columns of a selection of one column is that column's value. -/
theorem sum_sel {k : ℕ} (hk : k < 256) (f : Fin 256 → EReal) :
    (∑ x : Fin 256, Scalar.select (IntOp.cmpi .eq (BitVec.ofNat 32 x.val) (BitVec.ofNat 32 k)) (f x) 0) = f ⟨k, hk⟩ := by
  rw [Finset.sum_congr rfl (g := fun x : Fin 256 => if x = ⟨k, hk⟩ then f x else 0)]
  · simp
  · intro x _
    rw [sel_eq x.isLt hk]
    simp only [Fin.ext_iff]

/-- The counter of a loop with step one. -/
theorem iv_eq (a k : ℕ) : Scf.iv (BitVec.ofNat 32 a) 1#32 k = BitVec.ofNat 32 (a + k) := by
  unfold Scf.iv
  rw [BitVec.ofNat_add]
  simp

/-! ## The values at an index -/

/-- The scaled pivot row of a real row: from the pivot on, each entry over the pivot. -/
theorem rowScaled_real {k : ℕ} (hk : k < 256) (row : Vec Ideal S16x1x256 .f32) (b : Fin 16) (r : ℕ → ℝ)
    (h : ∀ j : Fin 256, k ≤ j.val → row (ix3 b 0 j) = ((r j : ℝ) : EReal)) (hp : r k ≠ 0) (j : Fin 256) (hj : k ≤ j.val) :
    rowScaled lanes (BitVec.ofNat 32 k) row (ix3 b 0 j) = ((r j / r k : ℝ) : EReal) := by
  pointwise [rowScaled, lanes]
  rw [sum_sel hk (fun x => row (ix3 b 0 x)), h j hj, h ⟨k, hk⟩ le_rfl]
  rw [show (1 : EReal) = ((1 : ℝ) : EReal) from rfl, Ideal.div_coe hp, ← EReal.coe_mul]
  refine (EReal.coe_mul _ _).symm.trans (congrArg _ ?_)
  field_simp

/-- The panel after step `k`, of real operands. -/
theorem panelWide_real {k o : ℕ} (hk : k < 256) (ho : o + 16 ≤ 256) (hs : S16x1x256.Slices ![0, 0, o] S16x1x16)
    (row : Vec Ideal S16x1x256 .f32) (u : Vec Ideal S16x16x256 .f32) (b : Fin 16) (r : ℕ → ℝ)
    (h : ∀ j : Fin 256, k ≤ j.val → row (ix3 b 0 j) = ((r j : ℝ) : EReal)) (hp : r k ≠ 0) (i : Fin 16) (j : Fin 256) (x : ℝ)
    (hu : u (ix3 b i j) = (x : EReal)) (hj : o + i.val ≤ j.val) :
    panelWide lanes (lanes16 (BitVec.ofNat 32 o)) (BitVec.ofNat 32 k) ![0, 0, o] hs row u (ix3 b i j)
      = ((if k < o + i.val then x - r (o + i) * (r j / r k) else x : ℝ) : EReal) := by
  pointwise [panelWide, lanes16, panelCol]
  rw [add_ofNat, sel_gt (by omega) (by omega), hu]
  split
  · rename_i hlt
    rw [rowScaled_real hk row b r h hp j (by omega)]
    have e := h ⟨o + i.val, by omega⟩ (by simp only; omega)
    simp only [Nat.zero_add, Matrix.cons_val_zero, Matrix.cons_val_one, Matrix.cons_val] at *
    rw [e, ← EReal.coe_mul, ← EReal.coe_sub]
  · simp

/-- The same, on the right 128 columns. -/
theorem panelNarrow_real {k o : ℕ} (hk : k < 256) (ho : o + 16 ≤ 256) (hs : S16x1x256.Slices ![0, 0, o] S16x1x16)
    (row : Vec Ideal S16x1x256 .f32) (u : Vec Ideal S16x16x128 .f32) (b : Fin 16) (r : ℕ → ℝ)
    (h : ∀ j : Fin 256, k ≤ j.val → row (ix3 b 0 j) = ((r j : ℝ) : EReal)) (hp : r k ≠ 0) (i : Fin 16) (j : Fin 128) (x : ℝ)
    (hu : u (ix3 b i j) = (x : EReal)) (hj : o + i.val ≤ 128 + j.val) :
    panelNarrow lanes (lanes16 (BitVec.ofNat 32 o)) (BitVec.ofNat 32 k) ![0, 0, o] hs row u (ix3 b i j)
      = ((if k < o + i.val then x - r (o + i) * (r (128 + j) / r k) else x : ℝ) : EReal) := by
  pointwise [panelNarrow, lanes16, panelCol]
  rw [add_ofNat, sel_gt (by omega) (by omega), hu]
  split
  · rename_i hlt
    rw [rowScaled_real hk row b r h hp ⟨128 + j.val, by omega⟩ (by simp only; omega)]
    have e := h ⟨o + i.val, by omega⟩ (by simp only; omega)
    simp only [Nat.zero_add, Matrix.cons_val_zero, Matrix.cons_val_one, Matrix.cons_val] at *
    rw [e, ← EReal.coe_mul, ← EReal.coe_sub]
  · simp

/-- The right-hand sides after step `k`, of real operands. -/
theorem rhsStep_real {k : ℕ} (hk : k < 256) (rs : Vec Ideal S16x1x256 .f32) (z : Vec Ideal S16x2x256 .f32) (b : Fin 16) (c : Fin 2)
    (r w : ℕ → ℝ) (h : ∀ j : Fin 256, k ≤ j.val → rs (ix3 b 0 j) = ((r j : ℝ) : EReal))
    (hz : ∀ j : Fin 256, z (ix3 b c j) = ((w j : ℝ) : EReal)) (j : Fin 256) :
    rhsStep lanes (BitVec.ofNat 32 k) rs z (ix3 b c j) = ((w j - if k < j.val then r j * w k else 0 : ℝ) : EReal) := by
  pointwise [rhsStep, lanes]
  rw [sel_gt (by omega) (by omega), sum_sel hk (fun x => z (ix3 b c x)), hz j]
  split
  · rename_i hlt
    rw [h j hlt.le, hz ⟨k, hk⟩, ← EReal.coe_mul, ← EReal.coe_sub]
  · simp

end Qeq

end
-- ==== Proof.Qeq.State.lean ====
/- What the elimination's buffers hold between two steps, and that a step of a panel and a panel's trailing update keep
   it. The coefficients' upper triangle is that of the Schur complements, each row at its own level; the scaled rows of
   the panel and the right-hand sides likewise. -/
module

public import proofs.«01_k».proof.Proof.Qeq.Pay
public import Idealize.ShloMosaic.Lib.WritesUnit
public import Idealize.ShloMosaic.Lib.VecWindow

@[expose] public section

set_option maxRecDepth 16384

noncomputable section

namespace Qeq

open Idealize.ShloMosaic Cert.KernelIdeal Cert.KernelIdeal.Gen

/-- How many steps row `i` has seen when the panel that begins at `k0` has done `t`. -/
def lvl (k0 t i : ℕ) : ℕ := min i (if i < k0 + 16 then k0 + t else k0)

/-- The upper triangle holds the Schur complements. -/
def Upper (C : Fin 16 → ℕ → ℕ → ℝ) (k0 t : ℕ) (d : Vec Ideal S16x256x256 .f32) : Prop :=
  ∀ (b : Fin 16) (i j : Fin 256), i.val ≤ j.val → d (ix3 b i j) = ((schur (C b) (lvl k0 t i) i j : ℝ) : EReal)

/-- The panel's pivot rows over their pivots. -/
def Scaled (C : Fin 16 → ℕ → ℕ → ℝ) (k0 t : ℕ) (d : Vec Ideal S16x32x256 .f32) : Prop :=
  ∀ (b : Fin 16) (s : Fin 32) (j : Fin 256), s.val < t → k0 + s.val ≤ j.val →
    d (ix3 b s j) = ((schur (C b) (k0 + s) (k0 + s) j / schur (C b) (k0 + s) (k0 + s) (k0 + s) : ℝ) : EReal)

/-- The two right-hand sides after `n` steps. -/
def Sides (C : Fin 16 → ℕ → ℕ → ℝ) (Z : Fin 16 → Fin 2 → ℕ → ℝ) (n : ℕ) (d : Vec Ideal S16x2x256 .f32) : Prop :=
  ∀ (b : Fin 16) (c : Fin 2) (j : Fin 256), d (ix3 b c j) = ((rhs (C b) (Z b c) n j : ℝ) : EReal)

/-- The three buffers, `t` steps into the panel that begins at `k0`. -/
def Mid (C : Fin 16 → ℕ → ℕ → ℝ) (Z : Fin 16 → Fin 2 → ℕ → ℝ) (k0 t : ℕ) (d10 : Vec Ideal S16x256x256 .f32)
    (d12 : Vec Ideal S16x2x256 .f32) (d13 : Vec Ideal S16x32x256 .f32) : Prop :=
  Upper C k0 t d10 ∧ Sides C Z (k0 + t) d12 ∧ Scaled C k0 t d13

variable {C : Fin 16 → ℕ → ℕ → ℝ} {Z : Fin 16 → Fin 2 → ℕ → ℝ}

/-- One more column eliminated. -/
theorem schur_next (D : ℕ → ℕ → ℝ) (t i j : ℕ) :
    schur D (t + 1) i j = schur D t i j - schur D t t i * (schur D t t j / schur D t t t) := rfl

/-- One more column eliminated from a right-hand side. -/
theorem rhs_next (D : ℕ → ℕ → ℝ) (z : ℕ → ℝ) (t i : ℕ) :
    rhs D z (t + 1) i = rhs D z t i - if t < i then schur D t t i / schur D t t t * rhs D z t t else 0 := rfl

/-- The level of the panel's row `o + i` one step later. -/
theorem schur_lvl_succ (D : ℕ → ℕ → ℝ) {k0 t i : ℕ} (hi : i < 16) (j : ℕ) :
    schur D (lvl k0 (t + 1) (k0 + i)) (k0 + i) j
      = if k0 + t < k0 + i then schur D (lvl k0 t (k0 + i)) (k0 + i) j
          - schur D (k0 + t) (k0 + t) (k0 + i) * (schur D (k0 + t) (k0 + t) j / schur D (k0 + t) (k0 + t) (k0 + t))
        else schur D (lvl k0 t (k0 + i)) (k0 + i) j := by
  unfold lvl
  rw [if_pos (show k0 + i < k0 + 16 by omega), if_pos (show k0 + i < k0 + 16 by omega)]
  split
  · rw [show min (k0 + i) (k0 + (t + 1)) = k0 + t + 1 by omega, show min (k0 + i) (k0 + t) = k0 + t by omega]; rfl
  · rw [show min (k0 + i) (k0 + (t + 1)) = k0 + i by omega, show min (k0 + i) (k0 + t) = k0 + i by omega]

/-- A step leaves the rows outside its panel as they are. -/
theorem lvl_outside {k0 t i : ℕ} (h : i < k0 ∨ k0 + 16 ≤ i) : lvl k0 (t + 1) i = lvl k0 t i := by
  unfold lvl
  rcases h with h | h
  · split <;> omega
  · rw [if_neg (by omega), if_neg (by omega)]

/-- The row of the next pivot is up to date. -/
theorem lvl_pivot {k0 t : ℕ} (ht : t < 16) : lvl k0 t (k0 + t) = k0 + t := by
  unfold lvl; rw [if_pos (by omega)]; omega

section Step

variable {sg : RefSig} {κ : Kind} {sp10 sp12 sp13 : Space}
  (v10 : View sg κ sp10 S16x256x256 .f32) (v12 : View sg κ sp12 S16x2x256 .f32) (v13 : View sg κ sp13 S16x32x256 .f32)
  (f10 : v10.ty.Contents (Elt Ideal)) (f12 : v12.ty.Contents (Elt Ideal)) (f13 : v13.ty.Contents (Elt Ideal))

/-- The pivot row as loaded. -/
abbrev pivotRow (off3 : Fin 3 → ℕ) (inb : ∀ a, off3 a + S16x1x256.size a ≤ S16x256x256.size a) : Vec Ideal S16x1x256 .f32 :=
  v10.readAt (Elt Ideal) (Rect.unit (s := S16x256x256) off3 S16x1x256.size inb).toLoadRect f10

/-- The row of the pivot, as read. -/
theorem pivotRow_real {k0 t : ℕ} (ht : t < 16) (off3 : Fin 3 → ℕ) (inb : ∀ a, off3 a + S16x1x256.size a ≤ S16x256x256.size a)
    (h3 : off3 = ![0, k0 + t, 0]) (hU : Upper C k0 t (v10.read (Elt Ideal) f10)) (b : Fin 16) (j : Fin 256) (hj : k0 + t ≤ j.val) :
    pivotRow v10 f10 off3 inb (ix3 b 0 j) = ((schur (C b) (k0 + t) (k0 + t) j : ℝ) : EReal) := by
  subst h3
  have hlt : k0 + t < 256 := by omega
  have e := hU b ⟨k0 + t, hlt⟩ j hj
  simp only [lvl_pivot ht] at e
  rw [← e]
  refine congrArg (v10.read (Elt Ideal) f10) (funext fun a => Fin.ext ?_)
  fin_cases a <;> simp [Rect.unit, LoadRect.idx, Rect.toLoadRect, ix3]

/-- The right-hand sides and the scaled row after a step. -/
theorem sides_step {k0 t : ℕ} (ht : t < 16) (hk : k0 + 16 ≤ 256) (hp : ∀ b, schur (C b) (k0 + t) (k0 + t) (k0 + t) ≠ 0)
    (off3 : Fin 3 → ℕ) (inb3 : ∀ a, off3 a + S16x1x256.size a ≤ S16x256x256.size a) (h3 : off3 = ![0, k0 + t, 0])
    (inb : ∀ a, (![0, 0, 0] : Fin 3 → ℕ) a + S16x2x256.size a ≤ S16x2x256.size a)
    (hU : Upper C k0 t (v10.read (Elt Ideal) f10)) (hZ : Sides C Z (k0 + t) (v12.read (Elt Ideal) f12)) :
    Sides C Z (k0 + (t + 1)) (v12.read (Elt Ideal) (v12.writes (Elt Ideal) f12
      [⟨Rect.unit (s := S16x2x256) ![0, 0, 0] S16x2x256.size inb,
        rhsStep lanes (BitVec.ofNat 32 (k0 + t)) (rowScaled lanes (BitVec.ofNat 32 (k0 + t)) (pivotRow v10 f10 off3 inb3))
          (v12.readAt (Elt Ideal) (Rect.unit (s := S16x2x256) ![0, 0, 0] S16x2x256.size inb).toLoadRect f12)⟩])) := by
  intro b c j
  rw [View.read_writes_cons_unit_of_mem v12 f12 inb _ [] (ix3 b c j) (ix3 b c j) rfl
    (by intro a; fin_cases a <;> simp [ix3])]
  refine (rhsStep_real (k := k0 + t) (by omega) _ _ b c
    (fun j => schur (C b) (k0 + t) (k0 + t) j / schur (C b) (k0 + t) (k0 + t) (k0 + t))
    (fun j => rhs (C b) (Z b c) (k0 + t) j) ?_ ?_ j).trans (by rw [← Nat.add_assoc, rhs_next])
  · intro j hj
    exact rowScaled_real (by omega) _ b _ (fun j hj => pivotRow_real v10 f10 ht off3 inb3 h3 hU b j hj) (hp b) j hj
  · intro j
    rw [View.readAt_full]
    exact hZ b c j

/-- The scaled rows after a step. -/
theorem scaled_step {k0 t : ℕ} (ht : t < 16) (hk : k0 + 16 ≤ 256) (hp : ∀ b, schur (C b) (k0 + t) (k0 + t) (k0 + t) ≠ 0)
    (off3 : Fin 3 → ℕ) (inb3 : ∀ a, off3 a + S16x1x256.size a ≤ S16x256x256.size a) (h3 : off3 = ![0, k0 + t, 0])
    (off4 : Fin 3 → ℕ) (inb4 : ∀ a, off4 a + S16x1x256.size a ≤ S16x32x256.size a) (h4 : off4 = ![0, t, 0])
    (hU : Upper C k0 t (v10.read (Elt Ideal) f10)) (hS : Scaled C k0 t (v13.read (Elt Ideal) f13)) :
    Scaled C k0 (t + 1) (v13.read (Elt Ideal) (v13.writes (Elt Ideal) f13
      [⟨Rect.unit (s := S16x32x256) off4 S16x1x256.size inb4,
        shapeCast S16x1x256 (rowScaled lanes (BitVec.ofNat 32 (k0 + t)) (pivotRow v10 f10 off3 inb3))
          shapeCasts_S16x1x256_S16x1x256⟩])) := by
  intro b s j hs hj
  by_cases e : s.val = t
  · rw [View.read_writes_cons_unit_of_mem v13 f13 inb4 _ [] (ix3 b s j) (ix3 b 0 j) h4
      (by intro a; fin_cases a <;> simp [ix3, e])]
    pointwise
    rw [e]
    exact rowScaled_real (by omega) _ b _ (fun j hj => pivotRow_real v10 f10 ht off3 inb3 h3 hU b j hj) (hp b) j (by omega)
  · rw [View.read_writes_cons_unit_of_not_mem v13 f13 inb4 _ [] (ix3 b s j) h4 1
      (by simp [ix3]; omega)]
    exact hS b s j (by omega) hj

/-- A step of a panel on all 256 columns. -/
theorem step_wide {k0 t : ℕ} (ht : t < 16) (hk : k0 + 16 ≤ 256) (hp : ∀ b, schur (C b) (k0 + t) (k0 + t) (k0 + t) ≠ 0)
    (off3 : Fin 3 → ℕ) (inb3 : ∀ a, off3 a + S16x1x256.size a ≤ S16x256x256.size a) (h3 : off3 = ![0, k0 + t, 0])
    (inb : ∀ a, (![0, k0, 0] : Fin 3 → ℕ) a + S16x16x256.size a ≤ S16x256x256.size a)
    (hs : S16x1x256.Slices ![0, 0, k0] S16x1x16)
    (hU : Upper C k0 t (v10.read (Elt Ideal) f10)) :
    Upper C k0 (t + 1) (v10.read (Elt Ideal) (v10.writes (Elt Ideal) f10
      [⟨Rect.unit (s := S16x256x256) ![0, k0, 0] S16x16x256.size inb,
        panelWide lanes (lanes16 (BitVec.ofNat 32 k0)) (BitVec.ofNat 32 (k0 + t)) ![0, 0, k0] hs (pivotRow v10 f10 off3 inb3)
          (v10.readAt (Elt Ideal) (Rect.unit (s := S16x256x256) ![0, k0, 0] S16x16x256.size inb).toLoadRect f10)⟩])) := by
  intro b i j hij
  by_cases e : k0 ≤ i.val ∧ i.val < k0 + 16
  · obtain ⟨i', hi', rfl⟩ : ∃ (i' : Fin 16) (h : k0 + i'.val < 256), i = ⟨k0 + i'.val, h⟩ :=
      ⟨⟨i.val - k0, by omega⟩, by simp only; omega, Fin.ext (by simp; omega)⟩
    rw [View.read_writes_cons_unit_of_mem v10 f10 inb _ [] (ix3 b ⟨k0 + i'.val, by omega⟩ j) (ix3 b i' j) rfl
      (by intro a; fin_cases a <;> simp [ix3])]
    refine (panelWide_real (k := k0 + t) (o := k0) (by omega) hk hs _ _ b (fun j => schur (C b) (k0 + t) (k0 + t) j)
      (fun j hj => pivotRow_real v10 f10 ht off3 inb3 h3 hU b j hj) (hp b) i' j
      (schur (C b) (lvl k0 t (k0 + i')) (k0 + i') j) ?_ hij).trans ?_
    · refine Eq.trans ?_ (hU b ⟨k0 + i'.val, by omega⟩ j hij)
      refine congrArg (v10.read (Elt Ideal) f10) (funext fun a => Fin.ext ?_)
      fin_cases a <;> simp [Rect.unit, LoadRect.idx, Rect.toLoadRect, ix3]
    · rw [schur_lvl_succ _ i'.isLt]
  · rw [View.read_writes_cons_unit_of_not_mem v10 f10 inb _ [] (ix3 b i j) rfl 1 (by simp [ix3]; omega)]
    rw [lvl_outside (by omega)]
    exact hU b i j hij

/-- A step of a panel on the right 128 columns. -/
theorem step_narrow {k0 t : ℕ} (ht : t < 16) (hk : k0 + 16 ≤ 256) (h128 : 128 ≤ k0) (hp : ∀ b, schur (C b) (k0 + t) (k0 + t) (k0 + t) ≠ 0)
    (off3 : Fin 3 → ℕ) (inb3 : ∀ a, off3 a + S16x1x256.size a ≤ S16x256x256.size a) (h3 : off3 = ![0, k0 + t, 0])
    (inb : ∀ a, (![0, k0, 128] : Fin 3 → ℕ) a + S16x16x128.size a ≤ S16x256x256.size a)
    (hs : S16x1x256.Slices ![0, 0, k0] S16x1x16)
    (hU : Upper C k0 t (v10.read (Elt Ideal) f10)) :
    Upper C k0 (t + 1) (v10.read (Elt Ideal) (v10.writes (Elt Ideal) f10
      [⟨Rect.unit (s := S16x256x256) ![0, k0, 128] S16x16x128.size inb,
        panelNarrow lanes (lanes16 (BitVec.ofNat 32 k0)) (BitVec.ofNat 32 (k0 + t)) ![0, 0, k0] hs (pivotRow v10 f10 off3 inb3)
          (v10.readAt (Elt Ideal) (Rect.unit (s := S16x256x256) ![0, k0, 128] S16x16x128.size inb).toLoadRect f10)⟩])) := by
  intro b i j hij
  by_cases e : k0 ≤ i.val ∧ i.val < k0 + 16
  · obtain ⟨i', hi', rfl⟩ : ∃ (i' : Fin 16) (h : k0 + i'.val < 256), i = ⟨k0 + i'.val, h⟩ :=
      ⟨⟨i.val - k0, by omega⟩, by simp only; omega, Fin.ext (by simp; omega)⟩
    have hij' : k0 + i'.val ≤ j.val := hij
    obtain ⟨j', hj', rfl⟩ : ∃ (j' : Fin 128) (h : 128 + j'.val < 256), j = ⟨128 + j'.val, h⟩ :=
      ⟨⟨j.val - 128, by omega⟩, by simp only; omega, Fin.ext (by simp; omega)⟩
    rw [View.read_writes_cons_unit_of_mem v10 f10 inb _ [] (ix3 b ⟨k0 + i'.val, by omega⟩ ⟨128 + j'.val, by omega⟩) (ix3 b i' j') rfl
      (by intro a; fin_cases a <;> simp [ix3])]
    refine (panelNarrow_real (k := k0 + t) (o := k0) (by omega) hk hs _ _ b (fun j => schur (C b) (k0 + t) (k0 + t) j)
      (fun j hj => pivotRow_real v10 f10 ht off3 inb3 h3 hU b j hj) (hp b) i' j'
      (schur (C b) (lvl k0 t (k0 + i')) (k0 + i') (128 + j')) ?_ hij).trans ?_
    · refine Eq.trans ?_ (hU b ⟨k0 + i'.val, by omega⟩ ⟨128 + j'.val, by omega⟩ hij)
      refine congrArg (v10.read (Elt Ideal) f10) (funext fun a => Fin.ext ?_)
      fin_cases a <;> simp [Rect.unit, LoadRect.idx, Rect.toLoadRect, ix3]
    · rw [schur_lvl_succ _ i'.isLt]
  · rw [View.read_writes_cons_unit_of_not_mem v10 f10 inb _ [] (ix3 b i j) rfl 1 (by simp [ix3]; omega)]
    rw [lvl_outside (by omega)]
    exact hU b i j hij

/-- Sixteen steps' worth of the rank-one updates. -/
theorem schur_panel (D : ℕ → ℕ → ℝ) (k0 n i j : ℕ) :
    schur D (k0 + n) i j = schur D k0 i j - ∑ s ∈ Finset.range n,
      schur D (k0 + s) (k0 + s) i / schur D (k0 + s) (k0 + s) (k0 + s) * schur D (k0 + s) (k0 + s) j := by
  induction n with
  | zero => simp
  | succ n ih => rw [← Nat.add_assoc, schur_next, ih, Finset.sum_range_succ]; ring

/-- A panel's update of the rows below it, of any width that holds their upper triangle. -/
theorem trail {k0 c0 r w : ℕ} (hr : k0 + 16 + r = 256) (hw : c0 + w = 256) (hc : c0 ≤ k0 + 16)
    (d13 : Vec Ideal S16x32x256 .f32) (L : List (View.Piece (Elt Ideal) S16x256x256 .f32))
    (inb : ∀ a, (![0, k0 + 16, c0] : Fin 3 → ℕ) a + (![16, r, w] : Fin 3 → ℕ) a ≤ S16x256x256.size a)
    (P : (Rect.unit (s := S16x256x256) ![0, k0 + 16, c0] ![16, r, w] inb).shape.Idx → EReal)
    (hP : ∀ (b : Fin 16) (i : Fin r) (j : Fin w), P (ix3 b i j)
      = v10.read (Elt Ideal) (v10.writes (Elt Ideal) f10 L) (ix3 b ⟨k0 + 16 + i.val, by omega⟩ ⟨c0 + j.val, by omega⟩)
        - ∑ s : Fin 16, d13 (ix3 b ⟨s.val, by omega⟩ ⟨k0 + 16 + i.val, by omega⟩)
          * v10.read (Elt Ideal) (v10.writes (Elt Ideal) f10 L) (ix3 b ⟨k0 + s.val, by omega⟩ ⟨c0 + j.val, by omega⟩))
    (hU : Upper C k0 16 (v10.read (Elt Ideal) (v10.writes (Elt Ideal) f10 L))) (hS : Scaled C k0 16 d13) :
    Upper C (k0 + 16) 0 (v10.read (Elt Ideal) (v10.writes (Elt Ideal) f10
      (⟨Rect.unit (s := S16x256x256) ![0, k0 + 16, c0] ![16, r, w] inb, P⟩ :: L))) := by
  intro b i j hij
  by_cases e : k0 + 16 ≤ i.val
  · obtain ⟨i', hi', rfl⟩ : ∃ (i' : Fin r) (h : k0 + 16 + i'.val < 256), i = ⟨k0 + 16 + i'.val, h⟩ :=
      ⟨⟨i.val - (k0 + 16), by omega⟩, by simp only; omega, Fin.ext (by simp; omega)⟩
    have hij' : k0 + 16 + i'.val ≤ j.val := hij
    obtain ⟨j', hj', rfl⟩ : ∃ (j' : Fin w) (h : c0 + j'.val < 256), j = ⟨c0 + j'.val, h⟩ :=
      ⟨⟨j.val - c0, by omega⟩, by simp only; omega, Fin.ext (by simp; omega)⟩
    rw [View.read_writes_cons_unit_of_mem v10 f10 inb _ L (ix3 b ⟨k0 + 16 + i'.val, by omega⟩ ⟨c0 + j'.val, by omega⟩) (ix3 b i' j') rfl
      (by intro a; fin_cases a <;> simp [ix3])]
    rw [hP, hU b _ _ hij, Finset.sum_congr rfl (g := fun s : Fin 16 =>
      ((schur (C b) (k0 + s) (k0 + s) (k0 + 16 + i') / schur (C b) (k0 + s) (k0 + s) (k0 + s)
        * schur (C b) (k0 + s) (k0 + s) (c0 + j') : ℝ) : EReal))]
    · rw [← coe_sum, ← EReal.coe_sub, Fin.sum_univ_eq_sum_range (fun s =>
        schur (C b) (k0 + s) (k0 + s) (k0 + 16 + i') / schur (C b) (k0 + s) (k0 + s) (k0 + s)
        * schur (C b) (k0 + s) (k0 + s) (c0 + j')) 16]
      rw [show lvl k0 16 (k0 + 16 + i'.val) = k0 by unfold lvl; rw [if_neg (by omega)]; omega,
        show lvl (k0 + 16) 0 (k0 + 16 + i'.val) = k0 + 16 by unfold lvl; split <;> omega, schur_panel]
    · intro s _
      rw [hS b ⟨s.val, by omega⟩ _ s.isLt (by simp only; omega),
        hU b ⟨k0 + s.val, by omega⟩ ⟨c0 + j'.val, hj'⟩ (by simp only at hij' ⊢; omega), ← EReal.coe_mul]
      simp only [show lvl k0 16 (k0 + s.val) = k0 + s.val by unfold lvl; rw [if_pos (by omega)]; omega]
  · rw [View.read_writes_cons_unit_of_not_mem v10 f10 inb _ L (ix3 b i j) rfl 1 (by left; simp [ix3]; omega)]
    rw [hU b i j hij, show lvl k0 16 i.val = lvl (k0 + 16) 0 i.val by unfold lvl; rw [if_pos (by omega), if_pos (by omega)]]

/-- One step on all columns: the three stores together. -/
theorem trip_wide {k0 t : ℕ} (hk : k0 + 16 ≤ 256) (ht : t < 16) (hp : ∀ b, ∀ k < 256, schur (C b) k k k ≠ 0)
    (iv : BitVec 32) (hiv : iv = BitVec.ofNat 32 (k0 + t)) (lb : IVec S1x1x16 32) (hlb : lb = lanes16 (BitVec.ofNat 32 k0))
    (off3 : Fin 3 → ℕ) (inb3 : ∀ a, off3 a + S16x1x256.size a ≤ S16x256x256.size a) (h3 : off3 = ![0, t + k0, 0])
    (off4 : Fin 3 → ℕ) (inb4 : ∀ a, off4 a + S16x1x256.size a ≤ S16x32x256.size a) (h4 : off4 = ![0, t, 0])
    (inb : ∀ a, (![0, k0, 0] : Fin 3 → ℕ) a + S16x16x256.size a ≤ S16x256x256.size a)
    (inbz : ∀ a, (![0, 0, 0] : Fin 3 → ℕ) a + S16x2x256.size a ≤ S16x2x256.size a)
    (hs : S16x1x256.Slices ![0, 0, k0] S16x1x16)
    (hM : Mid C Z k0 t (v10.read (Elt Ideal) f10) (v12.read (Elt Ideal) f12) (v13.read (Elt Ideal) f13)) :
    Mid C Z k0 (t + 1) (v10.read (Elt Ideal) (v10.writes (Elt Ideal) f10
      [⟨Rect.unit (s := S16x256x256) ![0, k0, 0] S16x16x256.size inb,
        panelWide lanes lb iv ![0, 0, k0] hs (pivotRow v10 f10 off3 inb3)
          (v10.readAt (Elt Ideal) (Rect.unit (s := S16x256x256) ![0, k0, 0] S16x16x256.size inb).toLoadRect f10)⟩]))
      (v12.read (Elt Ideal) (v12.writes (Elt Ideal) f12
      [⟨Rect.unit (s := S16x2x256) ![0, 0, 0] S16x2x256.size inbz,
        rhsStep lanes iv (rowScaled lanes iv (pivotRow v10 f10 off3 inb3))
          (v12.readAt (Elt Ideal) (Rect.unit (s := S16x2x256) ![0, 0, 0] S16x2x256.size inbz).toLoadRect f12)⟩]))
      (v13.read (Elt Ideal) (v13.writes (Elt Ideal) f13
      [⟨Rect.unit (s := S16x32x256) off4 S16x1x256.size inb4,
        shapeCast S16x1x256 (rowScaled lanes iv (pivotRow v10 f10 off3 inb3)) shapeCasts_S16x1x256_S16x1x256⟩])) := by
  subst hiv hlb
  rw [Nat.add_comm t k0] at h3
  exact ⟨step_wide v10 f10 ht hk (fun b => hp b _ (by omega)) off3 inb3 h3 inb hs hM.1,
    sides_step v10 v12 f10 f12 ht hk (fun b => hp b _ (by omega)) off3 inb3 h3 inbz hM.1 hM.2.1,
    scaled_step v10 v13 f10 f13 ht hk (fun b => hp b _ (by omega)) off3 inb3 h3 off4 inb4 h4 hM.1 hM.2.2⟩

/-- One step on the right 128 columns: the three stores together. -/
theorem trip_narrow {k0 t : ℕ} (hk : k0 + 16 ≤ 256) (h128 : 128 ≤ k0) (ht : t < 16) (hp : ∀ b, ∀ k < 256, schur (C b) k k k ≠ 0)
    (iv : BitVec 32) (hiv : iv = BitVec.ofNat 32 (k0 + t)) (lb : IVec S1x1x16 32) (hlb : lb = lanes16 (BitVec.ofNat 32 k0))
    (off3 : Fin 3 → ℕ) (inb3 : ∀ a, off3 a + S16x1x256.size a ≤ S16x256x256.size a) (h3 : off3 = ![0, t + k0, 0])
    (off4 : Fin 3 → ℕ) (inb4 : ∀ a, off4 a + S16x1x256.size a ≤ S16x32x256.size a) (h4 : off4 = ![0, t, 0])
    (inb : ∀ a, (![0, k0, 128] : Fin 3 → ℕ) a + S16x16x128.size a ≤ S16x256x256.size a)
    (inbz : ∀ a, (![0, 0, 0] : Fin 3 → ℕ) a + S16x2x256.size a ≤ S16x2x256.size a)
    (hs : S16x1x256.Slices ![0, 0, k0] S16x1x16)
    (hM : Mid C Z k0 t (v10.read (Elt Ideal) f10) (v12.read (Elt Ideal) f12) (v13.read (Elt Ideal) f13)) :
    Mid C Z k0 (t + 1) (v10.read (Elt Ideal) (v10.writes (Elt Ideal) f10
      [⟨Rect.unit (s := S16x256x256) ![0, k0, 128] S16x16x128.size inb,
        panelNarrow lanes lb iv ![0, 0, k0] hs (pivotRow v10 f10 off3 inb3)
          (v10.readAt (Elt Ideal) (Rect.unit (s := S16x256x256) ![0, k0, 128] S16x16x128.size inb).toLoadRect f10)⟩]))
      (v12.read (Elt Ideal) (v12.writes (Elt Ideal) f12
      [⟨Rect.unit (s := S16x2x256) ![0, 0, 0] S16x2x256.size inbz,
        rhsStep lanes iv (rowScaled lanes iv (pivotRow v10 f10 off3 inb3))
          (v12.readAt (Elt Ideal) (Rect.unit (s := S16x2x256) ![0, 0, 0] S16x2x256.size inbz).toLoadRect f12)⟩]))
      (v13.read (Elt Ideal) (v13.writes (Elt Ideal) f13
      [⟨Rect.unit (s := S16x32x256) off4 S16x1x256.size inb4,
        shapeCast S16x1x256 (rowScaled lanes iv (pivotRow v10 f10 off3 inb3)) shapeCasts_S16x1x256_S16x1x256⟩])) := by
  subst hiv hlb
  rw [Nat.add_comm t k0] at h3
  exact ⟨step_narrow v10 f10 ht hk h128 (fun b => hp b _ (by omega)) off3 inb3 h3 inb hs hM.1,
    sides_step v10 v12 f10 f12 ht hk (fun b => hp b _ (by omega)) off3 inb3 h3 inbz hM.1 hM.2.1,
    scaled_step v10 v13 f10 f13 ht hk (fun b => hp b _ (by omega)) off3 inb3 h3 off4 inb4 h4 hM.1 hM.2.2⟩

variable (C Z)

/-- A loop's lists of stores, as a function of the contents at its start, take a panel from no step to sixteen. -/
def Keeps (k0 : ℕ) (pb : v10.ty.Contents (Elt Ideal) → v12.ty.Contents (Elt Ideal) → v13.ty.Contents (Elt Ideal) → ℕ →
    List (View.Piece (Elt Ideal) S16x256x256 .f32) × List (View.Piece (Elt Ideal) S16x2x256 .f32)
      × List (View.Piece (Elt Ideal) S16x32x256 .f32)) : Prop :=
  ∀ f10 f12 f13, Mid C Z k0 0 (v10.read (Elt Ideal) f10) (v12.read (Elt Ideal) f12) (v13.read (Elt Ideal) f13) →
    Mid C Z k0 16 (v10.read (Elt Ideal) (v10.writes (Elt Ideal) f10 (pb f10 f12 f13 16).1))
      (v12.read (Elt Ideal) (v12.writes (Elt Ideal) f12 (pb f10 f12 f13 16).2.1))
      (v13.read (Elt Ideal) (v13.writes (Elt Ideal) f13 (pb f10 f12 f13 16).2.2))

variable {C Z}

/-- A loop whose trips each take one step. -/
theorem keeps_of {k0 n : ℕ} (hn : n = 16) {pb : v10.ty.Contents (Elt Ideal) → v12.ty.Contents (Elt Ideal) → v13.ty.Contents (Elt Ideal) → ℕ →
    List (View.Piece (Elt Ideal) S16x256x256 .f32) × List (View.Piece (Elt Ideal) S16x2x256 .f32)
      × List (View.Piece (Elt Ideal) S16x32x256 .f32)}
    (T : Fin n → v10.ty.Contents (Elt Ideal) → v12.ty.Contents (Elt Ideal) → v13.ty.Contents (Elt Ideal) →
    List (View.Piece (Elt Ideal) S16x256x256 .f32) × List (View.Piece (Elt Ideal) S16x2x256 .f32)
      × List (View.Piece (Elt Ideal) S16x32x256 .f32))
    (h0 : ∀ f10 f12 f13, pb f10 f12 f13 0 = ([], [], []))
    (hs : ∀ f10 f12 f13, ∀ k : Fin n, pb f10 f12 f13 (k.val + 1) =
      ((T k (v10.writes (Elt Ideal) f10 (pb f10 f12 f13 k.val).1) (v12.writes (Elt Ideal) f12 (pb f10 f12 f13 k.val).2.1)
          (v13.writes (Elt Ideal) f13 (pb f10 f12 f13 k.val).2.2)).1 ++ (pb f10 f12 f13 k.val).1,
        (T k (v10.writes (Elt Ideal) f10 (pb f10 f12 f13 k.val).1) (v12.writes (Elt Ideal) f12 (pb f10 f12 f13 k.val).2.1)
          (v13.writes (Elt Ideal) f13 (pb f10 f12 f13 k.val).2.2)).2.1 ++ (pb f10 f12 f13 k.val).2.1,
        (T k (v10.writes (Elt Ideal) f10 (pb f10 f12 f13 k.val).1) (v12.writes (Elt Ideal) f12 (pb f10 f12 f13 k.val).2.1)
          (v13.writes (Elt Ideal) f13 (pb f10 f12 f13 k.val).2.2)).2.2 ++ (pb f10 f12 f13 k.val).2.2))
    (step : ∀ (k : Fin n) f10 f12 f13, k.val < 16 →
      Mid C Z k0 k (v10.read (Elt Ideal) f10) (v12.read (Elt Ideal) f12) (v13.read (Elt Ideal) f13) →
      Mid C Z k0 (k + 1) (v10.read (Elt Ideal) (v10.writes (Elt Ideal) f10 (T k f10 f12 f13).1))
        (v12.read (Elt Ideal) (v12.writes (Elt Ideal) f12 (T k f10 f12 f13).2.1))
        (v13.read (Elt Ideal) (v13.writes (Elt Ideal) f13 (T k f10 f12 f13).2.2))) :
    Keeps C Z v10 v12 v13 k0 pb := by
  subst hn
  intro f10 f12 f13 hM
  suffices h : ∀ k ≤ 16, Mid C Z k0 k (v10.read (Elt Ideal) (v10.writes (Elt Ideal) f10 (pb f10 f12 f13 k).1))
      (v12.read (Elt Ideal) (v12.writes (Elt Ideal) f12 (pb f10 f12 f13 k).2.1))
      (v13.read (Elt Ideal) (v13.writes (Elt Ideal) f13 (pb f10 f12 f13 k).2.2)) from h 16 le_rfl
  intro k
  induction k with
  | zero => intro _; rw [h0]; exact hM
  | succ k ih =>
    intro hk
    have e := hs f10 f12 f13 ⟨k, by omega⟩
    simp only at e
    rw [e]
    simp only [View.writes_append]
    exact step ⟨k, by omega⟩ _ _ _ (by simp only; omega) (ih (by omega))

end Step

end Qeq

end
-- ==== Proof.Qeq.Back.lean ====
/- Substitution from below: each pass of the last loop fixes one unknown of both systems. -/
module

public import proofs.«01_k».proof.Proof.Gen.KernelIdeal.Loops
public import proofs.«01_k».proof.Proof.Qeq.State

@[expose] public section

set_option maxRecDepth 16384

noncomputable section

namespace Qeq

open Idealize.ShloMosaic Idealize.ShloMosaic.TcCoe Idealize.ShloMosaic.Tactic Cert.KernelIdeal Cert.KernelIdeal.Gen

/-- The rows of the factor: row `i` as it was when it was the pivot row. -/
def rows (D : ℕ → ℕ → ℝ) (i j : ℕ) : ℝ := schur D i i j

/-- The right-hand side as the substitution reads it. -/
def sides (D : ℕ → ℕ → ℝ) (z : ℕ → ℝ) (k : ℕ) : ℝ := rhs D z 256 k

/-- Both unknown vectors after `n` passes. -/
def Known (C : Fin 16 → ℕ → ℕ → ℝ) (Z : Fin 16 → Fin 2 → ℕ → ℝ) (n : ℕ) (d : Vec Ideal S16x2x256 .f32) : Prop :=
  ∀ (b : Fin 16) (c : Fin 2) (j : Fin 256), d (ix3 b c j) = ((back 256 (rows (C b)) (sides (C b) (Z b c)) n j : ℝ) : EReal)

/-- One pass at an index: the unknown `255 - t` from the pivot row, the rest as it was. -/
theorem pay130_at (t : Fin k0_t17_loop.trips) (k : ℕ) (hk : k < 256)
    (hiv : Scalar.subi 255#32 (Scf.iv 0#32 1#32 t) = BitVec.ofNat 32 k)
    (row : Vec Ideal S16x1x256 .f32) (x z : Vec Ideal S16x2x256 .f32) (b : Fin 16) (c : Fin 2) (j : Fin 256) :
    k0_pay130 lanes t row x z (ix3 b c j) = if j.val = k
      then Ideal.div (z (ix3 b c ⟨k, hk⟩) - ∑ l : Fin 256, row (ix3 b 0 l) * x (ix3 b c l)) (row (ix3 b 0 ⟨k, hk⟩))
      else x (ix3 b c j) := by
  unfold k0_pay130
  rw [hiv]
  pointwise [lanes]
  rw [sel_eq j.isLt hk, sum_sel hk (fun l => z (ix3 b c l)), sum_sel hk (fun l => row (ix3 b 0 l))]

variable {C : Fin 16 → ℕ → ℕ → ℝ} {Z : Fin 16 → Fin 2 → ℕ → ℝ}

/-- One pass over real operands; left of the pivot the row meets unknowns that are still zero. -/
theorem pay130_known (hp : ∀ b, ∀ k < 256, schur (C b) k k k ≠ 0) (t : Fin k0_t17_loop.trips) (ht : t.val < 256)
    (hiv : Scalar.subi 255#32 (Scf.iv 0#32 1#32 t) = BitVec.ofNat 32 (255 - t.val))
    (row : Vec Ideal S16x1x256 .f32) (x z : Vec Ideal S16x2x256 .f32)
    (hr : ∀ (b : Fin 16) (j : Fin 256), 255 - t.val ≤ j.val → row (ix3 b 0 j) = ((rows (C b) (255 - t.val) j : ℝ) : EReal))
    (hz : Sides C Z 256 z) (hx : Known C Z t.val x) : Known C Z (t.val + 1) (k0_pay130 lanes t row x z) := by
  intro b c j
  rw [pay130_at t (255 - t.val) (by omega) hiv]
  simp only [back]
  show _ = ((if j.val = 255 - t.val then _ else _ : ℝ) : EReal)
  split
  · rename_i h
    rw [hz b c, hr b ⟨255 - t.val, by omega⟩ le_rfl, Finset.sum_congr rfl (g := fun l : Fin 256 =>
      ((rows (C b) (255 - t.val) l * back 256 (rows (C b)) (sides (C b) (Z b c)) t l : ℝ) : EReal))]
    · dsimp only
      rw [← coe_sum, ← EReal.coe_sub, Ideal.div_coe (y := rows (C b) (255 - t.val) (255 - t.val)) (hp b _ (by omega)), ← EReal.coe_mul,
        Fin.sum_univ_eq_sum_range (fun l => rows (C b) (255 - t.val) l * back 256 (rows (C b)) (sides (C b) (Z b c)) t l) 256, h,
        mul_one_div]
      rfl
    · intro l _
      rw [hx b c l]
      by_cases e : 255 - t.val ≤ l.val
      · rw [hr b l e, EReal.coe_mul]
      · rw [back_zero 256 _ _ t (by omega) l (by omega)]
        simp
  · exact hx b c j

section Pass

variable {sg : RefSig} {κ : Kind} {sp10 sp12 sp14 : Space}
  (v10 : View sg κ sp10 S16x256x256 .f32) (v12 : View sg κ sp12 S16x2x256 .f32) (v14 : View sg κ sp14 S16x2x256 .f32)
  (f10 : v10.ty.Contents (Elt Ideal)) (f12 : v12.ty.Contents (Elt Ideal)) (f14 : v14.ty.Contents (Elt Ideal))

/-- The pivot row as loaded, after the elimination. -/
theorem last_row {k : ℕ} (hk : k < 256) (off : Fin 3 → ℕ) (inb : ∀ a, off a + S16x1x256.size a ≤ S16x256x256.size a)
    (ho : off = ![0, k, 0]) (hU : Upper C 240 16 (v10.read (Elt Ideal) f10)) (b : Fin 16) (j : Fin 256) (hj : k ≤ j.val) :
    pivotRow v10 f10 off inb (ix3 b 0 j) = ((rows (C b) k j : ℝ) : EReal) := by
  subst ho
  have e := hU b ⟨k, hk⟩ j hj
  rw [show lvl 240 16 ((⟨k, hk⟩ : Fin 256) : ℕ) = k by simp only [lvl]; split <;> omega] at e
  unfold rows
  rw [← e]
  refine congrArg (v10.read (Elt Ideal) f10) (funext fun a => Fin.ext ?_)
  fin_cases a <;> simp [Rect.unit, LoadRect.idx, Rect.toLoadRect, ix3]

/-- One pass: its load and its store. -/
theorem pass (hp : ∀ b, ∀ k < 256, schur (C b) k k k ≠ 0) (t : Fin k0_t17_loop.trips) (ht : t.val < 256)
    (hiv : Scalar.subi 255#32 (Scf.iv 0#32 1#32 t) = BitVec.ofNat 32 (255 - t.val))
    (off : Fin 3 → ℕ) (inb : ∀ a, off a + S16x1x256.size a ≤ S16x256x256.size a) (ho : off = ![0, 255 - t.val, 0])
    (inbz : ∀ a, (![0, 0, 0] : Fin 3 → ℕ) a + S16x2x256.size a ≤ S16x2x256.size a)
    (hU : Upper C 240 16 (v10.read (Elt Ideal) f10)) (hz : Sides C Z 256 (v12.read (Elt Ideal) f12))
    (hx : Known C Z t.val (v14.read (Elt Ideal) f14)) :
    Known C Z (t.val + 1) (v14.read (Elt Ideal) (v14.writes (Elt Ideal) f14
      [⟨Rect.unit (s := S16x2x256) ![0, 0, 0] S16x2x256.size inbz, k0_pay130 lanes t (pivotRow v10 f10 off inb)
        (v14.readAt (Elt Ideal) (Rect.unit (s := S16x2x256) ![0, 0, 0] S16x2x256.size inbz).toLoadRect f14)
        (v12.readAt (Elt Ideal) (Rect.unit (s := S16x2x256) ![0, 0, 0] S16x2x256.size inbz).toLoadRect f12)⟩])) := by
  intro b c j
  rw [View.read_writes_cons_unit_of_mem v14 f14 inbz _ [] (ix3 b c j) (ix3 b c j) rfl
    (by intro a; fin_cases a <;> simp [ix3])]
  refine pay130_known hp t ht hiv _ _ _ (fun b j hj => last_row v10 f10 (by omega) off inb ho hU b j hj) ?_ ?_ b c j
  · rw [View.readAt_full]; exact hz
  · rw [View.readAt_full]; exact hx

end Pass

/-- The row that step `t` of the substitution reads. -/
theorem off33 : ∀ t : Fin k0_t17_loop.trips, k0_off33 t = ![0, 255 - t.val, 0] := by decide +kernel

/-- The number of the unknown that step `t` solves for, as the word that the loop computes. -/
theorem pivot17 (t : Fin k0_t17_loop.trips) (ht : t.val < 256) :
    Scalar.subi 255#32 (Scf.iv 0#32 1#32 t) = BitVec.ofNat 32 (255 - t.val) := by
  rw [show (0#32 : BitVec 32) = BitVec.ofNat 32 0 from rfl, iv_eq, Nat.zero_add]
  show (255#32 : BitVec 32) - BitVec.ofNat 32 t.val = _
  apply BitVec.eq_of_toNat_eq
  simp only [BitVec.toNat_sub, BitVec.toNat_ofNat]
  omega

variable (𝒱 : Variants) (c : Dev nD) (bd : Option 𝒱.V)
variable {arg0 : Memref sig .tc .vmem S16x256x128 .f32} (harg0 : arg0.IsWhole)
variable {arg1 : Memref sig .tc .vmem S16x256 .f32} (harg1 : arg1.IsWhole)
variable {arg2 : Memref sig .tc .vmem S16x256 .f32} (harg2 : arg2.IsWhole)
variable {arg3 : Memref sig .tc .vmem S16x256 .f32} (harg3 : arg3.IsWhole)
variable {arg4 : Memref sig .tc .vmem S16x256 .i32} (harg4 : arg4.IsWhole)
variable {arg5 : Memref sig .tc .vmem S1x16 .f32} (harg5 : arg5.IsWhole)
variable {arg6 : Memref sig .tc .vmem S1x128 .f32} (harg6 : arg6.IsWhole)
variable {arg7 : Memref sig .tc .smem S4 .f32} (harg7 : arg7.IsWhole)
variable {arg8 : Memref sig .tc .smem S4 .f32} (harg8 : arg8.IsWhole)
variable {arg9 : Memref sig .tc .vmem S1x16 .f32} (harg9 : arg9.IsWhole)
variable {arg10 : Memref sig .tc .vmem S16x256x256 .f32} (harg10 : arg10.IsWhole)
variable {arg11 : Memref sig .tc .vmem S16x256x256 .f32} (harg11 : arg11.IsWhole)
variable {arg12 : Memref sig .tc .vmem S16x2x256 .f32} (harg12 : arg12.IsWhole)
variable {arg13 : Memref sig .tc .vmem S16x32x256 .f32} (harg13 : arg13.IsWhole)
variable {arg14 : Memref sig .tc .vmem S16x2x256 .f32} (harg14 : arg14.IsWhole)

/-- The last loop. -/
theorem loop17 (hp : ∀ b, ∀ k < 256, schur (C b) k k k ≠ 0) (x51 : FVec Ideal S16x256 .f32)
    (f10 : arg10.view.ty.Contents (Elt Ideal)) (f12 : arg12.view.ty.Contents (Elt Ideal)) (f14 : arg14.view.ty.Contents (Elt Ideal))
    (hU : Upper C 240 16 (arg10.view.read (Elt Ideal) f10)) (hz : Sides C Z 256 (arg12.view.read (Elt Ideal) f12))
    (h0 : Known C Z 0 (arg14.view.read (Elt Ideal) f14)) (n : ℕ) (hn : n ≤ 256) :
    Known C Z n (arg14.view.read (Elt Ideal) (arg14.view.writes (Elt Ideal) f14
      (pb_k0_t17 (F := Ideal) 𝒱 c bd _ harg0 _ harg1 _ harg2 _ harg3 _ harg4 _ harg5 _ harg6 _ harg7 _ harg8 _ harg9 _ harg10 _ harg11 _ harg12 _ harg13 _ harg14 x51 lanes f10 f12 f14 n))) := by
  induction n with
  | zero => exact h0
  | succ n ih =>
    have hn' : n < k0_t17_loop.trips := by show n < 256; omega
    rw [show n + 1 = (⟨n, hn'⟩ : Fin k0_t17_loop.trips).val + 1 from rfl, pb_k0_t17_succ, View.writes_append]
    unfold tripL_k0_t17 trip_k0_t17
    dsimp only
    sl_unfold_words
    exact pass _ _ _ f10 f12 _ hp ⟨n, hn'⟩ (by simp only; omega) (pivot17 _ (by simp only; omega)) _ _ (off33 _) _ hU hz (ih (by omega))

end Qeq

end
-- ==== Proof.Qeq.Energy.lean ====
/- The last part: from both solutions the charges and the energies. -/
module

public import proofs.«01_k».proof.Proof.Qeq.Back
public import Idealize.ShloMosaic.Lib.Exec
public import Idealize.ShloMosaic.Lib.Tactic
public import Idealize.ShloMosaic.Lib.Pipeline.Kit

@[expose] public section

set_option maxRecDepth 16384

noncomputable section

namespace Qeq

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ

/-- The solution of the system for one right-hand side. -/
def solve (D : ℕ → ℕ → ℝ) (z : ℕ → ℝ) : ℕ → ℝ := back 256 (rows D) (sides D z) 256

/-- The charges: the first solution less the multiple of the second that makes the total right. -/
def charge (D : ℕ → ℕ → ℝ) (z : Fin 2 → ℕ → ℝ) (tc : ℝ) (j : ℕ) : ℝ :=
  solve D (z 0) j - (∑ l ∈ Finset.range 256, solve D (z 0) l - tc) / (∑ l ∈ Finset.range 256, solve D (z 1) l) * solve D (z 1) j

/-- The energy of one molecule. -/
def molecule (D : ℕ → ℕ → ℝ) (z : Fin 2 → ℕ → ℝ) (tc : ℝ) : ℝ :=
  ∑ i ∈ Finset.range 256, (1 / 2 * (∑ j ∈ Finset.range 256, D i j * charge D z tc j) + -z 0 i) * charge D z tc i

/-- The node energies, of which the first right-hand side is the negative; the second right-hand side is one. -/
def ChiIs (Z : Fin 16 → Fin 2 → ℕ → ℝ) (v : FVec Ideal S16x256 .f32) : Prop :=
  (∀ (b : Fin 16) (j : Fin 256), v (ix2 b j) = ((-Z b 0 j : ℝ) : EReal)) ∧ ∀ (b : Fin 16) (j : ℕ), Z b 1 j = 1

/-- The matrices of all molecules. -/
def Coeffs (C : Fin 16 → ℕ → ℕ → ℝ) (d : Vec Ideal S16x256x256 .f32) : Prop :=
  ∀ (b : Fin 16) (i j : Fin 256), d (ix3 b i j) = ((C b i j : ℝ) : EReal)

/-- The total charges. -/
def Totals (tc : Fin 16 → ℝ) (d : Vec Ideal S1x16 .f32) : Prop := ∀ b : Fin 16, d (ix2 0 b) = ((tc b : ℝ) : EReal)

variable {C : Fin 16 → ℕ → ℕ → ℝ} {Z : Fin 16 → Fin 2 → ℕ → ℝ} {tc : Fin 16 → ℝ}

/-- The word of one half. -/
theorem half : Ideal.ofBits .f32 0x3F000000#32 = ((1 / 2 : ℝ) : EReal) := by
  simp [Ideal.ofBits, Ideal.ieee, -EReal.coe_mul]; norm_num

/-- A sum of 256 real numbers, taken over the extended reals. -/
theorem sum_range_coe (f : ℕ → ℝ) : (∑ l : Fin 256, ((f l : ℝ) : EReal)) = ((∑ l ∈ Finset.range 256, f l : ℝ) : EReal) := by
  rw [← coe_sum, Fin.sum_univ_eq_sum_range f 256]

/-- The stored energies are those of the molecules. -/
theorem pay131_real (hs : ∀ b, ∑ l ∈ Finset.range 256, solve (C b) (Z b 1) l ≠ 0) {v51 : FVec Ideal S16x256 .f32}
    {x : Vec Ideal S16x2x256 .f32} {t : Vec Ideal S1x16 .f32} {d : Vec Ideal S16x256x256 .f32}
    (hchi : ChiIs Z v51) (hx : Known C Z 256 x) (ht : Totals tc t) (hd : Coeffs C d) (b : Fin 16) :
    k0_pay131 v51 x t d (ix2 0 b) = ((molecule (C b) (Z b) (tc b) : ℝ) : EReal) := by
  have h0 : ∀ j : Fin 256, x (ix3 b 0 j) = ((solve (C b) (Z b 0) j : ℝ) : EReal) := hx b 0
  have h1 : ∀ j : Fin 256, x (ix3 b 1 j) = ((solve (C b) (Z b 1) j : ℝ) : EReal) := hx b 1
  have hq : ∀ j : Fin 256, x (ix3 b 0 j) - Ideal.div ((∑ l : Fin 256, x (ix3 b 0 l)) - t (ix2 0 b)) (∑ l : Fin 256, x (ix3 b 1 l)) * x (ix3 b 1 j)
      = ((charge (C b) (Z b) (tc b) j : ℝ) : EReal) := by
    intro j
    simp only [h0, h1, ht b, sum_range_coe]
    rw [← EReal.coe_sub, Ideal.div_coe (hs b), ← EReal.coe_mul, ← EReal.coe_mul, ← EReal.coe_sub, mul_one_div]
    rfl
  have e : k0_pay131 v51 x t d (ix2 0 b) = ∑ i : Fin 256, (Ideal.ofBits .f32 0x3F000000#32 * (∑ j : Fin 256, d (ix3 b i j)
      * (x (ix3 b 0 j) - Ideal.div ((∑ l : Fin 256, x (ix3 b 0 l)) - t (ix2 0 b)) (∑ l : Fin 256, x (ix3 b 1 l)) * x (ix3 b 1 j))) + v51 (ix2 b i))
      * (x (ix3 b 0 i) - Ideal.div ((∑ l : Fin 256, x (ix3 b 0 l)) - t (ix2 0 b)) (∑ l : Fin 256, x (ix3 b 1 l)) * x (ix3 b 1 i)) := by
    pointwise [k0_pay131]
  rw [e]
  refine (Finset.sum_congr rfl fun i _ => ?_).trans (sum_range_coe (fun l =>
    (1 / 2 * (∑ j ∈ Finset.range 256, C b l j * charge (C b) (Z b) (tc b) j) + -Z b 0 l) * charge (C b) (Z b) (tc b) l))
  have hm : (∑ j : Fin 256, d (ix3 b i j) * (x (ix3 b 0 j) - Ideal.div ((∑ l : Fin 256, x (ix3 b 0 l)) - t (ix2 0 b))
      (∑ l : Fin 256, x (ix3 b 1 l)) * x (ix3 b 1 j)))
      = ((∑ j ∈ Finset.range 256, C b i j * charge (C b) (Z b) (tc b) j : ℝ) : EReal) :=
    (Finset.sum_congr rfl fun j _ => by rw [hq, hd b, ← EReal.coe_mul]).trans
      (sum_range_coe (fun j => C b i j * charge (C b) (Z b) (tc b) j))
  rw [hm, hq, half, hchi.1 b, ← EReal.coe_mul, ← EReal.coe_add, ← EReal.coe_mul]

variable (hp : ∀ b, ∀ k < 256, schur (C b) k k k ≠ 0) (hs : ∀ b, ∑ l ∈ Finset.range 256, solve (C b) (Z b 1) l ≠ 0)
variable (𝒱 : Variants) (c : Dev nD) (bd : Option 𝒱.V) (E : Set ℕ)
variable {arg0 : Memref sig .tc .vmem S16x256x128 .f32} (harg0 : arg0.IsWhole)
variable {arg1 : Memref sig .tc .vmem S16x256 .f32} (harg1 : arg1.IsWhole)
variable {arg2 : Memref sig .tc .vmem S16x256 .f32} (harg2 : arg2.IsWhole)
variable {arg3 : Memref sig .tc .vmem S16x256 .f32} (harg3 : arg3.IsWhole)
variable {arg4 : Memref sig .tc .vmem S16x256 .i32} (harg4 : arg4.IsWhole)
variable {arg5 : Memref sig .tc .vmem S1x16 .f32} (harg5 : arg5.IsWhole)
variable {arg6 : Memref sig .tc .vmem S1x128 .f32} (harg6 : arg6.IsWhole)
variable {arg7 : Memref sig .tc .smem S4 .f32} (harg7 : arg7.IsWhole)
variable {arg8 : Memref sig .tc .smem S4 .f32} (harg8 : arg8.IsWhole)
variable {arg9 : Memref sig .tc .vmem S1x16 .f32} (harg9 : arg9.IsWhole)
variable {arg10 : Memref sig .tc .vmem S16x256x256 .f32} (harg10 : arg10.IsWhole)
variable {arg11 : Memref sig .tc .vmem S16x256x256 .f32} (harg11 : arg11.IsWhole)
variable {arg12 : Memref sig .tc .vmem S16x2x256 .f32} (harg12 : arg12.IsWhole)
variable {arg13 : Memref sig .tc .vmem S16x32x256 .f32} (harg13 : arg13.IsWhole)
variable {arg14 : Memref sig .tc .vmem S16x2x256 .f32} (harg14 : arg14.IsWhole)

/-- The unknowns before the first pass. -/
theorem known_zero {sg : RefSig} {κ : Kind} {sp14 : Space} (v14 : View sg κ sp14 S16x2x256 .f32) (f14 : v14.ty.Contents (Elt Ideal))
    (inb : ∀ a, (![0, 0, 0] : Fin 3 → ℕ) a + S16x2x256.size a ≤ S16x2x256.size a) :
    Known C Z 0 (v14.read (Elt Ideal) (v14.writes (Elt Ideal) f14
      [⟨Rect.unit (s := S16x2x256) ![0, 0, 0] S16x2x256.size inb, k0_pay129 (F := Ideal)⟩])) := by
  intro b c j
  rw [View.read_writes_cons_unit_of_mem v14 f14 inb _ [] (ix3 b c j) (ix3 b c j) rfl
    (by intro a; fin_cases a <;> simp [ix3])]
  have : k0_pay129 (F := Ideal) (ix3 b c j) = Ideal.ofBits .f32 0#32 := by pointwise [k0_pay129]
  rw [this, Ideal.ofBits_zero_f32]
  rfl

include hp hs in
/-- The last part: substitution, charges, energies. -/
theorem part29 (v51 : FVec Ideal S16x256 .f32) (v131 : IVec S1x1x256 32) (f5 : arg5.view.ty.Contents (Elt Ideal)) :
    (iprop(∃ f9 g10 f11 g12 f14, (arg5.view.loc (c : Thread nD τ) ↦[arg5.view.set]{fullShare} f5)
      ∗ (arg9.view.loc (c : Thread nD τ) ↦[arg9.view.set]{fullShare} f9)
      ∗ (arg10.view.loc (c : Thread nD τ) ↦[arg10.view.set]{fullShare} g10)
      ∗ (arg11.view.loc (c : Thread nD τ) ↦[arg11.view.set]{fullShare} f11)
      ∗ (arg12.view.loc (c : Thread nD τ) ↦[arg12.view.set]{fullShare} g12)
      ∗ (arg14.view.loc (c : Thread nD τ) ↦[arg14.view.set]{fullShare} f14)
      ∗ ⌜v131 = lanes ∧ Upper C 240 16 (arg10.view.read (Elt Ideal) g10) ∧ Sides C Z 256 (arg12.view.read (Elt Ideal) g12)⌝
      ∗ ⌜ChiIs Z v51⌝ ∗ ⌜Totals tc (arg5.view.read (Elt Ideal) f5)⌝ ∗ ⌜Coeffs C (arg11.view.read (Elt Ideal) f11)⌝) : sProp 𝕄)
    ⊢ wp frame (wpE (defs₀ (F := Ideal)) 𝒱 (c : Thread nD τ) bd) E (k0_part29 (F := Ideal) _ harg0 _ harg1 _ harg2 _ harg3 _ harg4 _ harg5 _ harg6 _ harg7 _ harg8 _ harg9 _ harg10 _ harg11 _ harg12 _ harg13 _ harg14 v51 v131)
      (fun _ => iprop(∃ g9 g10 g11 g12 g14, (arg5.view.loc (c : Thread nD τ) ↦[arg5.view.set]{fullShare} f5)
      ∗ (arg9.view.loc (c : Thread nD τ) ↦[arg9.view.set]{fullShare} g9)
      ∗ (arg10.view.loc (c : Thread nD τ) ↦[arg10.view.set]{fullShare} g10)
      ∗ (arg11.view.loc (c : Thread nD τ) ↦[arg11.view.set]{fullShare} g11)
      ∗ (arg12.view.loc (c : Thread nD τ) ↦[arg12.view.set]{fullShare} g12)
      ∗ (arg14.view.loc (c : Thread nD τ) ↦[arg14.view.set]{fullShare} g14)
      ∗ ⌜∀ b : Fin 16, arg9.view.read (Elt Ideal) g9 (ix2 0 b) = ((molecule (C b) (Z b) (tc b) : ℝ) : EReal)⌝)) := by
  rw [k0_part29_eq_skeleton]
  unfold k0_part29_skel
  iintro ⟨%f9, %g10, %f11, %g12, %f14, H5, H9, H10, H11, H12, H14, %hpre, %hchi, %htc, %hd⟩
  obtain ⟨rfl, hU, hZ⟩ := hpre
  sl_exec
  sl_step
  iexists _, _, _, _, _
  isplitl [H5]
  · iexact H5
  isplitl [H9]
  · iexact H9
  isplitl [H10]
  · iexact H10
  isplitl [H11]
  · iexact H11
  isplitl [H12]
  · iexact H12
  isplitl [H14]
  · iexact H14
  ipureintro
  sl_unfold_words
  intro b
  rw [← View.readAt_full arg9.view _ inb_S1x16_S1x16_0_0, View.readAt_writes_full]
  refine pay131_real hs hchi ?_ ?_ ?_ b
  · show Known C Z 256 (View.readAt (Elt Ideal) arg14.view
      (Rect.unit ![0, 0, 0] S16x2x256.size inb_S16x2x256_S16x2x256_0_0_0).toLoadRect (arg14.view.writes (Elt Ideal) arg14.view.junk _))
    rw [View.readAt_full, View.writes_append]
    exact loop17 𝒱 c bd harg0 harg1 harg2 harg3 harg4 harg5 harg6 harg7 harg8 harg9 harg10 harg11 harg12 harg13 harg14
      hp v51 g10 g12 _ hU hZ (known_zero arg14.view _ _) 256 le_rfl
  · rw [View.readAt_full]; exact htc
  · rw [View.readAt_full]; exact hd

end Qeq

end
-- ==== Proof.Qeq.Molecule.lean ====
/- The energy of a molecule by two solves is its energy by the elimination of the bordered matrix. -/
module

public import proofs.«01_k».proof.Proof.Qeq.Energy

@[expose] public section

set_option maxRecDepth 16384

noncomputable section

namespace Qeq

open Finset

/-- A right-hand side does not change in a row once the row is reached. -/
theorem rhs_stable (C : ℕ → ℕ → ℝ) (z : ℕ → ℝ) (k d : ℕ) : rhs C z (k + d) k = rhs C z k k := by
  induction d with
  | zero => rfl
  | succ d ih =>
    show rhs C z (k + d) k - (if k + d < k then _ else 0) = _
    rw [ih, if_neg (by omega), sub_zero]

/-- The solution solves. -/
theorem solve_solves {D : ℕ → ℕ → ℝ} {z : ℕ → ℝ} (hD : ∀ i j, D i j = D j i) (hp : ∀ k < 256, schur D k k k ≠ 0) (i : ℕ) (hi : i < 256) :
    ∑ j ∈ range 256, D i j * solve D z j = z i :=
  back_solves hD hp (fun _ _ _ _ _ => rfl) (fun k hk => by
    have := rhs_stable D z k (256 - k)
    rwa [show k + (256 - k) = 256 by omega] at this) i hi

variable {D : ℕ → ℕ → ℝ} {x : ℕ → ℝ} {tc : ℝ}

/-- The pivots of the matrix are those of the bordered one. -/
theorem schur_pivots (hD : ∀ i j, D i j = D j i) (hp : ∀ k < 257, jordan (border 256 D x tc) k k k ≠ 0) (k : ℕ) (hk : k < 256) :
    schur D k k k ≠ 0 := by
  rw [← jordan_eq_schur 256 hD (M := border 256 D x tc) (fun i j hi hj => by rw [border, if_pos hi, if_pos hj]) k k k le_rfl hk le_rfl hk]
  exact hp k (by omega)

/-- The two solutions give the charges. -/
theorem charge_eq (hD : ∀ i j, D i j = D j i) (hp : ∀ k < 257, jordan (border 256 D x tc) k k k ≠ 0) {z : Fin 2 → ℕ → ℝ}
    (h0 : ∀ i < 256, z 0 i = - x i) (h1 : ∀ i, z 1 i = 1) :
    ∑ l ∈ range 256, solve D (z 1) l ≠ 0 ∧ ∀ i < 256, charge D z tc i = jordan (border 256 D x tc) 257 i 257 :=
  charges hp (fun i hi => (solve_solves hD (schur_pivots hD hp) i hi).trans (h0 i hi))
    (fun i hi => (solve_solves hD (schur_pivots hD hp) i hi).trans (h1 i))

/-- The energy in the reference's form. -/
theorem molecule_eq (hD : ∀ i j, D i j = D j i) (hp : ∀ k < 257, jordan (border 256 D x tc) k k k ≠ 0) {z : Fin 2 → ℕ → ℝ}
    (h0 : ∀ i < 256, z 0 i = - x i) (h1 : ∀ i, z 1 i = 1) {q : ℕ → ℝ} (hq : ∀ i < 256, q i = jordan (border 256 D x tc) 257 i 257) :
    molecule D z tc = ∑ i ∈ range 256, ∑ j ∈ range 256, (if i < j then D i j else 0) * q i * q j
      + ∑ i ∈ range 256, (x i * q i + 1 / 2 * D i i * (q i * q i)) := by
  have hc : ∀ i ∈ range 256, charge D z tc i = q i := fun i hi => by
    rw [hq i (mem_range.mp hi), (charge_eq hD hp h0 h1).2 i (mem_range.mp hi)]
  rw [← energy (C := D) (N := 256) (up := fun i j => if i < j then D i j else 0) (dg := fun i => D i i) (chi := x) (q := q)]
  · unfold molecule
    refine sum_congr rfl fun i hi => ?_
    rw [hc i hi, h0 i (mem_range.mp hi), neg_neg, sum_congr rfl fun j hj => by rw [hc j hj]]
  · intro i j _ _
    rcases Nat.lt_trichotomy i j with h | h | h
    · rw [if_pos h, if_neg (by omega), if_neg (by omega)]; ring
    · subst h; simp
    · rw [if_neg (by omega), if_pos h, if_neg (by omega), hD i j]; ring

end Qeq

end
-- ==== Proof.Qeq.RefValue.lean ====
/- The reference's result: the energies of the charges that the elimination finds. -/
module

public import proofs.«01_k».proof.Proof.Qeq.RefMat
public import proofs.«01_k».proof.Proof.Qeq.Molecule
public import Idealize.ShloMosaic.Lib.Routing.OpsPair

@[expose] public section

set_option maxRecDepth 16384

noncomputable section

namespace Qeq.Ref

open Idealize.ShloMosaic Cert.ReferenceIdeal Cert.ReferenceIdeal.Gen Cert.ReferenceIdeal.Step

variable (A : Args)

/-- The matrices' real entries. -/
def realMat (b : Fin 16) (i j : ℕ) : ℝ := if h : i < 256 ∧ j < 256 then (matrix A (ix3 b ⟨i, h.1⟩ ⟨j, h.2⟩)).toReal else 0

/-- The real node energies. -/
def realChi (b : Fin 16) (i : ℕ) : ℝ := if h : i < 256 then (chi A (ix2 b ⟨i, h⟩)).toReal else 0

/-- The real total charges. -/
def realTotal (b : Fin 16) : ℝ := (A.a5 (ix2 b 0)).toReal

/-- The two right-hand sides. -/
def realSides (b : Fin 16) (c : Fin 2) (i : ℕ) : ℝ := if c = 0 then - realChi A b i else 1

/-- The real bordered matrices. -/
def realBordered (b : Fin 16) : ℕ → ℕ → ℝ := border 256 (realMat A b) (realChi A b) (realTotal A b)

/-- Arguments on which the elimination works: every type and molecule number is one, the matrices are finite, no pivot is zero. -/
structure Regular : Prop where
  types : ∀ p : Fin 4096, ∃ n : Fin 4, A.a2 (ix1 p) = BitVec.ofNat 32 n
  molecules : ∀ b i, A.a4 (ix1 (atom b i)) = BitVec.ofNat 32 b
  finite : ∀ b i k, bordered A (ix3 b i k) ≠ ⊤ ∧ bordered A (ix3 b i k) ≠ ⊥
  pivots : ∀ b, ∀ k < 257, jordan (realBordered A b) k k k ≠ 0

variable {A}

/-- A finite matrix entry is a real number. -/
theorem matrix_real (fin : ∀ b i k, bordered A (ix3 b i k) ≠ ⊤ ∧ bordered A (ix3 b i k) ≠ ⊥) (b : Fin 16) (i j : Fin 256) :
    matrix A (ix3 b i j) = ((realMat A b i j : ℝ) : EReal) := by
  have h := fin b ⟨i, by omega⟩ ⟨j, by omega⟩
  rw [bordered_mat] at h
  rw [realMat, dif_pos ⟨i.isLt, j.isLt⟩, EReal.coe_toReal h.1 h.2]

/-- So is an atom's energy. -/
theorem chi_real (fin : ∀ b i k, bordered A (ix3 b i k) ≠ ⊤ ∧ bordered A (ix3 b i k) ≠ ⊥) (b : Fin 16) (i : Fin 256) :
    chi A (ix2 b i) = ((realChi A b i : ℝ) : EReal) := by
  have h := fin b ⟨i, by omega⟩ 257
  rw [bordered_chi] at h
  rw [realChi, dif_pos i.isLt, EReal.coe_toReal (fun e => h.2 (by rw [e]; rfl)) (fun e => h.1 (by rw [e]; rfl))]

/-- So is a total charge. -/
theorem total_real (fin : ∀ b i k, bordered A (ix3 b i k) ≠ ⊤ ∧ bordered A (ix3 b i k) ≠ ⊥) (b : Fin 16) :
    A.a5 (ix2 b 0) = ((realTotal A b : ℝ) : EReal) := by
  have h := fin b 256 257
  rw [bordered_total] at h
  rw [realTotal, EReal.coe_toReal h.1 h.2]

/-- The bordered matrices are real. -/
theorem bordered_real (fin : ∀ b i k, bordered A (ix3 b i k) ≠ ⊤ ∧ bordered A (ix3 b i k) ≠ ⊥) (b : Fin 16) (i : Fin 257) (k : Fin 258) :
    bordered A (ix3 b i k) = ((realBordered A b i k : ℝ) : EReal) := by
  obtain ⟨i, hi⟩ := i
  obtain ⟨k, hk⟩ := k
  simp only [realBordered, border]
  by_cases h1 : i < 256
  · rw [if_pos h1]
    by_cases h2 : k < 256
    · rw [if_pos h2]
      exact (bordered_mat A b ⟨i, h1⟩ ⟨k, h2⟩).trans (matrix_real fin b ⟨i, h1⟩ ⟨k, h2⟩)
    · rw [if_neg h2]
      by_cases h3 : k = 256
      · subst h3
        rw [if_pos rfl]
        exact (bordered_one A b ⟨i, h1⟩).trans EReal.coe_one.symm
      · obtain rfl : k = 257 := by omega
        rw [if_neg h3, EReal.coe_neg, ← chi_real fin b ⟨i, h1⟩]
        exact bordered_chi A b ⟨i, h1⟩
  · obtain rfl : i = 256 := by omega
    rw [if_neg h1]
    by_cases h2 : k < 256
    · rw [if_pos h2]
      exact (bordered_last A b ⟨k, h2⟩).trans EReal.coe_one.symm
    · rw [if_neg h2]
      by_cases h3 : k = 256
      · subst h3
        rw [if_pos rfl]
        exact (bordered_zero A b).trans EReal.coe_zero.symm
      · obtain rfl : k = 257 := by omega
        rw [if_neg h3]
        exact (bordered_total A b).trans (total_real fin b)

variable (A) in
/-- The trips of the elimination. -/
def trips : ℕ → State Ideal
  | 0 => ⟨bordered A⟩
  | n + 1 => step n (trips n)

/-- The trips on real entries, while no pivot is zero. -/
theorem trips_real (fin : ∀ b i k, bordered A (ix3 b i k) ≠ ⊤ ∧ bordered A (ix3 b i k) ≠ ⊥) (n : ℕ) (hn : n ≤ 257)
    (hp : ∀ b, ∀ k < n, jordan (realBordered A b) k k k ≠ 0) (b : Fin 16) (i : Fin 257) (k : Fin 258) :
    (trips A n).main_v77_2 (ix3 b i k) = ((jordan (realBordered A b) n i k : ℝ) : EReal) := by
  induction n generalizing b i k with
  | zero => exact bordered_real fin b i k
  | succ n ih =>
    exact trip_real n (by omega) _ (realBordered A) (fun b i k => ih (by omega) (fun b k hk => hp b k (by omega)) b i k)
      (fun b => hp b n (by omega)) b i k

/-- The charges, read from the last column. -/
def lastColumn (s : State Ideal) : FVec Ideal S16x256 .f32 :=
  shapeCast S16x256 (extractStridedSlice S16x256x1 ![0, 0, 257] s.main_v77_2 slices_S16x257x258_S16x256x1_0_0_257) shapeCasts_S16x256x1_S16x256

/-- The charges, read off after the elimination. -/
theorem lastColumn_at (s : State Ideal) (b : Fin 16) (i : Fin 256) :
    lastColumn s (ix2 b i) = s.main_v77_2 (ix3 b ⟨i, by omega⟩ 257) := by
  pointwise [lastColumn]

/-- The energy of the pairs of every molecule. -/
def pairEnergy (s : State Ideal) : FVec Ideal S16 .f32 :=
  Host.reduceAdd (mulf (mulf (upper A) (broadcastInDim S16x256x256 ![0, 1, 2] bcast_S16x256x1_S16x256x256_0_1_2
      (broadcastInDim S16x256x1 ![0, 1] bcast_S16x256_S16x256x1_0_1 (lastColumn s))))
    (broadcastInDim S16x256x256 ![0, 1, 2] bcast_S16x1x256_S16x256x256_0_1_2
      (broadcastInDim S16x1x256 ![0, 2] bcast_S16x256_S16x1x256_0_2 (lastColumn s))))
    (constant S_ .f32 0x00000000#32) reducesTo_S16x256x256_S16_d1_2 h_S_

/-- The energy of every atom by itself. -/
def selfEnergy (s : State Ideal) : FVec Ideal S16x256 .f32 :=
  addf (mulf (chi A) (lastColumn s)) (mulf (mulf (broadcastInDim S16x256 ![] bcast_S_S16x256 (constant S_ .f32 0x3F000000#32)) (diagonal A))
    (mulf (lastColumn s) (lastColumn s)))

/-- The result by its parts: the pairs' energies and the atoms' own, summed by molecule. -/
theorem result_eq (s : State Ideal) : R_main_v155 s A.a0 A.a1 A.a2 A.a4 A.a6 A.a7 A.a8
    = shapeCast S16x1 (addf (pairEnergy (A := A) s) (Host.scatterAdd scatter_S16_S4096x1_S4096_n_0_0_1
        (broadcastInDim S16 ![] bcast_S_S16 (constant S_ .f32 0x00000000#32)) (broadcastInDim S4096x1 ![0] bcast_S4096_S4096x1_0 A.a4)
        (shapeCast S4096 (selfEnergy (A := A) s) shapeCasts_S16x256_S4096))) shapeCasts_S16_S16x1 := by
  unfold R_main_v155
  rfl

/-- The own energy of an atom. -/
theorem selfEnergy_at (s : State Ideal) (b : Fin 16) (i : Fin 256) : selfEnergy (A := A) s (ix2 b i)
    = chi A (ix2 b i) * lastColumn s (ix2 b i) + Ideal.ofBits .f32 0x3F000000#32 * diagonal A (ix2 b i) * (lastColumn s (ix2 b i) * lastColumn s (ix2 b i)) := by
  pointwise [selfEnergy]

/-- The pairs' energy of a molecule. -/
theorem pairEnergy_at (s : State Ideal) (b : Fin 16) : pairEnergy (A := A) s (ix1 b)
    = ∑ i : Fin 256, ∑ j : Fin 256, upper A (ix3 b i j) * lastColumn s (ix2 b i) * lastColumn s (ix2 b j) := by
  pointwise [pairEnergy]

/-- An atom's own energy is added to the molecule whose number it has. -/
theorem lands (idx : IVec S4096x1 32) (p : Fin 4096) (b : Fin 16) :
    scatter_S16_S4096x1_S4096_n_0_0_1.resultIdx? (ix1 p) idx = some (ix1 b) ↔ (idx (ix2 p 0)).toInt = b := by
  rw [Routing.resultIdx?_eq_some]
  have hw : scatter_S16_S4096x1_S4096_n_0_0_1.window (ix1 p) 0 = 0 := rfl
  have hs : scatter_S16_S4096x1_S4096_n_0_0_1.start (ix1 p) idx 0 = (idx (ix2 p 0)).toInt := by
    unfold ScatterDims.start
    rw [dif_pos (by decide)]
    congr 2
    funext a
    fin_cases a <;> rfl
  constructor
  · intro h
    have := h 0
    rw [hw, hs] at this
    simpa using this
  · intro h a
    fin_cases a
    show ScatterDims.start _ _ idx 0 + (ScatterDims.window _ _ 0 : ℤ) = _
    rw [hw, hs, h]
    simp

/-- The energies of the atoms, added up for each molecule. -/
theorem scatter_at (mol : ∀ b i, A.a4 (ix1 (atom b i)) = BitVec.ofNat 32 b) (u : FVec Ideal S4096 .f32) (b : Fin 16) :
    Host.scatterAdd scatter_S16_S4096x1_S4096_n_0_0_1 (broadcastInDim S16 ![] bcast_S_S16 (constant (F := Ideal) S_ .f32 0x00000000#32))
      (broadcastInDim S4096x1 ![0] bcast_S4096_S4096x1_0 A.a4) u (ix1 b) = ∑ i : Fin 256, u (ix1 (atom b i)) := by
  have at_ : ∀ p, broadcastInDim S4096x1 ![0] bcast_S4096_S4096x1_0 A.a4 (ix2 p 0) = A.a4 (ix1 p) := fun p => by pointwise
  show Ideal.ofBits .f32 0#32 + ∑ j ∈ Finset.univ.filter (fun j => scatter_S16_S4096x1_S4096_n_0_0_1.resultIdx? j _ = some (ix1 b)), u j = _
  rw [Ideal.ofBits_zero_f32, zero_add]
  symm
  refine Finset.sum_nbij (fun i => ix1 (atom b i)) (fun i _ => ?_) (fun i _ j _ e => ?_) (fun j hj => ?_) (fun _ _ => rfl)
  · refine Finset.mem_filter.mpr ⟨Finset.mem_univ _, (lands _ _ b).mpr ?_⟩
    rw [at_, mol, word_int b (by omega)]
  · have := congrArg (fun f : S4096.Idx => (f 0 : ℕ)) e
    apply Fin.ext
    change (b : ℕ) * 256 + i = b * 256 + j at this
    omega
  · have hj := (Finset.mem_filter.mp hj).2
    obtain ⟨p, rfl⟩ : ∃ p : Fin 4096, j = ix1 p := ⟨j 0, by funext a; fin_cases a; rfl⟩
    rw [lands, at_] at hj
    have e : p = atom ⟨p / 256, by omega⟩ ⟨p % 256, by omega⟩ := Fin.ext (by show (p : ℕ) = p / 256 * 256 + p % 256; omega)
    rw [e, mol, word_int _ (by show (p : ℕ) / 256 < 258; omega)] at hj
    refine ⟨⟨p % 256, by omega⟩, Finset.mem_coe.mpr (Finset.mem_univ _), ?_⟩
    show ix1 (atom b ⟨p % 256, _⟩) = ix1 p
    congr 1
    apply Fin.ext
    show (b : ℕ) * 256 + p % 256 = p
    have : ((p : ℕ) / 256 : ℤ) = (b : ℕ) := by exact_mod_cast hj
    omega

/-- One energy of the result. -/
theorem result_at (mol : ∀ b i, A.a4 (ix1 (atom b i)) = BitVec.ofNat 32 b) (s : State Ideal) (b : Fin 16) :
    R_main_v155 s A.a0 A.a1 A.a2 A.a4 A.a6 A.a7 A.a8 (ix2 b 0)
      = pairEnergy (A := A) s (ix1 b) + ∑ i : Fin 256, selfEnergy (A := A) s (ix2 b i) := by
  rw [result_eq]
  pointwise
  rw [scatter_at mol]
  refine congrArg _ (Finset.sum_congr rfl fun i _ => ?_)
  pointwise
  congr 2
  · exact Fin.ext (by show ((b : ℕ) * 256 + i) / 256 = b; omega)
  · exact Fin.ext (by show ((b : ℕ) * 256 + i) % 256 = i; omega)

/-- The entry above the diagonal is the pair's. -/
theorem upper_real (fin : ∀ b i k, bordered A (ix3 b i k) ≠ ⊤ ∧ bordered A (ix3 b i k) ≠ ⊥) (b : Fin 16) (i j : Fin 256) :
    upper A (ix3 b i j) = (((if (i : ℕ) < j then realMat A b i j else 0) : ℝ) : EReal) := by
  by_cases h : (i : ℕ) < j
  · have := matrix_real fin b i j
    rw [matrix_at, upper_at A b j i, if_neg (by omega), if_neg (by omega), add_zero, add_zero] at this
    rw [if_pos h, this]
  · rw [upper_at, if_neg h, if_neg h, EReal.coe_zero]

/-- The entry on the diagonal is the atom's. -/
theorem diagonal_real (fin : ∀ b i k, bordered A (ix3 b i k) ≠ ⊤ ∧ bordered A (ix3 b i k) ≠ ⊥) (b : Fin 16) (i : Fin 256) :
    diagonal A (ix2 b i) = ((realMat A b i i : ℝ) : EReal) := by
  have := matrix_real fin b i i
  rwa [matrix_at, upper_at, if_neg (by omega), if_pos rfl, add_zero, zero_add] at this

/-- The matrices are symmetric. -/
theorem realMat_symm (b : Fin 16) (i j : ℕ) : realMat A b i j = realMat A b j i := by
  unfold realMat
  by_cases h : i < 256 ∧ j < 256
  · rw [dif_pos h, dif_pos h.symm, matrix_at, matrix_at, add_comm (upper A _)]
    congr 2
    by_cases e : i = j
    · subst e; rfl
    · rw [if_neg e, if_neg (fun e' => e e'.symm)]
  · rw [dif_neg h, dif_neg (fun h' => h h'.symm)]

/-- The reference's result. -/
theorem result (h : Regular A) (b : Fin 16) : R_main_v155 (trips A 257) A.a0 A.a1 A.a2 A.a4 A.a6 A.a7 A.a8 (ix2 b 0)
    = ((molecule (realMat A b) (realSides A b) (realTotal A b) : ℝ) : EReal) := by
  have hq : ∀ i : Fin 256, lastColumn (trips A 257) (ix2 b i) = ((jordan (realBordered A b) 257 i 257 : ℝ) : EReal) := fun i => by
    rw [lastColumn_at]
    exact trips_real h.finite 257 le_rfl h.pivots b _ _
  rw [result_at h.molecules, pairEnergy_at,
    molecule_eq (q := fun i => jordan (realBordered A b) 257 i 257) (realMat_symm b) (h.pivots b) (fun _ _ => rfl) (fun _ => rfl) (fun _ _ => rfl),
    EReal.coe_add, ← sum_range_coe, ← sum_range_coe]
  refine congr (congrArg _ (Finset.sum_congr rfl fun i _ => ?_)) (Finset.sum_congr rfl fun i _ => ?_)
  · rw [← sum_range_coe]
    refine Finset.sum_congr rfl fun j _ => ?_
    rw [upper_real h.finite, hq, hq, EReal.coe_mul, EReal.coe_mul]
  · rw [selfEnergy_at, chi_real h.finite, diagonal_real h.finite, hq, half]
    simp only [EReal.coe_mul, EReal.coe_add]

end Qeq.Ref

end
-- ==== Proof.Qeq.RefPre.lean ====
/- What the precondition says: the arguments are regular. Its elimination is the reference's, trip by trip. -/
module

public import proofs.«01_k».proof.Proof.Qeq.RefValue
public import proofs.«01_k».proof.Proof.Gen.Pre_regular
public import Idealize.ShloMosaic.Lib.ReduceAll

@[expose] public section

set_option maxRecDepth 16384

noncomputable section

namespace Qeq.Ref

open Idealize.ShloMosaic Cert.ReferenceIdeal Cert.ReferenceIdeal.Step

/-- Whether no pivot of a trip is zero. -/
def notZero (x : FVec Ideal S16x1x1 .f32) : IVec S_ 1 :=
  Host.reduce IntOp.andi (cmpf .une x (broadcastInDim S16x1x1 ![] Cert.Pre_regular.Gen.bcast_S_S16x1x1 (constant S_ .f32 0x00000000#32)))
    (constantI S_ 1 1#1) Cert.Pre_regular.Gen.reducesTo_S16x1x1_S_d0_1_2 Cert.Pre_regular.Gen.h_S_

/-- A run of some trips of the precondition's elimination: the number of the next trip, the matrices, whether all is well so far. -/
abbrev Run := IVec S_ 32 → FVec Ideal S16x257x258 .f32 → IVec S_ 1 → IVec S_ 32 × FVec Ideal S16x257x258 .f32 × IVec S_ 1

/-- A run does the reference's next `n` trips, and finds whether their pivots are not zero. -/
def Does (A : Args) (f : Run) (n : ℕ) : Prop :=
  ∀ (j : ℕ) (ok : IVec S_ 1), let r := f (constantI S_ 32 (BitVec.ofNat 32 j)) (trips A j).main_v77_2 ok
    r.1 = constantI S_ 32 (BitVec.ofNat 32 (j + n)) ∧ r.2.1 = (trips A (j + n)).main_v77_2 ∧
      (r.2.2 ix0 = 1#1 → ok ix0 = 1#1 ∧ ∀ k, j ≤ k → k < j + n → notZero (b19 k (trips A k)) ix0 = 1#1)

/-- One run after another. -/
def after (f g : Run) : Run := fun j M ok => g (f j M ok).1 (f j M ok).2.1 (f j M ok).2.2

/-- Two runs, one after the other. -/
theorem Does.after {A : Args} {f g : Run} {n p : ℕ} (hf : Does A f n) (hg : Does A g p) : Does A (after f g) (n + p) := by
  intro j ok
  obtain ⟨f1, f2, f3⟩ := hf j ok
  have := hg (j + n) (f (constantI S_ 32 (BitVec.ofNat 32 j)) (trips A j).main_v77_2 ok).2.2
  rw [← f1, ← f2] at this
  obtain ⟨g1, g2, g3⟩ := this
  rw [Nat.add_assoc] at g1 g2 g3
  refine ⟨g1, g2, fun h => ?_⟩
  obtain ⟨h1, h2⟩ := g3 h
  obtain ⟨h3, h4⟩ := f3 h1
  refine ⟨h3, fun k k1 k2 => ?_⟩
  by_cases hk : k < j + n
  · exact h4 k k1 hk
  · exact h2 k (by omega) (by omega)

/-- A tested step counts on. -/
theorem pivoted_number (x : IVec S_ 32) (M : FVec Ideal S16x257x258 .f32) (ok : IVec S_ 1) :
    (Cert.Pre_regular.fn_pivoted (F := Ideal) x M ok).1 = addi x (constantI S_ 32 1#32) := by
  unfold Cert.Pre_regular.fn_pivoted Cert.Pre_regular.fn_pivoted_part1 Cert.Pre_regular.fn_pivoted_part2
  dsimp only

/-- A tested step does a trip of the elimination. -/
theorem pivoted_trip (j : ℕ) (s : State Ideal) (ok : IVec S_ 1) :
    (Cert.Pre_regular.fn_pivoted (F := Ideal) (constantI S_ 32 (BitVec.ofNat 32 j)) s.main_v77_2 ok).2.1 = b42 j s := by
  unfold Cert.Pre_regular.fn_pivoted Cert.Pre_regular.fn_pivoted_part1 Cert.Pre_regular.fn_pivoted_part2 Cert.Pre_regular.fn_where_8
  dsimp only
  unfold b42 b41 b40 b39 b38 b37 b36 b35 b34 b33 b32 b31 b30 b21 b20 b19 b10
  rfl

/-- A tested step tests its pivot. -/
theorem pivoted_ok (j : ℕ) (s : State Ideal) (ok : IVec S_ 1) :
    (Cert.Pre_regular.fn_pivoted (F := Ideal) (constantI S_ 32 (BitVec.ofNat 32 j)) s.main_v77_2 ok).2.2 = andi ok (notZero (b19 j s)) := by
  unfold Cert.Pre_regular.fn_pivoted Cert.Pre_regular.fn_pivoted_part1 Cert.Pre_regular.fn_pivoted_part2 notZero b19 b10
  rfl

/-- One trip. -/
theorem pivoted_does (A : Args) : Does A (Cert.Pre_regular.fn_pivoted (F := Ideal)) 1 := by
  intro j ok
  refine ⟨?_, pivoted_trip j (trips A j) ok, fun h => ?_⟩
  · rw [pivoted_number]
    funext i
    show BitVec.ofNat 32 j + 1#32 = BitVec.ofNat 32 (j + 1)
    rw [BitVec.ofNat_add]
  · rw [pivoted_ok] at h
    obtain ⟨h1, h2⟩ := IntOp.andi_eq_one.1 h
    refine ⟨h1, fun k k1 k2 => ?_⟩
    obtain rfl : k = j := by omega
    exact h2

/-- A run that is another one done twice. -/
theorem Does.twice {A : Args} {f g : Run} {n : ℕ} (hf : Does A f n) (e : g = Ref.after f f) : Does A g (n + n) := by
  rw [e]
  exact hf.after hf

/-- The trips but the last. -/
theorem lambda_does (A : Args) : Does A (Cert.Pre_regular.fn_lambda (F := Ideal)) 256 := by
  have h1 := (pivoted_does A).twice (g := Cert.Pre_regular.fn_lambda_7 (F := Ideal)) rfl
  have h2 := h1.twice (g := Cert.Pre_regular.fn_lambda_6 (F := Ideal)) rfl
  have h3 := h2.twice (g := Cert.Pre_regular.fn_lambda_5 (F := Ideal)) rfl
  have h4 := h3.twice (g := Cert.Pre_regular.fn_lambda_4 (F := Ideal)) rfl
  have h5 := h4.twice (g := Cert.Pre_regular.fn_lambda_3 (F := Ideal)) rfl
  have h6 := h5.twice (g := Cert.Pre_regular.fn_lambda_2 (F := Ideal)) rfl
  have h7 := h6.twice (g := Cert.Pre_regular.fn_lambda_1 (F := Ideal)) rfl
  exact h7.twice (g := Cert.Pre_regular.fn_lambda (F := Ideal)) rfl

/-- The pivots are not zero, read from the test. -/
theorem notZero_at {x : FVec Ideal S16x1x1 .f32} (h : notZero x ix0 = 1#1) (b : Fin 16) : x (ix3 b 0 0) ≠ 0 := by
  have e : Ideal.cmp .une (x (ix3 b 0 0)) (Ideal.ofBits .f32 0#32) = 1#1 :=
    haveI : Subsingleton S_.Idx := ⟨fun a b => funext fun i => i.elim0⟩
    Host.reduce_andi_all _ _ _ _ _ h (ix3 b 0 0)
  rw [Ideal.ofBits_zero_f32] at e
  intro h0
  rw [h0] at e
  simp [Ideal.cmp] at e

/-- Whether every atom's type is one of the four. -/
def typesTest (A : Args) : IVec S_ 1 :=
  Host.reduce IntOp.andi (andi (cmpi .sge A.a2 (broadcastInDim S4096 ![] Cert.Pre_regular.Gen.bcast_S_S4096 (constantI S_ 32 0#32)))
      (cmpi .slt A.a2 (broadcastInDim S4096 ![] Cert.Pre_regular.Gen.bcast_S_S4096 (constantI S_ 32 4#32))))
    (constantI S_ 1 1#1) Cert.Pre_regular.Gen.reducesTo_S4096_S_d0 Cert.Pre_regular.Gen.h_S_

/-- Whether every atom's molecule is the one of its place. -/
def moleculesTest (A : Args) : IVec S_ 1 :=
  Host.reduce IntOp.andi (cmpi .eq (shapeCast S16x256 A.a4 Cert.Pre_regular.Gen.shapeCasts_S4096_S16x256)
      (broadcastInDim S16x256 ![0, 1] Cert.Pre_regular.Gen.bcast_S16x1_S16x256_0_1
        (broadcastInDim S16x1 ![0] Cert.Pre_regular.Gen.bcast_S16_S16x1_0 (iotaInDim S16 32 0))))
    (constantI S_ 1 1#1) Cert.Pre_regular.Gen.reducesTo_S16x256_S_d0_1 Cert.Pre_regular.Gen.h_S_

/-- Whether the bordered matrices are finite. -/
def finiteTest (A : Args) : IVec S_ 1 :=
  Host.reduce IntOp.andi (cmpf .olt (Host.absf (bordered A))
      (broadcastInDim S16x257x258 ![] Cert.Pre_regular.Gen.bcast_S_S16x257x258 (constant S_ .f32 0x7F800000#32)))
    (constantI S_ 1 1#1) Cert.Pre_regular.Gen.reducesTo_S16x257x258_S_d0_1_2 Cert.Pre_regular.Gen.h_S_

/-- The precondition, in parts. -/
theorem fn_eq (A : Args) (a3 : IVec Cert.Pre_regular.S17 32) :
    Cert.Pre_regular.fn (F := Ideal) A.a0 A.a1 A.a2 a3 A.a4 A.a5 A.a6 A.a7 A.a8
      = andi (andi (andi (typesTest A) (moleculesTest A)) (finiteTest A))
        (after (Cert.Pre_regular.fn_lambda (F := Ideal)) (Cert.Pre_regular.fn_pivoted (F := Ideal)) (constantI S_ 32 0#32) (bordered A) (constantI S_ 1 1#1)).2.2 := by
  rfl

/-- What the test of the types says. -/
theorem types_at {A : Args} (h : typesTest A ix0 = 1#1) (p : Fin 4096) : ∃ n : Fin 4, A.a2 (ix1 p) = BitVec.ofNat 32 n := by
  have e : IntOp.andi (IntOp.cmpi .sge (A.a2 (ix1 p)) 0#32) (IntOp.cmpi .slt (A.a2 (ix1 p)) 4#32) = 1#1 :=
    haveI : Subsingleton S_.Idx := ⟨fun a b => funext fun i => i.elim0⟩
    Host.reduce_andi_all _ _ _ _ _ h (ix1 p)
  obtain ⟨e1, e2⟩ := IntOp.andi_eq_one.1 e
  generalize A.a2 (ix1 p) = w at *
  have one : ∀ t : Bool, BitVec.ofBool t = 1#1 → t = true := by decide
  have l : (0#32).toInt ≤ w.toInt := by
    have := one _ e1
    simpa [BitVec.sle] using this
  have u : w.toInt < (4#32).toInt := by
    have := one _ e2
    simpa [BitVec.slt] using this
  have h0 : (0#32).toInt = 0 := rfl
  have h4 : (4#32).toInt = 4 := rfl
  rw [h0] at l
  rw [h4] at u
  have hw : w.toNat < 4 := by
    have := BitVec.toInt_eq_toNat_cond w
    have := w.isLt
    split at * <;> omega
  exact ⟨⟨w.toNat, hw⟩, by simp⟩

/-- What the test of the molecules' numbers says. -/
theorem molecules_at {A : Args} (h : moleculesTest A ix0 = 1#1) (b : Fin 16) (i : Fin 256) : A.a4 (ix1 (atom b i)) = BitVec.ofNat 32 b := by
  have e := by
    haveI : Subsingleton S_.Idx := ⟨fun a b => funext fun i => i.elim0⟩
    exact Host.reduce_andi_all _ _ _ _ _ h (ix2 b i)
  pointwise at e
  have e := StableHlo.Predicate.cmpi_eq_iff.mp e
  exact e

/-- What the test of finiteness says. -/
theorem finite_at {A : Args} (h : finiteTest A ix0 = 1#1) (b : Fin 16) (i : Fin 257) (k : Fin 258) :
    bordered A (ix3 b i k) ≠ ⊤ ∧ bordered A (ix3 b i k) ≠ ⊥ := by
  have e : Ideal.cmp .olt (max (bordered A (ix3 b i k)) (-bordered A (ix3 b i k))) (Ideal.ofBits .f32 0x7F800000#32) = 1#1 :=
    haveI : Subsingleton S_.Idx := ⟨fun a b => funext fun i => i.elim0⟩
    Host.reduce_andi_all _ _ _ _ _ h (ix3 b i k)
  constructor <;> intro h0 <;> rw [h0] at e <;> simp [Ideal.cmp] at e

/-- Arguments of the precondition are regular. -/
theorem regular_of (A : Args) (a3 : IVec Cert.Pre_regular.S17 32)
    (h : Cert.Pre_regular.fn (F := Ideal) A.a0 A.a1 A.a2 a3 A.a4 A.a5 A.a6 A.a7 A.a8 ix0 = 1#1) : Regular A := by
  rw [fn_eq] at h
  obtain ⟨h1, h2⟩ := IntOp.andi_eq_one.1 h
  obtain ⟨h3, h4⟩ := IntOp.andi_eq_one.1 h1
  obtain ⟨h5, h6⟩ := IntOp.andi_eq_one.1 h3
  have fin := finite_at h4
  have hz := (((lambda_does A).after (pivoted_does A) 0 (constantI S_ 1 1#1)).2.2 h2).2
  refine ⟨types_at h5, molecules_at h6, fin, fun b k => ?_⟩
  suffices H : ∀ n ≤ 257, ∀ b, ∀ k < n, jordan (realBordered A b) k k k ≠ 0 from H 257 le_rfl b k
  intro n
  induction n with
  | zero => intro _ b k hk; omega
  | succ n ih =>
    intro hn b k hk
    by_cases e : k < n
    · exact ih (by omega) b k e
    · obtain rfl : k = n := by omega
      have := notZero_at (hz k (by omega) (by omega)) b
      rw [pivot_at k (by omega), trips_real fin k (by omega) (ih (by omega))] at this
      exact fun h0 => this (by rw [h0]; rfl)

end Qeq.Ref

end
-- ==== Proof.Qeq.Panels.lean ====
/- Each panel's loop takes the three buffers through its sixteen steps. -/
module

public import proofs.«01_k».proof.Proof.Gen.KernelIdeal.Loops
public import proofs.«01_k».proof.Proof.Qeq.State

@[expose] public section

set_option maxRecDepth 16384

noncomputable section

namespace Qeq

open Idealize.ShloMosaic Idealize.ShloMosaic.TcCoe Idealize.ShloMosaic.Tactic Cert.KernelIdeal Cert.KernelIdeal.Gen

variable {C : Fin 16 → ℕ → ℕ → ℝ} {Z : Fin 16 → Fin 2 → ℕ → ℝ} (hp : ∀ b, ∀ k < 256, schur (C b) k k k ≠ 0)
variable (𝒱 : Variants) (c : Dev nD) (bd : Option 𝒱.V)
variable {arg0 : Memref sig .tc .vmem S16x256x128 .f32} (harg0 : arg0.IsWhole)
variable {arg1 : Memref sig .tc .vmem S16x256 .f32} (harg1 : arg1.IsWhole)
variable {arg2 : Memref sig .tc .vmem S16x256 .f32} (harg2 : arg2.IsWhole)
variable {arg3 : Memref sig .tc .vmem S16x256 .f32} (harg3 : arg3.IsWhole)
variable {arg4 : Memref sig .tc .vmem S16x256 .i32} (harg4 : arg4.IsWhole)
variable {arg5 : Memref sig .tc .vmem S1x16 .f32} (harg5 : arg5.IsWhole)
variable {arg6 : Memref sig .tc .vmem S1x128 .f32} (harg6 : arg6.IsWhole)
variable {arg7 : Memref sig .tc .smem S4 .f32} (harg7 : arg7.IsWhole)
variable {arg8 : Memref sig .tc .smem S4 .f32} (harg8 : arg8.IsWhole)
variable {arg9 : Memref sig .tc .vmem S1x16 .f32} (harg9 : arg9.IsWhole)
variable {arg10 : Memref sig .tc .vmem S16x256x256 .f32} (harg10 : arg10.IsWhole)
variable {arg11 : Memref sig .tc .vmem S16x256x256 .f32} (harg11 : arg11.IsWhole)
variable {arg12 : Memref sig .tc .vmem S16x2x256 .f32} (harg12 : arg12.IsWhole)
variable {arg13 : Memref sig .tc .vmem S16x32x256 .f32} (harg13 : arg13.IsWhole)
variable {arg14 : Memref sig .tc .vmem S16x2x256 .f32} (harg14 : arg14.IsWhole)
include hp

/-- Each of the sixteen panel loops keeps the invariant of its panel, by `keeps_of`. -/
theorem loop1 (x51 : FVec Ideal S16x256 .f32) :
    Keeps C Z arg10.view arg12.view arg13.view 0 (pb_k0_t1 (F := Ideal) 𝒱 c bd _ harg0 _ harg1 _ harg2 _ harg3 _ harg4 _ harg5 _ harg6 _ harg7 _ harg8 _ harg9 _ harg10 _ harg11 _ harg12 _ harg13 _ harg14 x51 lanes) :=
  keeps_of _ _ _ (n := k0_t1_loop.trips) rfl (fun k => tripL_k0_t1 (F := Ideal) 𝒱 c bd _ harg0 _ harg1 _ harg2 _ harg3 _ harg4 _ harg5 _ harg6 _ harg7 _ harg8 _ harg9 _ harg10 _ harg11 _ harg12 _ harg13 _ harg14 x51 lanes k) (fun _ _ _ => rfl)
    (fun _ _ _ k => pb_k0_t1_succ (F := Ideal) 𝒱 c bd _ harg0 _ harg1 _ harg2 _ harg3 _ harg4 _ harg5 _ harg6 _ harg7 _ harg8 _ harg9 _ harg10 _ harg11 _ harg12 _ harg13 _ harg14 x51 lanes _ _ _ k) (fun k f10 f12 f13 hk hM => by
      unfold tripL_k0_t1 trip_k0_t1
      dsimp only
      sl_unfold_words
      exact trip_wide _ _ _ f10 f12 f13 (by omega) hk hp _ (iv_eq 0 k) _ rfl _ _ (k0_off1_eq k) _ _ (k0_off2_eq k) _ _ _ hM)

theorem loop2  :
    Keeps C Z arg10.view arg12.view arg13.view 16 (pb_k0_t2 (F := Ideal) 𝒱 c bd _ harg0 _ harg1 _ harg2 _ harg3 _ harg4 _ harg5 _ harg6 _ harg7 _ harg8 _ harg9 _ harg10 _ harg11 _ harg12 _ harg13 _ harg14 lanes (lanes16 16#32) 16#32) :=
  keeps_of _ _ _ (n := k0_t2_loop.trips) rfl (fun k => tripL_k0_t2 (F := Ideal) 𝒱 c bd _ harg0 _ harg1 _ harg2 _ harg3 _ harg4 _ harg5 _ harg6 _ harg7 _ harg8 _ harg9 _ harg10 _ harg11 _ harg12 _ harg13 _ harg14 lanes (lanes16 16#32) 16#32 k) (fun _ _ _ => rfl)
    (fun _ _ _ k => pb_k0_t2_succ (F := Ideal) 𝒱 c bd _ harg0 _ harg1 _ harg2 _ harg3 _ harg4 _ harg5 _ harg6 _ harg7 _ harg8 _ harg9 _ harg10 _ harg11 _ harg12 _ harg13 _ harg14 lanes (lanes16 16#32) 16#32 _ _ _ k) (fun k f10 f12 f13 hk hM => by
      unfold tripL_k0_t2 trip_k0_t2
      dsimp only
      sl_unfold_words
      exact trip_wide _ _ _ f10 f12 f13 (by omega) hk hp _ (iv_eq 16 k) _ rfl _ _ (k0_off3_eq k) _ _ (k0_off4_eq k) _ _ _ hM)

theorem loop3  :
    Keeps C Z arg10.view arg12.view arg13.view 32 (pb_k0_t3 (F := Ideal) 𝒱 c bd _ harg0 _ harg1 _ harg2 _ harg3 _ harg4 _ harg5 _ harg6 _ harg7 _ harg8 _ harg9 _ harg10 _ harg11 _ harg12 _ harg13 _ harg14 lanes (lanes16 16#32) 16#32) :=
  keeps_of _ _ _ (n := k0_t3_loop.trips) rfl (fun k => tripL_k0_t3 (F := Ideal) 𝒱 c bd _ harg0 _ harg1 _ harg2 _ harg3 _ harg4 _ harg5 _ harg6 _ harg7 _ harg8 _ harg9 _ harg10 _ harg11 _ harg12 _ harg13 _ harg14 lanes (lanes16 16#32) 16#32 k) (fun _ _ _ => rfl)
    (fun _ _ _ k => pb_k0_t3_succ (F := Ideal) 𝒱 c bd _ harg0 _ harg1 _ harg2 _ harg3 _ harg4 _ harg5 _ harg6 _ harg7 _ harg8 _ harg9 _ harg10 _ harg11 _ harg12 _ harg13 _ harg14 lanes (lanes16 16#32) 16#32 _ _ _ k) (fun k f10 f12 f13 hk hM => by
      unfold tripL_k0_t3 trip_k0_t3
      dsimp only
      sl_unfold_words
      exact trip_wide _ _ _ f10 f12 f13 (by omega) hk hp _ (iv_eq 32 k) _ rfl _ _ (k0_off5_eq k) _ _ (k0_off6_eq k) _ _ _ hM)

theorem loop4 (x180 : FVec Ideal S16x208x256 .f32) (x181 : Vec Ideal S16x208x256 .f32) :
    Keeps C Z arg10.view arg12.view arg13.view 48 (pb_k0_t4 (F := Ideal) 𝒱 c bd _ harg0 _ harg1 _ harg2 _ harg3 _ harg4 _ harg5 _ harg6 _ harg7 _ harg8 _ harg9 _ harg10 _ harg11 _ harg12 _ harg13 _ harg14 lanes x180 x181) :=
  keeps_of _ _ _ (n := k0_t4_loop.trips) rfl (fun k => tripL_k0_t4 (F := Ideal) 𝒱 c bd _ harg0 _ harg1 _ harg2 _ harg3 _ harg4 _ harg5 _ harg6 _ harg7 _ harg8 _ harg9 _ harg10 _ harg11 _ harg12 _ harg13 _ harg14 lanes x180 x181 k) (fun _ _ _ => rfl)
    (fun _ _ _ k => pb_k0_t4_succ (F := Ideal) 𝒱 c bd _ harg0 _ harg1 _ harg2 _ harg3 _ harg4 _ harg5 _ harg6 _ harg7 _ harg8 _ harg9 _ harg10 _ harg11 _ harg12 _ harg13 _ harg14 lanes x180 x181 _ _ _ k) (fun k f10 f12 f13 hk hM => by
      unfold tripL_k0_t4 trip_k0_t4
      dsimp only
      sl_unfold_words
      exact trip_wide _ _ _ f10 f12 f13 (by omega) hk hp _ (iv_eq 48 k) _ rfl _ _ (k0_off7_eq k) _ _ (k0_off8_eq k) _ _ _ hM)

theorem loop5 (x180 : FVec Ideal S16x208x256 .f32) (x181 : Vec Ideal S16x208x256 .f32) :
    Keeps C Z arg10.view arg12.view arg13.view 64 (pb_k0_t5 (F := Ideal) 𝒱 c bd _ harg0 _ harg1 _ harg2 _ harg3 _ harg4 _ harg5 _ harg6 _ harg7 _ harg8 _ harg9 _ harg10 _ harg11 _ harg12 _ harg13 _ harg14 lanes x180 x181) :=
  keeps_of _ _ _ (n := k0_t5_loop.trips) rfl (fun k => tripL_k0_t5 (F := Ideal) 𝒱 c bd _ harg0 _ harg1 _ harg2 _ harg3 _ harg4 _ harg5 _ harg6 _ harg7 _ harg8 _ harg9 _ harg10 _ harg11 _ harg12 _ harg13 _ harg14 lanes x180 x181 k) (fun _ _ _ => rfl)
    (fun _ _ _ k => pb_k0_t5_succ (F := Ideal) 𝒱 c bd _ harg0 _ harg1 _ harg2 _ harg3 _ harg4 _ harg5 _ harg6 _ harg7 _ harg8 _ harg9 _ harg10 _ harg11 _ harg12 _ harg13 _ harg14 lanes x180 x181 _ _ _ k) (fun k f10 f12 f13 hk hM => by
      unfold tripL_k0_t5 trip_k0_t5
      dsimp only
      sl_unfold_words
      exact trip_wide _ _ _ f10 f12 f13 (by omega) hk hp _ (iv_eq 64 k) _ rfl _ _ (k0_off9_eq k) _ _ (k0_off10_eq k) _ _ _ hM)

theorem loop6 (x206 : FVec Ideal S16x176x256 .f32) :
    Keeps C Z arg10.view arg12.view arg13.view 80 (pb_k0_t6 (F := Ideal) 𝒱 c bd _ harg0 _ harg1 _ harg2 _ harg3 _ harg4 _ harg5 _ harg6 _ harg7 _ harg8 _ harg9 _ harg10 _ harg11 _ harg12 _ harg13 _ harg14 lanes x206) :=
  keeps_of _ _ _ (n := k0_t6_loop.trips) rfl (fun k => tripL_k0_t6 (F := Ideal) 𝒱 c bd _ harg0 _ harg1 _ harg2 _ harg3 _ harg4 _ harg5 _ harg6 _ harg7 _ harg8 _ harg9 _ harg10 _ harg11 _ harg12 _ harg13 _ harg14 lanes x206 k) (fun _ _ _ => rfl)
    (fun _ _ _ k => pb_k0_t6_succ (F := Ideal) 𝒱 c bd _ harg0 _ harg1 _ harg2 _ harg3 _ harg4 _ harg5 _ harg6 _ harg7 _ harg8 _ harg9 _ harg10 _ harg11 _ harg12 _ harg13 _ harg14 lanes x206 _ _ _ k) (fun k f10 f12 f13 hk hM => by
      unfold tripL_k0_t6 trip_k0_t6
      dsimp only
      sl_unfold_words
      exact trip_wide _ _ _ f10 f12 f13 (by omega) hk hp _ (iv_eq 80 k) _ rfl _ _ (k0_off11_eq k) _ _ (k0_off12_eq k) _ _ _ hM)

theorem loop7 (x206 : FVec Ideal S16x176x256 .f32) :
    Keeps C Z arg10.view arg12.view arg13.view 96 (pb_k0_t7 (F := Ideal) 𝒱 c bd _ harg0 _ harg1 _ harg2 _ harg3 _ harg4 _ harg5 _ harg6 _ harg7 _ harg8 _ harg9 _ harg10 _ harg11 _ harg12 _ harg13 _ harg14 lanes x206) :=
  keeps_of _ _ _ (n := k0_t7_loop.trips) rfl (fun k => tripL_k0_t7 (F := Ideal) 𝒱 c bd _ harg0 _ harg1 _ harg2 _ harg3 _ harg4 _ harg5 _ harg6 _ harg7 _ harg8 _ harg9 _ harg10 _ harg11 _ harg12 _ harg13 _ harg14 lanes x206 k) (fun _ _ _ => rfl)
    (fun _ _ _ k => pb_k0_t7_succ (F := Ideal) 𝒱 c bd _ harg0 _ harg1 _ harg2 _ harg3 _ harg4 _ harg5 _ harg6 _ harg7 _ harg8 _ harg9 _ harg10 _ harg11 _ harg12 _ harg13 _ harg14 lanes x206 _ _ _ k) (fun k f10 f12 f13 hk hM => by
      unfold tripL_k0_t7 trip_k0_t7
      dsimp only
      sl_unfold_words
      exact trip_wide _ _ _ f10 f12 f13 (by omega) hk hp _ (iv_eq 96 k) _ rfl _ _ (k0_off13_eq k) _ _ (k0_off14_eq k) _ _ _ hM)

theorem loop8 (x231 : FVec Ideal S16x16x144 .f32) :
    Keeps C Z arg10.view arg12.view arg13.view 112 (pb_k0_t8 (F := Ideal) 𝒱 c bd _ harg0 _ harg1 _ harg2 _ harg3 _ harg4 _ harg5 _ harg6 _ harg7 _ harg8 _ harg9 _ harg10 _ harg11 _ harg12 _ harg13 _ harg14 lanes x231) :=
  keeps_of _ _ _ (n := k0_t8_loop.trips) rfl (fun k => tripL_k0_t8 (F := Ideal) 𝒱 c bd _ harg0 _ harg1 _ harg2 _ harg3 _ harg4 _ harg5 _ harg6 _ harg7 _ harg8 _ harg9 _ harg10 _ harg11 _ harg12 _ harg13 _ harg14 lanes x231 k) (fun _ _ _ => rfl)
    (fun _ _ _ k => pb_k0_t8_succ (F := Ideal) 𝒱 c bd _ harg0 _ harg1 _ harg2 _ harg3 _ harg4 _ harg5 _ harg6 _ harg7 _ harg8 _ harg9 _ harg10 _ harg11 _ harg12 _ harg13 _ harg14 lanes x231 _ _ _ k) (fun k f10 f12 f13 hk hM => by
      unfold tripL_k0_t8 trip_k0_t8
      dsimp only
      sl_unfold_words
      exact trip_wide _ _ _ f10 f12 f13 (by omega) hk hp _ (iv_eq 112 k) _ rfl _ _ (k0_off15_eq k) _ _ (k0_off16_eq k) _ _ _ hM)

theorem loop9  :
    Keeps C Z arg10.view arg12.view arg13.view 128 (pb_k0_t9 (F := Ideal) 𝒱 c bd _ harg0 _ harg1 _ harg2 _ harg3 _ harg4 _ harg5 _ harg6 _ harg7 _ harg8 _ harg9 _ harg10 _ harg11 _ harg12 _ harg13 _ harg14 lanes (lanes16 128#32) 128#32) :=
  keeps_of _ _ _ (n := k0_t9_loop.trips) rfl (fun k => tripL_k0_t9 (F := Ideal) 𝒱 c bd _ harg0 _ harg1 _ harg2 _ harg3 _ harg4 _ harg5 _ harg6 _ harg7 _ harg8 _ harg9 _ harg10 _ harg11 _ harg12 _ harg13 _ harg14 lanes (lanes16 128#32) 128#32 k) (fun _ _ _ => rfl)
    (fun _ _ _ k => pb_k0_t9_succ (F := Ideal) 𝒱 c bd _ harg0 _ harg1 _ harg2 _ harg3 _ harg4 _ harg5 _ harg6 _ harg7 _ harg8 _ harg9 _ harg10 _ harg11 _ harg12 _ harg13 _ harg14 lanes (lanes16 128#32) 128#32 _ _ _ k) (fun k f10 f12 f13 hk hM => by
      unfold tripL_k0_t9 trip_k0_t9
      dsimp only
      sl_unfold_words
      exact trip_narrow _ _ _ f10 f12 f13 (by omega) (by omega) hk hp _ (iv_eq 128 k) _ rfl _ _ (k0_off17_eq k) _ _ (k0_off18_eq k) _ _ _ hM)

theorem loop10  :
    Keeps C Z arg10.view arg12.view arg13.view 144 (pb_k0_t10 (F := Ideal) 𝒱 c bd _ harg0 _ harg1 _ harg2 _ harg3 _ harg4 _ harg5 _ harg6 _ harg7 _ harg8 _ harg9 _ harg10 _ harg11 _ harg12 _ harg13 _ harg14 lanes (lanes16 128#32) 128#32) :=
  keeps_of _ _ _ (n := k0_t10_loop.trips) rfl (fun k => tripL_k0_t10 (F := Ideal) 𝒱 c bd _ harg0 _ harg1 _ harg2 _ harg3 _ harg4 _ harg5 _ harg6 _ harg7 _ harg8 _ harg9 _ harg10 _ harg11 _ harg12 _ harg13 _ harg14 lanes (lanes16 128#32) 128#32 k) (fun _ _ _ => rfl)
    (fun _ _ _ k => pb_k0_t10_succ (F := Ideal) 𝒱 c bd _ harg0 _ harg1 _ harg2 _ harg3 _ harg4 _ harg5 _ harg6 _ harg7 _ harg8 _ harg9 _ harg10 _ harg11 _ harg12 _ harg13 _ harg14 lanes (lanes16 128#32) 128#32 _ _ _ k) (fun k f10 f12 f13 hk hM => by
      unfold tripL_k0_t10 trip_k0_t10
      dsimp only
      sl_unfold_words
      exact trip_narrow _ _ _ f10 f12 f13 (by omega) (by omega) hk hp _ (iv_eq 144 k) _ rfl _ _ (k0_off19_eq k) _ _ (k0_off20_eq k) _ _ _ hM)

theorem loop11 (x281 : FVec Ideal S16x96x128 .f32) :
    Keeps C Z arg10.view arg12.view arg13.view 160 (pb_k0_t11 (F := Ideal) 𝒱 c bd _ harg0 _ harg1 _ harg2 _ harg3 _ harg4 _ harg5 _ harg6 _ harg7 _ harg8 _ harg9 _ harg10 _ harg11 _ harg12 _ harg13 _ harg14 lanes x281) :=
  keeps_of _ _ _ (n := k0_t11_loop.trips) rfl (fun k => tripL_k0_t11 (F := Ideal) 𝒱 c bd _ harg0 _ harg1 _ harg2 _ harg3 _ harg4 _ harg5 _ harg6 _ harg7 _ harg8 _ harg9 _ harg10 _ harg11 _ harg12 _ harg13 _ harg14 lanes x281 k) (fun _ _ _ => rfl)
    (fun _ _ _ k => pb_k0_t11_succ (F := Ideal) 𝒱 c bd _ harg0 _ harg1 _ harg2 _ harg3 _ harg4 _ harg5 _ harg6 _ harg7 _ harg8 _ harg9 _ harg10 _ harg11 _ harg12 _ harg13 _ harg14 lanes x281 _ _ _ k) (fun k f10 f12 f13 hk hM => by
      unfold tripL_k0_t11 trip_k0_t11
      dsimp only
      sl_unfold_words
      exact trip_narrow _ _ _ f10 f12 f13 (by omega) (by omega) hk hp _ (iv_eq 160 k) _ rfl _ _ (k0_off21_eq k) _ _ (k0_off22_eq k) _ _ _ hM)

theorem loop12 (x281 : FVec Ideal S16x96x128 .f32) :
    Keeps C Z arg10.view arg12.view arg13.view 176 (pb_k0_t12 (F := Ideal) 𝒱 c bd _ harg0 _ harg1 _ harg2 _ harg3 _ harg4 _ harg5 _ harg6 _ harg7 _ harg8 _ harg9 _ harg10 _ harg11 _ harg12 _ harg13 _ harg14 lanes x281) :=
  keeps_of _ _ _ (n := k0_t12_loop.trips) rfl (fun k => tripL_k0_t12 (F := Ideal) 𝒱 c bd _ harg0 _ harg1 _ harg2 _ harg3 _ harg4 _ harg5 _ harg6 _ harg7 _ harg8 _ harg9 _ harg10 _ harg11 _ harg12 _ harg13 _ harg14 lanes x281 k) (fun _ _ _ => rfl)
    (fun _ _ _ k => pb_k0_t12_succ (F := Ideal) 𝒱 c bd _ harg0 _ harg1 _ harg2 _ harg3 _ harg4 _ harg5 _ harg6 _ harg7 _ harg8 _ harg9 _ harg10 _ harg11 _ harg12 _ harg13 _ harg14 lanes x281 _ _ _ k) (fun k f10 f12 f13 hk hM => by
      unfold tripL_k0_t12 trip_k0_t12
      dsimp only
      sl_unfold_words
      exact trip_narrow _ _ _ f10 f12 f13 (by omega) (by omega) hk hp _ (iv_eq 176 k) _ rfl _ _ (k0_off23_eq k) _ _ (k0_off24_eq k) _ _ _ hM)

theorem loop13 (x304 : FVec Ideal S16x64x128 .f32) :
    Keeps C Z arg10.view arg12.view arg13.view 192 (pb_k0_t13 (F := Ideal) 𝒱 c bd _ harg0 _ harg1 _ harg2 _ harg3 _ harg4 _ harg5 _ harg6 _ harg7 _ harg8 _ harg9 _ harg10 _ harg11 _ harg12 _ harg13 _ harg14 lanes x304) :=
  keeps_of _ _ _ (n := k0_t13_loop.trips) rfl (fun k => tripL_k0_t13 (F := Ideal) 𝒱 c bd _ harg0 _ harg1 _ harg2 _ harg3 _ harg4 _ harg5 _ harg6 _ harg7 _ harg8 _ harg9 _ harg10 _ harg11 _ harg12 _ harg13 _ harg14 lanes x304 k) (fun _ _ _ => rfl)
    (fun _ _ _ k => pb_k0_t13_succ (F := Ideal) 𝒱 c bd _ harg0 _ harg1 _ harg2 _ harg3 _ harg4 _ harg5 _ harg6 _ harg7 _ harg8 _ harg9 _ harg10 _ harg11 _ harg12 _ harg13 _ harg14 lanes x304 _ _ _ k) (fun k f10 f12 f13 hk hM => by
      unfold tripL_k0_t13 trip_k0_t13
      dsimp only
      sl_unfold_words
      exact trip_narrow _ _ _ f10 f12 f13 (by omega) (by omega) hk hp _ (iv_eq 192 k) _ rfl _ _ (k0_off25_eq k) _ _ (k0_off26_eq k) _ _ _ hM)

theorem loop14 (x304 : FVec Ideal S16x64x128 .f32) :
    Keeps C Z arg10.view arg12.view arg13.view 208 (pb_k0_t14 (F := Ideal) 𝒱 c bd _ harg0 _ harg1 _ harg2 _ harg3 _ harg4 _ harg5 _ harg6 _ harg7 _ harg8 _ harg9 _ harg10 _ harg11 _ harg12 _ harg13 _ harg14 lanes x304) :=
  keeps_of _ _ _ (n := k0_t14_loop.trips) rfl (fun k => tripL_k0_t14 (F := Ideal) 𝒱 c bd _ harg0 _ harg1 _ harg2 _ harg3 _ harg4 _ harg5 _ harg6 _ harg7 _ harg8 _ harg9 _ harg10 _ harg11 _ harg12 _ harg13 _ harg14 lanes x304 k) (fun _ _ _ => rfl)
    (fun _ _ _ k => pb_k0_t14_succ (F := Ideal) 𝒱 c bd _ harg0 _ harg1 _ harg2 _ harg3 _ harg4 _ harg5 _ harg6 _ harg7 _ harg8 _ harg9 _ harg10 _ harg11 _ harg12 _ harg13 _ harg14 lanes x304 _ _ _ k) (fun k f10 f12 f13 hk hM => by
      unfold tripL_k0_t14 trip_k0_t14
      dsimp only
      sl_unfold_words
      exact trip_narrow _ _ _ f10 f12 f13 (by omega) (by omega) hk hp _ (iv_eq 208 k) _ rfl _ _ (k0_off27_eq k) _ _ (k0_off28_eq k) _ _ _ hM)

theorem loop15 (x330 : FVec Ideal S16x32x16 .f32) :
    Keeps C Z arg10.view arg12.view arg13.view 224 (pb_k0_t15 (F := Ideal) 𝒱 c bd _ harg0 _ harg1 _ harg2 _ harg3 _ harg4 _ harg5 _ harg6 _ harg7 _ harg8 _ harg9 _ harg10 _ harg11 _ harg12 _ harg13 _ harg14 lanes x330) :=
  keeps_of _ _ _ (n := k0_t15_loop.trips) rfl (fun k => tripL_k0_t15 (F := Ideal) 𝒱 c bd _ harg0 _ harg1 _ harg2 _ harg3 _ harg4 _ harg5 _ harg6 _ harg7 _ harg8 _ harg9 _ harg10 _ harg11 _ harg12 _ harg13 _ harg14 lanes x330 k) (fun _ _ _ => rfl)
    (fun _ _ _ k => pb_k0_t15_succ (F := Ideal) 𝒱 c bd _ harg0 _ harg1 _ harg2 _ harg3 _ harg4 _ harg5 _ harg6 _ harg7 _ harg8 _ harg9 _ harg10 _ harg11 _ harg12 _ harg13 _ harg14 lanes x330 _ _ _ k) (fun k f10 f12 f13 hk hM => by
      unfold tripL_k0_t15 trip_k0_t15
      dsimp only
      sl_unfold_words
      exact trip_narrow _ _ _ f10 f12 f13 (by omega) (by omega) hk hp _ (iv_eq 224 k) _ rfl _ _ (k0_off29_eq k) _ _ (k0_off30_eq k) _ _ _ hM)

theorem loop16 (x330 : FVec Ideal S16x32x16 .f32) :
    Keeps C Z arg10.view arg12.view arg13.view 240 (pb_k0_t16 (F := Ideal) 𝒱 c bd _ harg0 _ harg1 _ harg2 _ harg3 _ harg4 _ harg5 _ harg6 _ harg7 _ harg8 _ harg9 _ harg10 _ harg11 _ harg12 _ harg13 _ harg14 lanes x330) :=
  keeps_of _ _ _ (n := k0_t16_loop.trips) rfl (fun k => tripL_k0_t16 (F := Ideal) 𝒱 c bd _ harg0 _ harg1 _ harg2 _ harg3 _ harg4 _ harg5 _ harg6 _ harg7 _ harg8 _ harg9 _ harg10 _ harg11 _ harg12 _ harg13 _ harg14 lanes x330 k) (fun _ _ _ => rfl)
    (fun _ _ _ k => pb_k0_t16_succ (F := Ideal) 𝒱 c bd _ harg0 _ harg1 _ harg2 _ harg3 _ harg4 _ harg5 _ harg6 _ harg7 _ harg8 _ harg9 _ harg10 _ harg11 _ harg12 _ harg13 _ harg14 lanes x330 _ _ _ k) (fun k f10 f12 f13 hk hM => by
      unfold tripL_k0_t16 trip_k0_t16
      dsimp only
      sl_unfold_words
      exact trip_narrow _ _ _ f10 f12 f13 (by omega) (by omega) hk hp _ (iv_eq 240 k) _ rfl _ _ (k0_off31_eq k) _ _ (k0_off32_eq k) _ _ _ hM)

end Qeq

end
-- ==== Proof.Qeq.Trail.lean ====
/- A panel's trailing update, from the loads the program makes: the panel's scaled rows, its pivot rows, and the rows
   below it. -/
module

public import proofs.«01_k».proof.Proof.Qeq.State

@[expose] public section

set_option maxRecDepth 16384

noncomputable section

namespace Qeq

open Idealize.ShloMosaic Cert.KernelIdeal Cert.KernelIdeal.Gen

section

variable {sg : RefSig} {κ : Kind} {sp10 sp13 : Space}
  (v10 : View sg κ sp10 S16x256x256 .f32) (v13 : View sg κ sp13 S16x32x256 .f32)
  (f10 : v10.ty.Contents (Elt Ideal)) (f13 : v13.ty.Contents (Elt Ideal))

/-- A load inside a box that one of the stores filled does not see what the array held before the stores. -/
theorem load_covered {a r c w a' r' c' w' : ℕ} {inb : ∀ k, (![0, a, c] : Fin 3 → ℕ) k + (![16, r, w] : Fin 3 → ℕ) k ≤ S16x256x256.size k}
    {P : (Rect.unit (s := S16x256x256) ![0, a, c] ![16, r, w] inb).shape.Idx → EReal}
    {L : List (View.Piece (Elt Ideal) S16x256x256 .f32)}
    (h : (⟨Rect.unit (s := S16x256x256) ![0, a, c] ![16, r, w] inb, P⟩ : View.Piece (Elt Ideal) S16x256x256 .f32) ∈ L)
    (ha : a ≤ a') (har : a' + r' ≤ a + r) (hc : c ≤ c') (hcw : c' + w' ≤ c + w)
    (inb' : ∀ k, (![0, a', c'] : Fin 3 → ℕ) k + (![16, r', w'] : Fin 3 → ℕ) k ≤ S16x256x256.size k) :
    v10.readCov L (Rect.unit (s := S16x256x256) ![0, a', c'] ![16, r', w'] inb').toLoadRect
      = v10.readAt (Elt Ideal) (Rect.unit (s := S16x256x256) ![0, a', c'] ![16, r', w'] inb').toLoadRect (v10.writes (Elt Ideal) f10 L) := by
  refine (View.readAt_writes_of_cover v10 f10 L _ fun j => ⟨_, h, ?_⟩).symm
  refine (Rect.mem_set_unit (inb := inb)).mpr ?_
  intro k
  have hj := (j k).isLt
  fin_cases k <;> simp [Rect.toLoadRect, LoadRect.idx, Rect.unit] at hj ⊢ <;> omega

/-- A load at an index. -/
theorem load_at {a r c w : ℕ} (inb : ∀ k, (![0, a, c] : Fin 3 → ℕ) k + (![16, r, w] : Fin 3 → ℕ) k ≤ S16x256x256.size k)
    (b : Fin 16) (i : Fin r) (j : Fin w) (hi : a + i.val < 256) (hj : c + j.val < 256) :
    v10.readAt (Elt Ideal) (Rect.unit (s := S16x256x256) ![0, a, c] ![16, r, w] inb).toLoadRect f10 (ix3 b i j)
      = v10.read (Elt Ideal) f10 (ix3 b ⟨a + i.val, hi⟩ ⟨c + j.val, hj⟩) := by
  rw [View.readAt_apply]
  congr 1
  funext k
  fin_cases k <;> apply Fin.ext <;> simp [Rect.toLoadRect, LoadRect.idx, Rect.unit, ix3]

/-- An entry of the scaled rows, as read. -/
theorem load13_at (inb : ∀ k, (![0, 0, 0] : Fin 3 → ℕ) k + (![16, 16, 256] : Fin 3 → ℕ) k ≤ S16x32x256.size k)
    (b : Fin 16) (s : Fin 16) (j : Fin 256) :
    v13.readAt (Elt Ideal) (Rect.unit (s := S16x32x256) ![0, 0, 0] ![16, 16, 256] inb).toLoadRect f13 (ix3 b s j)
      = v13.read (Elt Ideal) f13 (ix3 b ⟨s.val, by omega⟩ j) := by
  rw [View.readAt_apply]
  congr 1
  funext k
  fin_cases k <;> apply Fin.ext <;> simp [Rect.toLoadRect, LoadRect.idx, Rect.unit, ix3]

/-- The stored rows are the rows below the panel less the products of the scaled rows and the pivot rows. -/
def Less {k0 c0 r w : ℕ} (hr : k0 + 16 + r = 256) (hw : c0 + w = 256)
    (d10 : Vec Ideal S16x256x256 .f32) (d13 : Vec Ideal S16x32x256 .f32) (P : Shape.Idx ⟨3, ![16, r, w]⟩ → EReal) : Prop :=
  ∀ (b : Fin 16) (i : Fin r) (j : Fin w), P (ix3 b i j)
      = d10 (ix3 b ⟨k0 + 16 + i.val, by omega⟩ ⟨c0 + j.val, by omega⟩)
        - ∑ s : Fin 16, d13 (ix3 b ⟨s.val, by omega⟩ ⟨k0 + 16 + i.val, by omega⟩)
          * d10 (ix3 b ⟨k0 + s.val, by omega⟩ ⟨c0 + j.val, by omega⟩)

/-- A load of a panel's scaled rows. -/
def Rows (d : Vec Ideal S16x32x256 .f32) (A : Vec Ideal S16x16x256 .f32) : Prop :=
  ∀ (b s : Fin 16) (j : Fin 256), A (ix3 b s j) = d (ix3 b ⟨s.val, by omega⟩ j)

/-- A load of rows from `a`, columns from `c0`. -/
def Box (a c0 : ℕ) {r w : ℕ} (ha : a + r ≤ 256) (hc : c0 + w ≤ 256) (d : Vec Ideal S16x256x256 .f32)
    (U : Shape.Idx ⟨3, ![16, r, w]⟩ → EReal) : Prop :=
  ∀ (b : Fin 16) (i : Fin r) (j : Fin w), U (ix3 b i j) = d (ix3 b ⟨a + i.val, by omega⟩ ⟨c0 + j.val, by omega⟩)

/-- The scaled rows of a panel, as read. -/
theorem rows_load {inb : ∀ k, (![0, 0, 0] : Fin 3 → ℕ) k + (![16, 16, 256] : Fin 3 → ℕ) k ≤ S16x32x256.size k} :
    Rows (v13.read (Elt Ideal) f13)
      (v13.readAt (Elt Ideal) (Rect.unit (s := S16x32x256) ![0, 0, 0] ![16, 16, 256] inb).toLoadRect f13) :=
  fun b s j => load13_at v13 f13 inb b s j

/-- A box of the matrix, as read. -/
theorem box_load {a c0 r w : ℕ} (ha : a + r ≤ 256) (hc : c0 + w ≤ 256)
    {inb : ∀ k, (![0, a, c0] : Fin 3 → ℕ) k + (![16, r, w] : Fin 3 → ℕ) k ≤ S16x256x256.size k} :
    Box a c0 ha hc (v10.read (Elt Ideal) f10)
      (v10.readAt (Elt Ideal) (Rect.unit (s := S16x256x256) ![0, a, c0] ![16, r, w] inb).toLoadRect f10) :=
  fun b i j => load_at v10 f10 inb b i j (by omega) (by omega)

/-- Entries outside a box or in it, for a box within another. -/
theorem box_covered {a r c w a' r' c' w' : ℕ} (har : a' + r' ≤ 256) (hcw : c' + w' ≤ 256)
    {inb : ∀ k, (![0, a, c] : Fin 3 → ℕ) k + (![16, r, w] : Fin 3 → ℕ) k ≤ S16x256x256.size k}
    {P : (Rect.unit (s := S16x256x256) ![0, a, c] ![16, r, w] inb).shape.Idx → EReal}
    {L : List (View.Piece (Elt Ideal) S16x256x256 .f32)}
    (h : (⟨Rect.unit (s := S16x256x256) ![0, a, c] ![16, r, w] inb, P⟩ : View.Piece (Elt Ideal) S16x256x256 .f32) ∈ L)
    (h1 : a ≤ a') (h2 : a' + r' ≤ a + r) (h3 : c ≤ c') (h4 : c' + w' ≤ c + w)
    {inb' : ∀ k, (![0, a', c'] : Fin 3 → ℕ) k + (![16, r', w'] : Fin 3 → ℕ) k ≤ S16x256x256.size k} :
    Box a' c' har hcw (v10.read (Elt Ideal) (v10.writes (Elt Ideal) f10 L))
      (v10.readCov L (Rect.unit (s := S16x256x256) ![0, a', c'] ![16, r', w'] inb').toLoadRect) := by
  rw [load_covered v10 f10 h h1 h2 h3 h4 inb']
  exact box_load v10 _ har hcw

/-- From the loads. -/
theorem less_of {k0 c0 r w : ℕ} {hr : k0 + 16 + r = 256} {hw : c0 + w = 256}
    {P : Shape.Idx ⟨3, ![16, r, w]⟩ → EReal} {A : Vec Ideal S16x16x256 .f32} {U : Vec Ideal ⟨3, ![16, 16, w]⟩ .f32}
    {O : Vec Ideal ⟨3, ![16, r, w]⟩ .f32} {d10 : Vec Ideal S16x256x256 .f32} {d13 : Vec Ideal S16x32x256 .f32}
    (hP : ∀ (b : Fin 16) (i : Fin r) (j : Fin w), P (ix3 b i j)
      = O (ix3 b i j) - ∑ s : Fin 16, A (ix3 b s ⟨k0 + 16 + i.val, by omega⟩) * U (ix3 b s j))
    (hA : Rows d13 A) (hU : Box k0 c0 (by omega) (by omega) d10 U) (hO : Box (k0 + 16) c0 (by omega) (by omega) d10 O) :
    Less hr hw d10 d13 P := by
  intro b i j
  rw [hP, hO]
  refine congrArg _ (Finset.sum_congr rfl fun s _ => ?_)
  rw [hA, hU]

/-- The panel's trailing update, by what it stores. -/
theorem trail_less {C : Fin 16 → ℕ → ℕ → ℝ} {k0 c0 r w : ℕ} {hr : k0 + 16 + r = 256} {hw : c0 + w = 256} (hc : c0 ≤ k0 + 16)
    {d13 : Vec Ideal S16x32x256 .f32} {L : List (View.Piece (Elt Ideal) S16x256x256 .f32)}
    {inb : ∀ a, (![0, k0 + 16, c0] : Fin 3 → ℕ) a + (![16, r, w] : Fin 3 → ℕ) a ≤ S16x256x256.size a}
    {P : (Rect.unit (s := S16x256x256) ![0, k0 + 16, c0] ![16, r, w] inb).shape.Idx → EReal}
    (hU : Upper C k0 16 (v10.read (Elt Ideal) (v10.writes (Elt Ideal) f10 L))) (hS : Scaled C k0 16 d13)
    (hP : Less hr hw (v10.read (Elt Ideal) (v10.writes (Elt Ideal) f10 L)) d13 P) :
    Upper C (k0 + 16) 0 (v10.read (Elt Ideal) (v10.writes (Elt Ideal) f10
      (⟨Rect.unit (s := S16x256x256) ![0, k0 + 16, c0] ![16, r, w] inb, P⟩ :: L))) :=
  trail v10 f10 hr hw hc d13 L inb P hP hU hS

/-- Between two panels: the panel that begins at `k0` is next. -/
def Start (C : Fin 16 → ℕ → ℕ → ℝ) (Z : Fin 16 → Fin 2 → ℕ → ℝ) (k0 : ℕ) (d10 : Vec Ideal S16x256x256 .f32)
    (d12 : Vec Ideal S16x2x256 .f32) : Prop := Upper C k0 0 d10 ∧ Sides C Z k0 d12

/-- A panel's loop, from between two panels. -/
theorem Keeps.go {C : Fin 16 → ℕ → ℕ → ℝ} {Z : Fin 16 → Fin 2 → ℕ → ℝ} {sp12 : Space} {v12 : View sg κ sp12 S16x2x256 .f32}
    {v10 : View sg κ sp10 S16x256x256 .f32} {v13 : View sg κ sp13 S16x32x256 .f32}
    {k0 : ℕ} {pb : v10.ty.Contents (Elt Ideal) → v12.ty.Contents (Elt Ideal) → v13.ty.Contents (Elt Ideal) → ℕ →
    List (View.Piece (Elt Ideal) S16x256x256 .f32) × List (View.Piece (Elt Ideal) S16x2x256 .f32)
      × List (View.Piece (Elt Ideal) S16x32x256 .f32)} (hK : Keeps C Z v10 v12 v13 k0 pb)
    {f10 : v10.ty.Contents (Elt Ideal)} {f12 : v12.ty.Contents (Elt Ideal)} {f13 : v13.ty.Contents (Elt Ideal)}
    (h : Start C Z k0 (v10.read (Elt Ideal) f10) (v12.read (Elt Ideal) f12)) :
    Mid C Z k0 16 (v10.read (Elt Ideal) (v10.writes (Elt Ideal) f10 (pb f10 f12 f13 16).1))
      (v12.read (Elt Ideal) (v12.writes (Elt Ideal) f12 (pb f10 f12 f13 16).2.1))
      (v13.read (Elt Ideal) (v13.writes (Elt Ideal) f13 (pb f10 f12 f13 16).2.2)) :=
  hK f10 f12 f13 ⟨h.1, h.2, fun _ _ _ hs _ => absurd hs (Nat.not_lt_zero _)⟩

/-- A panel's trailing update, to the next panel. -/
theorem Start.next {C : Fin 16 → ℕ → ℕ → ℝ} {Z : Fin 16 → Fin 2 → ℕ → ℝ} {v10 : View sg κ sp10 S16x256x256 .f32}
    {f10 : v10.ty.Contents (Elt Ideal)} {k0 c0 r w : ℕ} (hr : k0 + 16 + r = 256) (hw : c0 + w = 256)
    (hc : c0 ≤ k0 + 16) {d12 : Vec Ideal S16x2x256 .f32}
    {d13 : Vec Ideal S16x32x256 .f32} {L : List (View.Piece (Elt Ideal) S16x256x256 .f32)}
    {inb : ∀ a, (![0, k0 + 16, c0] : Fin 3 → ℕ) a + (![16, r, w] : Fin 3 → ℕ) a ≤ S16x256x256.size a}
    {P : (Rect.unit (s := S16x256x256) ![0, k0 + 16, c0] ![16, r, w] inb).shape.Idx → EReal}
    (hM : Mid C Z k0 16 (v10.read (Elt Ideal) (v10.writes (Elt Ideal) f10 L)) d12 d13)
    (hP : Less hr hw (v10.read (Elt Ideal) (v10.writes (Elt Ideal) f10 L)) d13 P) :
    Start C Z (k0 + 16) (v10.read (Elt Ideal) (v10.writes (Elt Ideal) f10
      (⟨Rect.unit (s := S16x256x256) ![0, k0 + 16, c0] ![16, r, w] inb, P⟩ :: L))) d12 :=
  ⟨trail_less v10 f10 hc hM.1 hM.2.2 hP, hM.2.1⟩

end

/-- Each of the fifteen updates at an entry: the old value less sixteen products. -/
theorem pay79_at (a : Vec Ideal S16x16x256 .f32) (u : Vec Ideal S16x16x256 .f32) (o : Vec Ideal S16x240x256 .f32)
    (b : Fin 16) (i : Fin 240) (j : Fin 256) : k0_pay79 a u o (ix3 b i j)
      = o (ix3 b i j) - ∑ s : Fin 16, a (ix3 b s ⟨0 + 16 + i.val, by omega⟩) * u (ix3 b s j) := by
  pointwise [k0_pay79]

theorem pay82_at (a : Vec Ideal S16x16x256 .f32) (u : Vec Ideal S16x16x256 .f32) (o : Vec Ideal S16x224x256 .f32)
    (b : Fin 16) (i : Fin 224) (j : Fin 256) : k0_pay82 a u o (ix3 b i j)
      = o (ix3 b i j) - ∑ s : Fin 16, a (ix3 b s ⟨16 + 16 + i.val, by omega⟩) * u (ix3 b s j) := by
  pointwise [k0_pay82]

theorem pay86_at (a : Vec Ideal S16x16x256 .f32) (u : Vec Ideal S16x16x256 .f32) (o : Vec Ideal S16x208x256 .f32)
    (b : Fin 16) (i : Fin 208) (j : Fin 256) : k0_pay86 (k0_pay85 a u o) (ix3 b i j)
      = o (ix3 b i j) - ∑ s : Fin 16, a (ix3 b s ⟨32 + 16 + i.val, by omega⟩) * u (ix3 b s j) := by
  pointwise [k0_pay86, k0_pay85]

theorem pay85_at (a : Vec Ideal S16x16x256 .f32) (u : Vec Ideal S16x16x256 .f32) (o : Vec Ideal S16x208x256 .f32)
    (b : Fin 16) (i : Fin 208) (j : Fin 256) : k0_pay85 a u o (ix3 b i j)
      = o (ix3 b i j) - ∑ s : Fin 16, a (ix3 b s ⟨32 + 16 + i.val, by omega⟩) * u (ix3 b s j) := by
  pointwise [k0_pay85]

theorem pay89_at (a : Vec Ideal S16x16x256 .f32) (u : Vec Ideal S16x16x256 .f32) (o : Vec Ideal S16x192x256 .f32)
    (b : Fin 16) (i : Fin 192) (j : Fin 256) : k0_pay89 a u o (ix3 b i j)
      = o (ix3 b i j) - ∑ s : Fin 16, a (ix3 b s ⟨48 + 16 + i.val, by omega⟩) * u (ix3 b s j) := by
  pointwise [k0_pay89]

theorem pay93_at (a : Vec Ideal S16x16x256 .f32) (u : Vec Ideal S16x16x256 .f32) (o : Vec Ideal S16x176x256 .f32)
    (b : Fin 16) (i : Fin 176) (j : Fin 256) : k0_pay93 (k0_pay92 a u) o (ix3 b i j)
      = o (ix3 b i j) - ∑ s : Fin 16, a (ix3 b s ⟨64 + 16 + i.val, by omega⟩) * u (ix3 b s j) := by
  pointwise [k0_pay93, k0_pay92]

theorem pay96_at (a : Vec Ideal S16x16x256 .f32) (u : Vec Ideal S16x16x256 .f32) (o : Vec Ideal S16x160x256 .f32)
    (b : Fin 16) (i : Fin 160) (j : Fin 256) : k0_pay96 a u o (ix3 b i j)
      = o (ix3 b i j) - ∑ s : Fin 16, a (ix3 b s ⟨80 + 16 + i.val, by omega⟩) * u (ix3 b s j) := by
  pointwise [k0_pay96]

theorem pay100_at (a : Vec Ideal S16x16x256 .f32) (u : Vec Ideal S16x16x256 .f32) (o : Vec Ideal S16x144x256 .f32)
    (b : Fin 16) (i : Fin 144) (j : Fin 256) : k0_pay100 (k0_pay99 a) u o (ix3 b i j)
      = o (ix3 b i j) - ∑ s : Fin 16, a (ix3 b s ⟨96 + 16 + i.val, by omega⟩) * u (ix3 b s j) := by
  pointwise [k0_pay100, k0_pay99]

theorem pay103_at (a : Vec Ideal S16x16x256 .f32) (u : Vec Ideal S16x16x128 .f32) (o : Vec Ideal S16x128x128 .f32)
    (b : Fin 16) (i : Fin 128) (j : Fin 128) : k0_pay103 a u o (ix3 b i j)
      = o (ix3 b i j) - ∑ s : Fin 16, a (ix3 b s ⟨112 + 16 + i.val, by omega⟩) * u (ix3 b s j) := by
  pointwise [k0_pay103]

theorem pay106_at (a : Vec Ideal S16x16x256 .f32) (u : Vec Ideal S16x16x128 .f32) (o : Vec Ideal S16x112x128 .f32)
    (b : Fin 16) (i : Fin 112) (j : Fin 128) : k0_pay106 a u o (ix3 b i j)
      = o (ix3 b i j) - ∑ s : Fin 16, a (ix3 b s ⟨128 + 16 + i.val, by omega⟩) * u (ix3 b s j) := by
  pointwise [k0_pay106]

theorem pay109_at (a : Vec Ideal S16x16x256 .f32) (u : Vec Ideal S16x16x128 .f32) (o : Vec Ideal S16x96x128 .f32)
    (b : Fin 16) (i : Fin 96) (j : Fin 128) : k0_pay109 a u o (ix3 b i j)
      = o (ix3 b i j) - ∑ s : Fin 16, a (ix3 b s ⟨144 + 16 + i.val, by omega⟩) * u (ix3 b s j) := by
  pointwise [k0_pay109]

theorem pay112_at (a : Vec Ideal S16x16x256 .f32) (u : Vec Ideal S16x16x128 .f32) (o : Vec Ideal S16x80x128 .f32)
    (b : Fin 16) (i : Fin 80) (j : Fin 128) : k0_pay112 a u o (ix3 b i j)
      = o (ix3 b i j) - ∑ s : Fin 16, a (ix3 b s ⟨160 + 16 + i.val, by omega⟩) * u (ix3 b s j) := by
  pointwise [k0_pay112]

theorem pay116_at (a : Vec Ideal S16x16x256 .f32) (u : Vec Ideal S16x16x128 .f32) (o : Vec Ideal S16x64x128 .f32)
    (b : Fin 16) (i : Fin 64) (j : Fin 128) : k0_pay116 (k0_pay115 a u) o (ix3 b i j)
      = o (ix3 b i j) - ∑ s : Fin 16, a (ix3 b s ⟨176 + 16 + i.val, by omega⟩) * u (ix3 b s j) := by
  pointwise [k0_pay116, k0_pay115]

theorem pay119_at (a : Vec Ideal S16x16x256 .f32) (u : Vec Ideal S16x16x128 .f32) (o : Vec Ideal S16x48x128 .f32)
    (b : Fin 16) (i : Fin 48) (j : Fin 128) : k0_pay119 a u o (ix3 b i j)
      = o (ix3 b i j) - ∑ s : Fin 16, a (ix3 b s ⟨192 + 16 + i.val, by omega⟩) * u (ix3 b s j) := by
  pointwise [k0_pay119]

theorem pay123_at (a : Vec Ideal S16x16x256 .f32) (u : Vec Ideal S16x16x128 .f32) (o : Vec Ideal S16x32x128 .f32)
    (b : Fin 16) (i : Fin 32) (j : Fin 128) : k0_pay123 (k0_pay122 a) u o (ix3 b i j)
      = o (ix3 b i j) - ∑ s : Fin 16, a (ix3 b s ⟨208 + 16 + i.val, by omega⟩) * u (ix3 b s j) := by
  pointwise [k0_pay123, k0_pay122]

theorem pay126_at (a : Vec Ideal S16x16x256 .f32) (u : Vec Ideal S16x16x128 .f32) (o : Vec Ideal S16x16x128 .f32)
    (b : Fin 16) (i : Fin 16) (j : Fin 128) : k0_pay126 a u o (ix3 b i j)
      = o (ix3 b i j) - ∑ s : Fin 16, a (ix3 b s ⟨224 + 16 + i.val, by omega⟩) * u (ix3 b s j) := by
  pointwise [k0_pay126]

end Qeq

end
-- ==== Proof.Qeq.Parts.lean ====
/- The nine eliminating parts of the kernel's body: what each finds in the three work buffers and what it leaves in them. -/
module

public import proofs.«01_k».proof.Proof.Qeq.Panels
public import proofs.«01_k».proof.Proof.Qeq.Trail
public import proofs.«01_k».proof.Proof.Qeq.Energy
public import Idealize.ShloMosaic.Lib.Exec
public import Idealize.ShloMosaic.Lib.Tactic
public import Idealize.ShloMosaic.Lib.Pipeline.Kit

@[expose] public section

set_option maxRecDepth 16384

noncomputable section
namespace Qeq
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ

/-- The three work buffers, at contents of which `φ` holds. -/
abbrev Held (c : Dev nD) (arg10 : Memref sig .tc .vmem S16x256x256 .f32) (arg12 : Memref sig .tc .vmem S16x2x256 .f32)
    (arg13 : Memref sig .tc .vmem S16x32x256 .f32)
    (φ : Vec Ideal S16x256x256 .f32 → Vec Ideal S16x2x256 .f32 → Vec Ideal S16x32x256 .f32 → Prop) : sProp 𝕄 :=
  iprop(∃ g10 g12 g13, (arg10.view.loc (c : Thread nD τ) ↦[arg10.view.set]{fullShare} g10)
    ∗ (arg12.view.loc (c : Thread nD τ) ↦[arg12.view.set]{fullShare} g12)
    ∗ (arg13.view.loc (c : Thread nD τ) ↦[arg13.view.set]{fullShare} g13)
    ∗ ⌜φ (arg10.view.read (Elt Ideal) g10) (arg12.view.read (Elt Ideal) g12) (arg13.view.read (Elt Ideal) g13)⌝)

variable {C : Fin 16 → ℕ → ℕ → ℝ} {Z : Fin 16 → Fin 2 → ℕ → ℝ} (hp : ∀ b, ∀ k < 256, schur (C b) k k k ≠ 0)
variable (𝒱 : Variants) (c : Dev nD) (bd : Option 𝒱.V) (E : Set ℕ)
variable {arg0 : Memref sig .tc .vmem S16x256x128 .f32} (harg0 : arg0.IsWhole)
variable {arg1 : Memref sig .tc .vmem S16x256 .f32} (harg1 : arg1.IsWhole)
variable {arg2 : Memref sig .tc .vmem S16x256 .f32} (harg2 : arg2.IsWhole)
variable {arg3 : Memref sig .tc .vmem S16x256 .f32} (harg3 : arg3.IsWhole)
variable {arg4 : Memref sig .tc .vmem S16x256 .i32} (harg4 : arg4.IsWhole)
variable {arg5 : Memref sig .tc .vmem S1x16 .f32} (harg5 : arg5.IsWhole)
variable {arg6 : Memref sig .tc .vmem S1x128 .f32} (harg6 : arg6.IsWhole)
variable {arg7 : Memref sig .tc .smem S4 .f32} (harg7 : arg7.IsWhole)
variable {arg8 : Memref sig .tc .smem S4 .f32} (harg8 : arg8.IsWhole)
variable {arg9 : Memref sig .tc .vmem S1x16 .f32} (harg9 : arg9.IsWhole)
variable {arg10 : Memref sig .tc .vmem S16x256x256 .f32} (harg10 : arg10.IsWhole)
variable {arg11 : Memref sig .tc .vmem S16x256x256 .f32} (harg11 : arg11.IsWhole)
variable {arg12 : Memref sig .tc .vmem S16x2x256 .f32} (harg12 : arg12.IsWhole)
variable {arg13 : Memref sig .tc .vmem S16x32x256 .f32} (harg13 : arg13.IsWhole)
variable {arg14 : Memref sig .tc .vmem S16x2x256 .f32} (harg14 : arg14.IsWhole)

/-- The right-hand sides as first stored: the negated energies of the atoms, and ones. -/
theorem sides_first {sg : RefSig} {κ : Kind} {sp12 : Space} (v12 : View sg κ sp12 S16x2x256 .f32) (f12 : v12.ty.Contents (Elt Ideal))
    {v : FVec Ideal S16x256 .f32} (hz : ChiIs Z v) {i0 i1} :
    Sides C Z 0 (v12.read (Elt Ideal) (v12.writes (Elt Ideal) f12
      [⟨Rect.unit (s := S16x2x256) ![0, 1, 0] S16x1x256.size i1, k0_pay76 (F := Ideal)⟩,
       ⟨Rect.unit (s := S16x2x256) ![0, 0, 0] S16x1x256.size i0, k0_pay75 v⟩])) := by
  intro b c j
  show _ = ((Z b c j : ℝ) : EReal)
  fin_cases c
  · rw [View.read_writes_cons_unit_of_not_mem v12 f12 i1 _ _ _ rfl 1 (by left; simp [ix3]),
      View.read_writes_cons_unit_of_mem v12 f12 i0 _ [] _ (ix3 b (0 : Fin 1) j) rfl (by intro a; fin_cases a <;> simp [ix3])]
    have : k0_pay75 v (ix3 b (0 : Fin 1) j) = Ideal.ofBits .f32 0#32 - v (ix2 b j) := by pointwise [k0_pay75]
    rw [this, Ideal.ofBits_zero_f32, hz.1, zero_sub, ← EReal.coe_neg, neg_neg]
    rfl
  · rw [View.read_writes_cons_unit_of_mem v12 f12 i1 _ _ _ (ix3 b (0 : Fin 1) j) rfl (by intro a; fin_cases a <;> simp [ix3])]
    have : k0_pay76 (F := Ideal) (ix3 b (0 : Fin 1) j) = Ideal.ofBits .f32 0x3F800000#32 := by pointwise [k0_pay76]
    rw [this, Ideal.ofBits_one_f32]
    show _ = ((Z b 1 j : ℝ) : EReal)
    rw [hz.2]; rfl

/-- What the last panel leaves is the end of the elimination. -/
theorem mid_done {d10 : Vec Ideal S16x256x256 .f32} {d12 : Vec Ideal S16x2x256 .f32} {d13 : Vec Ideal S16x32x256 .f32}
    (h : Mid C Z 240 16 d10 d12 d13) : Upper C 240 16 d10 ∧ Sides C Z 256 d12 := ⟨h.1, h.2.1⟩

/-- A cast to the same shape keeps an update's values. -/
theorem less_cast {d10 : Vec Ideal S16x256x256 .f32} {d13 : Vec Ideal S16x32x256 .f32} {v : FVec Ideal S16x208x256 .f32}
    (h : Less (k0 := 32) (c0 := 0) (r := 208) (w := 256) (by omega) (by omega) d10 d13 v) :
    Less (k0 := 32) (c0 := 0) (r := 208) (w := 256) (by omega) (by omega) d10 d13 (k0_pay86 v) := by
  intro b i j
  rw [← h b i j]
  pointwise [k0_pay86]

/-- What holds after part 20. -/
def Fact20 (C : Fin 16 → ℕ → ℕ → ℝ) (Z : Fin 16 → Fin 2 → ℕ → ℝ) (v131 : IVec S1x1x256 32) (v158 : IVec S1x1x16 32) (c16 : BitVec 32)
    (d10 : Vec Ideal S16x256x256 .f32) (d12 : Vec Ideal S16x2x256 .f32) (d13 : Vec Ideal S16x32x256 .f32) : Prop :=
  v131 = lanes ∧ v158 = lanes16 16#32 ∧ c16 = 16#32 ∧ Start C Z 16 d10 d12

/-- What holds after part 21. -/
def Fact21 (C : Fin 16 → ℕ → ℕ → ℝ) (Z : Fin 16 → Fin 2 → ℕ → ℝ) (v131 : IVec S1x1x256 32) (v180 : FVec Ideal S16x208x256 .f32)
    (d10 : Vec Ideal S16x256x256 .f32) (d12 : Vec Ideal S16x2x256 .f32) (d13 : Vec Ideal S16x32x256 .f32) : Prop :=
  v131 = lanes ∧ Mid C Z 32 16 d10 d12 d13 ∧ Less (k0 := 32) (c0 := 0) (r := 208) (w := 256) (by omega) (by omega) d10 d13 v180

/-- What holds after part 22. -/
def Fact22 (C : Fin 16 → ℕ → ℕ → ℝ) (Z : Fin 16 → Fin 2 → ℕ → ℝ) (v131 : IVec S1x1x256 32) (v206 : FVec Ideal S16x176x256 .f32)
    (d10 : Vec Ideal S16x256x256 .f32) (d12 : Vec Ideal S16x2x256 .f32) (d13 : Vec Ideal S16x32x256 .f32) : Prop :=
  v131 = lanes ∧ Mid C Z 64 16 d10 d12 d13 ∧ ∃ A U, Rows d13 A ∧ Box 64 0 (by omega) (by omega) d10 U ∧ v206 = k0_pay92 A U

/-- What holds after part 23. -/
def Fact23 (C : Fin 16 → ℕ → ℕ → ℝ) (Z : Fin 16 → Fin 2 → ℕ → ℝ) (v131 : IVec S1x1x256 32) (v231 : FVec Ideal S16x16x144 .f32)
    (d10 : Vec Ideal S16x256x256 .f32) (d12 : Vec Ideal S16x2x256 .f32) (d13 : Vec Ideal S16x32x256 .f32) : Prop :=
  v131 = lanes ∧ Mid C Z 96 16 d10 d12 d13 ∧ ∃ A, Rows d13 A ∧ v231 = k0_pay99 A

/-- What holds after part 24. -/
def Fact24 (C : Fin 16 → ℕ → ℕ → ℝ) (Z : Fin 16 → Fin 2 → ℕ → ℝ) (v131 : IVec S1x1x256 32) (v256 : IVec S1x1x16 32) (c128 : BitVec 32)
    (d10 : Vec Ideal S16x256x256 .f32) (d12 : Vec Ideal S16x2x256 .f32) (d13 : Vec Ideal S16x32x256 .f32) : Prop :=
  v131 = lanes ∧ v256 = lanes16 128#32 ∧ c128 = 128#32 ∧ Start C Z 128 d10 d12

/-- What holds after part 25. -/
def Fact25 (C : Fin 16 → ℕ → ℕ → ℝ) (Z : Fin 16 → Fin 2 → ℕ → ℝ) (v131 : IVec S1x1x256 32) (v281 : FVec Ideal S16x96x128 .f32)
    (d10 : Vec Ideal S16x256x256 .f32) (d12 : Vec Ideal S16x2x256 .f32) (d13 : Vec Ideal S16x32x256 .f32) : Prop :=
  v131 = lanes ∧ Mid C Z 144 16 d10 d12 d13 ∧ Less (k0 := 144) (c0 := 128) (r := 96) (w := 128) (by omega) (by omega) d10 d13 v281

/-- What holds after part 26. -/
def Fact26 (C : Fin 16 → ℕ → ℕ → ℝ) (Z : Fin 16 → Fin 2 → ℕ → ℝ) (v131 : IVec S1x1x256 32) (v304 : FVec Ideal S16x64x128 .f32)
    (d10 : Vec Ideal S16x256x256 .f32) (d12 : Vec Ideal S16x2x256 .f32) (d13 : Vec Ideal S16x32x256 .f32) : Prop :=
  v131 = lanes ∧ Mid C Z 176 16 d10 d12 d13 ∧ ∃ A U, Rows d13 A ∧ Box 176 128 (by omega) (by omega) d10 U ∧ v304 = k0_pay115 A U

/-- What holds after part 27. -/
def Fact27 (C : Fin 16 → ℕ → ℕ → ℝ) (Z : Fin 16 → Fin 2 → ℕ → ℝ) (v131 : IVec S1x1x256 32) (v330 : FVec Ideal S16x32x16 .f32)
    (d10 : Vec Ideal S16x256x256 .f32) (d12 : Vec Ideal S16x2x256 .f32) (d13 : Vec Ideal S16x32x256 .f32) : Prop :=
  v131 = lanes ∧ Mid C Z 208 16 d10 d12 d13 ∧ ∃ A, Rows d13 A ∧ v330 = k0_pay122 A

include hp

/-- The first part of the body: the data are laid out, and the first panel is eliminated. -/
theorem part20 (v51 : FVec Ideal S16x256 .f32) :
    (iprop(∃ g10 g12 g13, (arg10.view.loc (c : Thread nD τ) ↦[arg10.view.set]{fullShare} g10)
      ∗ (arg12.view.loc (c : Thread nD τ) ↦[arg12.view.set]{fullShare} g12)
      ∗ (arg13.view.loc (c : Thread nD τ) ↦[arg13.view.set]{fullShare} g13)
      ∗ ⌜Upper C 0 0 (arg10.view.read (Elt Ideal) g10)⌝ ∗ ⌜ChiIs Z v51⌝) : sProp 𝕄)
    ⊢ wp frame (wpE (defs₀ (F := Ideal)) 𝒱 (c : Thread nD τ) bd) E (k0_part20 (F := Ideal) _ harg0 _ harg1 _ harg2 _ harg3 _ harg4 _ harg5 _ harg6 _ harg7 _ harg8 _ harg9 _ harg10 _ harg11 _ harg12 _ harg13 _ harg14 v51)
      (fun r => Held c arg10 arg12 arg13 (fun d10 d12 d13 => Fact20 C Z r.1 r.2.1 r.2.2 d10 d12 d13)) := by
  rw [k0_part20_eq_skeleton]
  unfold k0_part20_skel
  iintro ⟨%f10, %f12, %f13, H10, H12, H13, %hU, %hz⟩
  sl_exec
  sl_step
  iexists _, _, _
  isplitl [H10]
  · iexact H10
  isplitl [H12]
  · iexact H12
  isplitl [H13]
  · iexact H13
  ipureintro
  sl_unfold_words
  simp only [View.writes_append]
  refine ⟨rfl, rfl, rfl, ?_⟩
  refine Start.next (d13 := ?d) (k0 := 0) (c0 := 0) (r := 240) (w := 256) (by omega) (by omega) (by omega) ?before ?less
  case before =>
    refine Keeps.go (loop1 hp 𝒱 c bd harg0 harg1 harg2 harg3 harg4 harg5 harg6 harg7 harg8 harg9 harg10 harg11 harg12 harg13 harg14 v51) ?_
    exact ⟨hU, sides_first _ _ hz⟩
  case less =>
    refine less_of (pay79_at _ _ _) (rows_load _ _) ?_ ?_
    · exact box_load _ _ (by omega) (by omega)
    · exact box_load _ _ (by omega) (by omega)

theorem part21 (v131 : IVec S1x1x256 32) (v158 : IVec S1x1x16 32) (c16 : BitVec 32) :
    Held c arg10 arg12 arg13 (fun d10 d12 d13 => Fact20 C Z v131 v158 c16 d10 d12 d13)
    ⊢ wp frame (wpE (defs₀ (F := Ideal)) 𝒱 (c : Thread nD τ) bd) E (k0_part21 (F := Ideal) _ harg0 _ harg1 _ harg2 _ harg3 _ harg4 _ harg5 _ harg6 _ harg7 _ harg8 _ harg9 _ harg10 _ harg11 _ harg12 _ harg13 _ harg14 v131 v158 c16)
      (fun r => Held c arg10 arg12 arg13 (fun d10 d12 d13 => Fact21 C Z v131 r.1 d10 d12 d13)) := by
  rw [k0_part21_eq_skeleton]
  unfold k0_part21_skel
  iintro ⟨%f10, %f12, %f13, H10, H12, H13, %hpre⟩
  sl_exec
  sl_step
  iexists _, _, _
  isplitl [H10]
  · iexact H10
  isplitl [H12]
  · iexact H12
  isplitl [H13]
  · iexact H13
  ipureintro
  sl_unfold_words
  obtain ⟨rfl, rfl, rfl, hS⟩ := hpre
  refine ⟨rfl, ?_, ?_⟩
  case refine_2 =>
    show Less (k0 := 32) (c0 := 0) (r := 208) (w := 256) (by omega) (by omega) _ _ (k0_pay85 (F := Ideal) _ _ _)
    refine less_of (pay85_at _ _ _) (rows_load _ _) ?_ ?_
    · exact box_covered (a := 32) (r := 224) (c := 0) (w := 256) _ _ (by omega) (by omega) (List.mem_append_right _ List.mem_cons_self) (by omega) (by omega) (by omega) (by omega)
    · exact box_covered (a := 32) (r := 224) (c := 0) (w := 256) _ _ (by omega) (by omega) (List.mem_append_right _ List.mem_cons_self) (by omega) (by omega) (by omega) (by omega)
  simp only [View.writes_append]
  refine Keeps.go (loop3 hp 𝒱 c bd harg0 harg1 harg2 harg3 harg4 harg5 harg6 harg7 harg8 harg9 harg10 harg11 harg12 harg13 harg14 ) ?_
  refine Start.next (d13 := ?d) (k0 := 16) (c0 := 0) (r := 224) (w := 256) (by omega) (by omega) (by omega) ?before ?less
  case before =>
    refine Keeps.go (loop2 hp 𝒱 c bd harg0 harg1 harg2 harg3 harg4 harg5 harg6 harg7 harg8 harg9 harg10 harg11 harg12 harg13 harg14 ) ?_
    exact hS
  case less =>
    refine less_of (pay82_at _ _ _) (rows_load _ _) ?_ ?_
    · exact box_load _ _ (by omega) (by omega)
    · exact box_load _ _ (by omega) (by omega)

theorem part22 (v131 : IVec S1x1x256 32) (v180 : FVec Ideal S16x208x256 .f32) (v181 : Vec Ideal S16x208x256 .f32) :
    Held c arg10 arg12 arg13 (fun d10 d12 d13 => Fact21 C Z v131 v180 d10 d12 d13)
    ⊢ wp frame (wpE (defs₀ (F := Ideal)) 𝒱 (c : Thread nD τ) bd) E (k0_part22 (F := Ideal) _ harg0 _ harg1 _ harg2 _ harg3 _ harg4 _ harg5 _ harg6 _ harg7 _ harg8 _ harg9 _ harg10 _ harg11 _ harg12 _ harg13 _ harg14 v131 v180 v181)
      (fun r => Held c arg10 arg12 arg13 (fun d10 d12 d13 => Fact22 C Z v131 r d10 d12 d13)) := by
  rw [k0_part22_eq_skeleton]
  unfold k0_part22_skel
  iintro ⟨%f10, %f12, %f13, H10, H12, H13, %hpre⟩
  sl_exec
  sl_step
  iexists _, _, _
  isplitl [H10]
  · iexact H10
  isplitl [H12]
  · iexact H12
  isplitl [H13]
  · iexact H13
  ipureintro
  sl_unfold_words
  obtain ⟨rfl, hM, hL⟩ := hpre
  refine ⟨rfl, ?_, _, _, ?_, ?_, rfl⟩
  case refine_2 => exact rows_load _ _
  case refine_3 => exact box_covered (a := 48) (r := 208) (c := 0) (w := 256) _ _ (by omega) (by omega) (List.mem_append_right _ (List.mem_cons_of_mem _ (List.mem_append_right _ List.mem_cons_self))) (by omega) (by omega) (by omega) (by omega)
  simp only [View.writes_append]
  refine Keeps.go (loop5 hp 𝒱 c bd harg0 harg1 harg2 harg3 harg4 harg5 harg6 harg7 harg8 harg9 harg10 harg11 harg12 harg13 harg14 _ _) ?_
  refine Start.next (d13 := ?d) (k0 := 48) (c0 := 0) (r := 192) (w := 256) (by omega) (by omega) (by omega) ?before ?less
  case before =>
    rw [View.writes_append]
    refine Keeps.go (loop4 hp 𝒱 c bd harg0 harg1 harg2 harg3 harg4 harg5 harg6 harg7 harg8 harg9 harg10 harg11 harg12 harg13 harg14 _ _) ?_
    refine Start.next (k0 := 32) (c0 := 0) (r := 208) (w := 256) (by omega) (by omega) (by omega) (L := []) hM ?_
    exact less_cast hL
  case less =>
    refine less_of (pay89_at _ _ _) (rows_load _ _) ?_ ?_
    · exact box_covered _ _ (by omega) (by omega) (List.mem_append_right _ List.mem_cons_self) (by omega) (by omega) (by omega) (by omega)
    · exact box_covered _ _ (by omega) (by omega) (List.mem_append_right _ List.mem_cons_self) (by omega) (by omega) (by omega) (by omega)

theorem part23 (v131 : IVec S1x1x256 32) (v206 : FVec Ideal S16x176x256 .f32) :
    Held c arg10 arg12 arg13 (fun d10 d12 d13 => Fact22 C Z v131 v206 d10 d12 d13)
    ⊢ wp frame (wpE (defs₀ (F := Ideal)) 𝒱 (c : Thread nD τ) bd) E (k0_part23 (F := Ideal) _ harg0 _ harg1 _ harg2 _ harg3 _ harg4 _ harg5 _ harg6 _ harg7 _ harg8 _ harg9 _ harg10 _ harg11 _ harg12 _ harg13 _ harg14 v131 v206)
      (fun r => Held c arg10 arg12 arg13 (fun d10 d12 d13 => Fact23 C Z v131 r d10 d12 d13)) := by
  rw [k0_part23_eq_skeleton]
  unfold k0_part23_skel
  iintro ⟨%f10, %f12, %f13, H10, H12, H13, %hpre⟩
  sl_exec
  sl_step
  iexists _, _, _
  isplitl [H10]
  · iexact H10
  isplitl [H12]
  · iexact H12
  isplitl [H13]
  · iexact H13
  ipureintro
  sl_unfold_words
  obtain ⟨rfl, hM, A, U, hA, hU, rfl⟩ := hpre
  refine ⟨rfl, ?_, _, ?_, rfl⟩
  case refine_2 => exact rows_load _ _
  simp only [View.writes_append]
  refine Keeps.go (loop7 hp 𝒱 c bd harg0 harg1 harg2 harg3 harg4 harg5 harg6 harg7 harg8 harg9 harg10 harg11 harg12 harg13 harg14 _) ?_
  refine Start.next (d13 := ?d) (k0 := 80) (c0 := 0) (r := 160) (w := 256) (by omega) (by omega) (by omega) ?before ?less
  case before =>
    rw [View.writes_append]
    refine Keeps.go (loop6 hp 𝒱 c bd harg0 harg1 harg2 harg3 harg4 harg5 harg6 harg7 harg8 harg9 harg10 harg11 harg12 harg13 harg14 _) ?_
    refine Start.next (k0 := 64) (c0 := 0) (r := 176) (w := 256) (by omega) (by omega) (by omega) (L := []) hM ?_
    exact less_of (pay93_at _ _ _) hA hU (box_load _ _ (by omega) (by omega))
  case less =>
    refine less_of (pay96_at _ _ _) (rows_load _ _) ?_ ?_
    · exact box_covered _ _ (by omega) (by omega) (List.mem_append_right _ List.mem_cons_self) (by omega) (by omega) (by omega) (by omega)
    · exact box_covered _ _ (by omega) (by omega) (List.mem_append_right _ List.mem_cons_self) (by omega) (by omega) (by omega) (by omega)

theorem part24 (v131 : IVec S1x1x256 32) (v231 : FVec Ideal S16x16x144 .f32) :
    Held c arg10 arg12 arg13 (fun d10 d12 d13 => Fact23 C Z v131 v231 d10 d12 d13)
    ⊢ wp frame (wpE (defs₀ (F := Ideal)) 𝒱 (c : Thread nD τ) bd) E (k0_part24 (F := Ideal) _ harg0 _ harg1 _ harg2 _ harg3 _ harg4 _ harg5 _ harg6 _ harg7 _ harg8 _ harg9 _ harg10 _ harg11 _ harg12 _ harg13 _ harg14 v131 v231)
      (fun r => Held c arg10 arg12 arg13 (fun d10 d12 d13 => Fact24 C Z v131 r.1 r.2 d10 d12 d13)) := by
  rw [k0_part24_eq_skeleton]
  unfold k0_part24_skel
  iintro ⟨%f10, %f12, %f13, H10, H12, H13, %hpre⟩
  sl_exec
  sl_step
  iexists _, _, _
  isplitl [H10]
  · iexact H10
  isplitl [H12]
  · iexact H12
  isplitl [H13]
  · iexact H13
  ipureintro
  sl_unfold_words
  obtain ⟨rfl, hM, A, hA, rfl⟩ := hpre
  refine ⟨rfl, rfl, rfl, ?_⟩
  refine Start.next (d13 := ?d) (k0 := 112) (c0 := 128) (r := 128) (w := 128) (by omega) (by omega) (by omega) ?before ?less
  case before =>
    rw [View.writes_append]
    refine Keeps.go (loop8 hp 𝒱 c bd harg0 harg1 harg2 harg3 harg4 harg5 harg6 harg7 harg8 harg9 harg10 harg11 harg12 harg13 harg14 _) ?_
    refine Start.next (k0 := 96) (c0 := 0) (r := 144) (w := 256) (by omega) (by omega) (by omega) (L := []) hM ?_
    exact less_of (pay100_at _ _ _) hA (box_load _ _ (by omega) (by omega)) (box_load _ _ (by omega) (by omega))
  case less =>
    refine less_of (pay103_at _ _ _) (rows_load _ _) ?_ ?_
    · exact box_covered _ _ (by omega) (by omega) (List.mem_append_right _ List.mem_cons_self) (by omega) (by omega) (by omega) (by omega)
    · exact box_covered _ _ (by omega) (by omega) (List.mem_append_right _ List.mem_cons_self) (by omega) (by omega) (by omega) (by omega)

theorem part25 (v131 : IVec S1x1x256 32) (v256 : IVec S1x1x16 32) (c128 : BitVec 32) :
    Held c arg10 arg12 arg13 (fun d10 d12 d13 => Fact24 C Z v131 v256 c128 d10 d12 d13)
    ⊢ wp frame (wpE (defs₀ (F := Ideal)) 𝒱 (c : Thread nD τ) bd) E (k0_part25 (F := Ideal) _ harg0 _ harg1 _ harg2 _ harg3 _ harg4 _ harg5 _ harg6 _ harg7 _ harg8 _ harg9 _ harg10 _ harg11 _ harg12 _ harg13 _ harg14 v131 v256 c128)
      (fun r => Held c arg10 arg12 arg13 (fun d10 d12 d13 => Fact25 C Z v131 r d10 d12 d13)) := by
  rw [k0_part25_eq_skeleton]
  unfold k0_part25_skel
  iintro ⟨%f10, %f12, %f13, H10, H12, H13, %hpre⟩
  sl_exec
  sl_step
  iexists _, _, _
  isplitl [H10]
  · iexact H10
  isplitl [H12]
  · iexact H12
  isplitl [H13]
  · iexact H13
  ipureintro
  sl_unfold_words
  obtain ⟨rfl, rfl, rfl, hS⟩ := hpre
  refine ⟨rfl, ?_, ?_⟩
  case refine_2 =>
    show Less (k0 := 144) (c0 := 128) (r := 96) (w := 128) (by omega) (by omega) _ _ (k0_pay109 (F := Ideal) _ _ _)
    refine less_of (pay109_at _ _ _) (rows_load _ _) ?_ ?_
    · exact box_covered (a := 144) (r := 112) (c := 128) (w := 128) _ _ (by omega) (by omega) (List.mem_append_right _ List.mem_cons_self) (by omega) (by omega) (by omega) (by omega)
    · exact box_covered (a := 144) (r := 112) (c := 128) (w := 128) _ _ (by omega) (by omega) (List.mem_append_right _ List.mem_cons_self) (by omega) (by omega) (by omega) (by omega)
  simp only [View.writes_append]
  refine Keeps.go (loop10 hp 𝒱 c bd harg0 harg1 harg2 harg3 harg4 harg5 harg6 harg7 harg8 harg9 harg10 harg11 harg12 harg13 harg14 ) ?_
  refine Start.next (d13 := ?d) (k0 := 128) (c0 := 128) (r := 112) (w := 128) (by omega) (by omega) (by omega) ?before ?less
  case before =>
    refine Keeps.go (loop9 hp 𝒱 c bd harg0 harg1 harg2 harg3 harg4 harg5 harg6 harg7 harg8 harg9 harg10 harg11 harg12 harg13 harg14 ) ?_
    exact hS
  case less =>
    refine less_of (pay106_at _ _ _) (rows_load _ _) ?_ ?_
    · exact box_load _ _ (by omega) (by omega)
    · exact box_load _ _ (by omega) (by omega)

theorem part26 (v131 : IVec S1x1x256 32) (v281 : FVec Ideal S16x96x128 .f32) :
    Held c arg10 arg12 arg13 (fun d10 d12 d13 => Fact25 C Z v131 v281 d10 d12 d13)
    ⊢ wp frame (wpE (defs₀ (F := Ideal)) 𝒱 (c : Thread nD τ) bd) E (k0_part26 (F := Ideal) _ harg0 _ harg1 _ harg2 _ harg3 _ harg4 _ harg5 _ harg6 _ harg7 _ harg8 _ harg9 _ harg10 _ harg11 _ harg12 _ harg13 _ harg14 v131 v281)
      (fun r => Held c arg10 arg12 arg13 (fun d10 d12 d13 => Fact26 C Z v131 r d10 d12 d13)) := by
  rw [k0_part26_eq_skeleton]
  unfold k0_part26_skel
  iintro ⟨%f10, %f12, %f13, H10, H12, H13, %hpre⟩
  sl_exec
  sl_step
  iexists _, _, _
  isplitl [H10]
  · iexact H10
  isplitl [H12]
  · iexact H12
  isplitl [H13]
  · iexact H13
  ipureintro
  sl_unfold_words
  obtain ⟨rfl, hM, hL⟩ := hpre
  refine ⟨rfl, ?_, _, _, ?_, ?_, rfl⟩
  case refine_2 => exact rows_load _ _
  case refine_3 => exact box_covered (a := 160) (r := 96) (c := 128) (w := 128) _ _ (by omega) (by omega) (List.mem_append_right _ (List.mem_cons_of_mem _ (List.mem_append_right _ List.mem_cons_self))) (by omega) (by omega) (by omega) (by omega)
  simp only [View.writes_append]
  refine Keeps.go (loop12 hp 𝒱 c bd harg0 harg1 harg2 harg3 harg4 harg5 harg6 harg7 harg8 harg9 harg10 harg11 harg12 harg13 harg14 _) ?_
  refine Start.next (d13 := ?d) (k0 := 160) (c0 := 128) (r := 80) (w := 128) (by omega) (by omega) (by omega) ?before ?less
  case before =>
    rw [View.writes_append]
    refine Keeps.go (loop11 hp 𝒱 c bd harg0 harg1 harg2 harg3 harg4 harg5 harg6 harg7 harg8 harg9 harg10 harg11 harg12 harg13 harg14 _) ?_
    exact Start.next (k0 := 144) (c0 := 128) (r := 96) (w := 128) (by omega) (by omega) (by omega) (L := []) hM hL
  case less =>
    refine less_of (pay112_at _ _ _) (rows_load _ _) ?_ ?_
    · exact box_covered _ _ (by omega) (by omega) (List.mem_append_right _ List.mem_cons_self) (by omega) (by omega) (by omega) (by omega)
    · exact box_covered _ _ (by omega) (by omega) (List.mem_append_right _ List.mem_cons_self) (by omega) (by omega) (by omega) (by omega)

theorem part27 (v131 : IVec S1x1x256 32) (v304 : FVec Ideal S16x64x128 .f32) :
    Held c arg10 arg12 arg13 (fun d10 d12 d13 => Fact26 C Z v131 v304 d10 d12 d13)
    ⊢ wp frame (wpE (defs₀ (F := Ideal)) 𝒱 (c : Thread nD τ) bd) E (k0_part27 (F := Ideal) _ harg0 _ harg1 _ harg2 _ harg3 _ harg4 _ harg5 _ harg6 _ harg7 _ harg8 _ harg9 _ harg10 _ harg11 _ harg12 _ harg13 _ harg14 v131 v304)
      (fun r => Held c arg10 arg12 arg13 (fun d10 d12 d13 => Fact27 C Z v131 r d10 d12 d13)) := by
  rw [k0_part27_eq_skeleton]
  unfold k0_part27_skel
  iintro ⟨%f10, %f12, %f13, H10, H12, H13, %hpre⟩
  sl_exec
  sl_step
  iexists _, _, _
  isplitl [H10]
  · iexact H10
  isplitl [H12]
  · iexact H12
  isplitl [H13]
  · iexact H13
  ipureintro
  sl_unfold_words
  obtain ⟨rfl, hM, A, U, hA, hU, rfl⟩ := hpre
  refine ⟨rfl, ?_, _, ?_, rfl⟩
  case refine_2 => exact rows_load _ _
  simp only [View.writes_append]
  refine Keeps.go (loop14 hp 𝒱 c bd harg0 harg1 harg2 harg3 harg4 harg5 harg6 harg7 harg8 harg9 harg10 harg11 harg12 harg13 harg14 _) ?_
  refine Start.next (d13 := ?d) (k0 := 192) (c0 := 128) (r := 48) (w := 128) (by omega) (by omega) (by omega) ?before ?less
  case before =>
    rw [View.writes_append]
    refine Keeps.go (loop13 hp 𝒱 c bd harg0 harg1 harg2 harg3 harg4 harg5 harg6 harg7 harg8 harg9 harg10 harg11 harg12 harg13 harg14 _) ?_
    refine Start.next (k0 := 176) (c0 := 128) (r := 64) (w := 128) (by omega) (by omega) (by omega) (L := []) hM ?_
    exact less_of (pay116_at _ _ _) hA hU (box_load _ _ (by omega) (by omega))
  case less =>
    refine less_of (pay119_at _ _ _) (rows_load _ _) ?_ ?_
    · exact box_covered _ _ (by omega) (by omega) (List.mem_append_right _ List.mem_cons_self) (by omega) (by omega) (by omega) (by omega)
    · exact box_covered _ _ (by omega) (by omega) (List.mem_append_right _ List.mem_cons_self) (by omega) (by omega) (by omega) (by omega)

theorem part28 (v131 : IVec S1x1x256 32) (v330 : FVec Ideal S16x32x16 .f32) :
    Held c arg10 arg12 arg13 (fun d10 d12 d13 => Fact27 C Z v131 v330 d10 d12 d13)
    ⊢ wp frame (wpE (defs₀ (F := Ideal)) 𝒱 (c : Thread nD τ) bd) E (k0_part28 (F := Ideal) _ harg0 _ harg1 _ harg2 _ harg3 _ harg4 _ harg5 _ harg6 _ harg7 _ harg8 _ harg9 _ harg10 _ harg11 _ harg12 _ harg13 _ harg14 v131 v330)
      (fun r => Held c arg10 arg12 arg13 (fun d10 d12 d13 => v131 = lanes ∧ Upper C 240 16 d10 ∧ Sides C Z 256 d12)) := by
  rw [k0_part28_eq_skeleton]
  unfold k0_part28_skel
  iintro ⟨%f10, %f12, %f13, H10, H12, H13, %hpre⟩
  sl_exec
  sl_step
  iexists _, _, _
  isplitl [H10]
  · iexact H10
  isplitl [H12]
  · iexact H12
  isplitl [H13]
  · iexact H13
  ipureintro
  sl_unfold_words
  obtain ⟨rfl, hM, A, hA, rfl⟩ := hpre
  refine ⟨rfl, ?_⟩
  simp only [View.writes_append]
  refine mid_done (C := C) (Z := Z) (d13 := ?e) ?fin
  rotate_left
  refine Keeps.go (loop16 hp 𝒱 c bd harg0 harg1 harg2 harg3 harg4 harg5 harg6 harg7 harg8 harg9 harg10 harg11 harg12 harg13 harg14 _) ?_
  refine Start.next (d13 := ?d) (k0 := 224) (c0 := 128) (r := 16) (w := 128) (by omega) (by omega) (by omega) ?before ?less
  case before =>
    rw [View.writes_append]
    refine Keeps.go (loop15 hp 𝒱 c bd harg0 harg1 harg2 harg3 harg4 harg5 harg6 harg7 harg8 harg9 harg10 harg11 harg12 harg13 harg14 _) ?_
    refine Start.next (k0 := 208) (c0 := 128) (r := 32) (w := 128) (by omega) (by omega) (by omega) (L := []) hM ?_
    exact less_of (pay123_at _ _ _) hA (box_load _ _ (by omega) (by omega)) (box_load _ _ (by omega) (by omega))
  case less =>
    refine less_of (pay126_at _ _ _) (rows_load _ _) ?_ ?_
    · exact box_covered _ _ (by omega) (by omega) (List.mem_append_right _ List.mem_cons_self) (by omega) (by omega) (by omega) (by omega)
    · exact box_covered _ _ (by omega) (by omega) (List.mem_append_right _ List.mem_cons_self) (by omega) (by omega) (by omega) (by omega)

end Qeq
-- ==== Proof.Qeq.Coef.lean ====
/- The first parts of the kernel: the matrices and the node energies, from the arguments to the work buffers. -/
module

public import proofs.«01_k».proof.Proof.Qeq.Energy

@[expose] public section

set_option maxRecDepth 16384

noncomputable section

namespace Qeq

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ

/-- The parameter of each atom's type, as the first part selects it. -/
def widths (x4 : Vec Ideal S16x256 .i32) (x7 : Vec Ideal S4 .f32) : FVec Ideal S16x256 .f32 :=
  k0_pay67 x4 (x7 (ix1 0)) (x7 (ix1 1)) (x7 (ix1 2)) (x7 (ix1 3))

/-- The same of the hardness, over the types 0, 1 and 2. -/
def hards3 (x4 : Vec Ideal S16x256 .i32) (x8 : Vec Ideal S4 .f32) : FVec Ideal S16x256 .f32 :=
  k0_pay66 x4 (x8 (ix1 0)) (x8 (ix1 1)) (x8 (ix1 2))

/-- The hardness of every atom. -/
def hards (x4 : Vec Ideal S16x256 .i32) (x8 : Vec Ideal S4 .f32) : FVec Ideal S16x256 .f32 :=
  k0_pay69 (hards3 x4 x8) (k0_pay68 x4) (x8 (ix1 3))

variable {C : Fin 16 → ℕ → ℕ → ℝ} {Z : Fin 16 → Fin 2 → ℕ → ℝ}
variable (𝒱 : Variants) (c : Dev nD) (bd : Option 𝒱.V) (E : Set ℕ)
variable {arg0 : Memref sig .tc .vmem S16x256x128 .f32} (harg0 : arg0.IsWhole)
variable {arg1 : Memref sig .tc .vmem S16x256 .f32} (harg1 : arg1.IsWhole)
variable {arg2 : Memref sig .tc .vmem S16x256 .f32} (harg2 : arg2.IsWhole)
variable {arg3 : Memref sig .tc .vmem S16x256 .f32} (harg3 : arg3.IsWhole)
variable {arg4 : Memref sig .tc .vmem S16x256 .i32} (harg4 : arg4.IsWhole)
variable {arg5 : Memref sig .tc .vmem S1x16 .f32} (harg5 : arg5.IsWhole)
variable {arg6 : Memref sig .tc .vmem S1x128 .f32} (harg6 : arg6.IsWhole)
variable {arg7 : Memref sig .tc .smem S4 .f32} (harg7 : arg7.IsWhole)
variable {arg8 : Memref sig .tc .smem S4 .f32} (harg8 : arg8.IsWhole)
variable {arg9 : Memref sig .tc .vmem S1x16 .f32} (harg9 : arg9.IsWhole)
variable {arg10 : Memref sig .tc .vmem S16x256x256 .f32} (harg10 : arg10.IsWhole)
variable {arg11 : Memref sig .tc .vmem S16x256x256 .f32} (harg11 : arg11.IsWhole)
variable {arg12 : Memref sig .tc .vmem S16x2x256 .f32} (harg12 : arg12.IsWhole)
variable {arg13 : Memref sig .tc .vmem S16x32x256 .f32} (harg13 : arg13.IsWhole)
variable {arg14 : Memref sig .tc .vmem S16x2x256 .f32} (harg14 : arg14.IsWhole)

/-- One number of a whole buffer of four. -/
theorem four_at {sp : Space} {a : Memref sig .tc sp S4 .f32} (h : a.IsWhole) (x : Vec Ideal S4 .f32) (k : ℕ) (hk : k < 4)
    (inb : ∀ i, (![k] : Fin 1 → ℕ) i + S1.size i ≤ S4.size i) (h1) :
    View.readAt (Elt Ideal) a.view (Rect.unit (s := S4) ![k] S1.size inb).toLoadRect (h.unread x) (Shape.Idx.first h1) = x (ix1 ⟨k, hk⟩) := by
  show a.view.read (Elt Ideal) (h.unread x) _ = _
  rw [h.read_unread]
  congr 1
  funext i
  fin_cases i
  apply Fin.ext
  simp [Rect.unit, Shape.Idx.first, ix1]

variable (x0 : Vec Ideal S16x256x128 .f32) (x1 x2 x3 : Vec Ideal S16x256 .f32) (x4 : Vec Ideal S16x256 .i32) (x6 : Vec Ideal S1x128 .f32)
variable (x7 x8 : Vec Ideal S4 .f32)

/-- Part 17 selects widths and hardnesses by type. -/
theorem part17 :
    (iprop((arg4.view.loc (c : Thread nD τ) ↦[arg4.view.set]{fullShare} harg4.unread x4) ∗ (arg7.view.loc (c : Thread nD τ) ↦[arg7.view.set]{fullShare} harg7.unread x7) ∗ (arg8.view.loc (c : Thread nD τ) ↦[arg8.view.set]{fullShare} harg8.unread x8)) : sProp 𝕄)
    ⊢ wp frame (wpE (defs₀ (F := Ideal)) 𝒱 (c : Thread nD τ) bd) E (k0_part17 (F := Ideal) _ harg0 _ harg1 _ harg2 _ harg3 _ harg4 _ harg5 _ harg6 _ harg7 _ harg8 _ harg9 _ harg10 _ harg11 _ harg12 _ harg13 _ harg14)
      (fun r => iprop((arg4.view.loc (c : Thread nD τ) ↦[arg4.view.set]{fullShare} harg4.unread x4) ∗ (arg7.view.loc (c : Thread nD τ) ↦[arg7.view.set]{fullShare} harg7.unread x7) ∗ (arg8.view.loc (c : Thread nD τ) ↦[arg8.view.set]{fullShare} harg8.unread x8)
        ∗ ⌜r.1 = hards3 x4 x8⌝ ∗ ⌜r.2.1 = widths x4 x7⌝ ∗ ⌜r.2.2 = k0_pay68 x4⌝)) := by
  rw [k0_part17_eq_skeleton]
  unfold k0_part17_skel
  iintro ⟨H4, H7, H8⟩
  sl_exec
  sl_step
  isplitl [H4]
  · iexact H4
  isplitl [H7]
  · iexact H7
  isplitl [H8]
  · iexact H8
  isplitr
  · ipureintro
    sl_unfold_words
    rw [View.readAt_full, harg4.read_unread, four_at harg8 x8 0 (by omega), four_at harg8 x8 1 (by omega), four_at harg8 x8 2 (by omega)]
    rfl
  isplitr
  · ipureintro
    sl_unfold_words
    rw [View.readAt_full, harg4.read_unread, four_at harg7 x7 0 (by omega), four_at harg7 x7 1 (by omega), four_at harg7 x7 2 (by omega),
      four_at harg7 x7 3 (by omega)]
    rfl
  · ipureintro
    sl_unfold_words
    rw [View.readAt_full, harg4.read_unread]

/-- Part 18: the last choice of the hardness, the node energies and the distances. -/
theorem part18 (v33 : FVec Ideal S16x256 .f32) (v40 : IVec S16x256 1) (hchi : ChiIs Z (k0_pay70 x6 x0)) :
    (iprop((arg8.view.loc (c : Thread nD τ) ↦[arg8.view.set]{fullShare} harg8.unread x8) ∗ (arg6.view.loc (c : Thread nD τ) ↦[arg6.view.set]{fullShare} harg6.unread x6) ∗ (arg0.view.loc (c : Thread nD τ) ↦[arg0.view.set]{fullShare} harg0.unread x0) ∗ (arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ ⌜v33 = hards3 x4 x8⌝ ∗ ⌜v40 = k0_pay68 x4⌝) : sProp 𝕄)
    ⊢ wp frame (wpE (defs₀ (F := Ideal)) 𝒱 (c : Thread nD τ) bd) E (k0_part18 (F := Ideal) _ harg0 _ harg1 _ harg2 _ harg3 _ harg4 _ harg5 _ harg6 _ harg7 _ harg8 _ harg9 _ harg10 _ harg11 _ harg12 _ harg13 _ harg14 v33 v40)
      (fun r => iprop((arg8.view.loc (c : Thread nD τ) ↦[arg8.view.set]{fullShare} harg8.unread x8) ∗ (arg6.view.loc (c : Thread nD τ) ↦[arg6.view.set]{fullShare} harg6.unread x6) ∗ (arg0.view.loc (c : Thread nD τ) ↦[arg0.view.set]{fullShare} harg0.unread x0) ∗ (arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3)
        ∗ ⌜r.1 = hards x4 x8⌝ ∗ ⌜ChiIs Z r.2.1⌝ ∗ ⌜r.2.2 = k0_pay71 x1 x2 x3⌝)) := by
  rw [k0_part18_eq_skeleton]
  unfold k0_part18_skel
  iintro ⟨H8, H6, H0, H1, H2, H3, %h33, %h40⟩
  subst h33 h40
  sl_exec
  sl_step
  isplitl [H8]
  · iexact H8
  isplitl [H6]
  · iexact H6
  isplitl [H0]
  · iexact H0
  isplitl [H1]
  · iexact H1
  isplitl [H2]
  · iexact H2
  isplitl [H3]
  · iexact H3
  isplitr
  · ipureintro
    sl_unfold_words
    rw [four_at harg8 x8 3 (by omega)]
    rfl
  isplitr
  · ipureintro
    sl_unfold_words
    dsimp only
    rw [View.readAt_full, View.readAt_full, harg6.read_unread, harg0.read_unread]
    exact hchi
  · ipureintro
    sl_unfold_words
    dsimp only
    rw [View.readAt_full, View.readAt_full, View.readAt_full, harg1.read_unread, harg2.read_unread, harg3.read_unread]

/-- Part 19 puts the matrices into both buffers. -/
theorem part19 (v38 v43 : FVec Ideal S16x256 .f32) (v84 : FVec Ideal S16x256x256 .f32)
    (hC : Coeffs C (k0_pay72 (widths x4 x7) (hards x4 x8) (k0_pay71 x1 x2 x3))) :
    (iprop(∃ f10 f11, (arg10.view.loc (c : Thread nD τ) ↦[arg10.view.set]{fullShare} f10) ∗ (arg11.view.loc (c : Thread nD τ) ↦[arg11.view.set]{fullShare} f11) ∗ ⌜v38 = widths x4 x7⌝ ∗ ⌜v43 = hards x4 x8⌝ ∗ ⌜v84 = k0_pay71 x1 x2 x3⌝) : sProp 𝕄)
    ⊢ wp frame (wpE (defs₀ (F := Ideal)) 𝒱 (c : Thread nD τ) bd) E (k0_part19 (F := Ideal) _ harg0 _ harg1 _ harg2 _ harg3 _ harg4 _ harg5 _ harg6 _ harg7 _ harg8 _ harg9 _ harg10 _ harg11 _ harg12 _ harg13 _ harg14 v38 v43 v84)
      (fun _ => iprop(∃ g10 g11, (arg10.view.loc (c : Thread nD τ) ↦[arg10.view.set]{fullShare} g10) ∗ (arg11.view.loc (c : Thread nD τ) ↦[arg11.view.set]{fullShare} g11)
        ∗ ⌜Upper C 0 0 (arg10.view.read (Elt Ideal) g10)⌝ ∗ ⌜Coeffs C (arg11.view.read (Elt Ideal) g11)⌝)) := by
  rw [k0_part19_eq_skeleton]
  unfold k0_part19_skel
  iintro ⟨%f10, %f11, H10, H11, %h38, %h43, %h84⟩
  subst h38 h43 h84
  sl_exec
  sl_step
  iexists _, _
  isplitl [H10]
  · iexact H10
  isplitl [H11]
  · iexact H11
  isplitr
  · ipureintro
    sl_unfold_words
    rw [← View.readAt_full arg10.view _ inb_S16x256x256_S16x256x256_0_0_0, View.readAt_writes_full]
    intro b i j _
    rw [show lvl 0 0 i.val = 0 by simp [lvl]]
    have : k0_pay74 (widths x4 x7) (hards x4 x8) (k0_pay71 x1 x2 x3) (ix3 b i j)
        = k0_pay72 (widths x4 x7) (hards x4 x8) (k0_pay71 x1 x2 x3) (ix3 b i j) := by pointwise [k0_pay74]
    rw [this]
    exact hC b i j
  · ipureintro
    sl_unfold_words
    rw [← View.readAt_full arg11.view _ inb_S16x256x256_S16x256x256_0_0_0, View.readAt_writes_full]
    intro b i j
    have : k0_pay73 (widths x4 x7) (hards x4 x8) (k0_pay71 x1 x2 x3) (ix3 b i j)
        = k0_pay72 (widths x4 x7) (hards x4 x8) (k0_pay71 x1 x2 x3) (ix3 b i j) := by pointwise [k0_pay73]
    rw [this]
    exact hC b i j

end Qeq

end
-- ==== Proof.Qeq.Body.lean ====
/- The kernel's body: from whole staging buffers at good contents it leaves the energies of all molecules in the output buffer.
   The body is cut at its eliminating parts, of each of which `Parts.lean` says what it leaves. -/
module

public import proofs.«01_k».proof.Proof.Qeq.Parts
public import proofs.«01_k».proof.Proof.Qeq.Coef
public import proofs.«01_k».proof.Proof.Gen.KernelIdeal.Frame.Runs

@[expose] public section

set_option maxRecDepth 16384

noncomputable section

namespace Qeq

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

attribute [local irreducible] k0_part17 k0_part18 k0_part19 k0_part20 k0_part21 k0_part22 k0_part23 k0_part24 k0_part25 k0_part26 k0_part27 k0_part28 k0_part29

local notation "𝕄" => MT nD τ sig Unit (Elt Ideal) ℕ (UR sig nD τ) ℕ

/-- The output: the energy of every molecule. -/
def energies (C : Fin 16 → ℕ → ℕ → ℝ) (Z : Fin 16 → Fin 2 → ℕ → ℝ) (tc : Fin 16 → ℝ) : Vec Ideal S1x16 .f32 :=
  fun i => ((molecule (C (i 1)) (Z (i 1)) (tc (i 1)) : ℝ) : EReal)

/-- The arguments, as real data of a regular problem. -/
structure Good (C : Fin 16 → ℕ → ℕ → ℝ) (Z : Fin 16 → Fin 2 → ℕ → ℝ) (tc : Fin 16 → ℝ) (x0 : Vec Ideal S16x256x128 .f32)
    (x1 x2 x3 : Vec Ideal S16x256 .f32) (x4 : Vec Ideal S16x256 .i32) (x5 : Vec Ideal S1x16 .f32) (x6 : Vec Ideal S1x128 .f32)
    (x7 x8 : Vec Ideal S4 .f32) : Prop where
  pivots : ∀ b, ∀ k < 256, schur (C b) k k k ≠ 0
  total : ∀ b, ∑ l ∈ Finset.range 256, solve (C b) (Z b 1) l ≠ 0
  coeffs : Coeffs C (k0_pay72 (widths x4 x7) (hards x4 x8) (k0_pay71 x1 x2 x3))
  chi : ChiIs Z (k0_pay70 x6 x0)
  totals : Totals tc x5

set_option maxHeartbeats 4000000 in
/-- From whole staging buffers at good contents the body leaves the energies in the output buffer and the inputs as they were. -/
theorem body_run (c : Dev nD) (arg0 : Memref sig .tc .vmem S16x256x128 .f32) (harg0 : arg0.IsWhole) (arg1 : Memref sig .tc .vmem S16x256 .f32) (harg1 : arg1.IsWhole) (arg2 : Memref sig .tc .vmem S16x256 .f32) (harg2 : arg2.IsWhole) (arg3 : Memref sig .tc .vmem S16x256 .f32) (harg3 : arg3.IsWhole) (arg4 : Memref sig .tc .vmem S16x256 .i32) (harg4 : arg4.IsWhole) (arg5 : Memref sig .tc .vmem S1x16 .f32) (harg5 : arg5.IsWhole) (arg6 : Memref sig .tc .vmem S1x128 .f32) (harg6 : arg6.IsWhole) (arg7 : Memref sig .tc .smem S4 .f32) (harg7 : arg7.IsWhole) (arg8 : Memref sig .tc .smem S4 .f32) (harg8 : arg8.IsWhole) (arg9 : Memref sig .tc .vmem S1x16 .f32) (harg9 : arg9.IsWhole) (arg10 : Memref sig .tc .vmem S16x256x256 .f32) (harg10 : arg10.IsWhole) (arg11 : Memref sig .tc .vmem S16x256x256 .f32) (harg11 : arg11.IsWhole) (arg12 : Memref sig .tc .vmem S16x2x256 .f32) (harg12 : arg12.IsWhole) (arg13 : Memref sig .tc .vmem S16x32x256 .f32) (harg13 : arg13.IsWhole) (arg14 : Memref sig .tc .vmem S16x2x256 .f32) (harg14 : arg14.IsWhole)
    (x0 : Vec Ideal S16x256x128 .f32) (x1 : Vec Ideal S16x256 .f32) (x2 : Vec Ideal S16x256 .f32) (x3 : Vec Ideal S16x256 .f32) (x4 : Vec Ideal S16x256 .i32) (x5 : Vec Ideal S1x16 .f32) (x6 : Vec Ideal S1x128 .f32) (x7 : Vec Ideal S4 .f32) (x8 : Vec Ideal S4 .f32)
    {C : Fin 16 → ℕ → ℕ → ℝ} {Z : Fin 16 → Fin 2 → ℕ → ℝ} {tc : Fin 16 → ℝ} (good : Good C Z tc x0 x1 x2 x3 x4 x5 x6 x7 x8) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (energies C Z tc) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := Ideal)) Variants.none c none) E (cc0__qeq_kernel arg0 harg0 arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__qeq_kernel_eq_skeleton]; unfold cc0__qeq_kernel_skel
    have cut17 := part17 Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) x4 x7 x8
    have cut18 := fun v33 v40 => part18 (Z := Z) Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) x0 x1 x2 x3 x4 x6 x8 v33 v40 good.chi
    have cut19 := fun v38 v43 v84 => part19 (C := C) Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) x1 x2 x3 x4 x7 x8 v38 v43 v84 good.coeffs
    have cut20 := fun v51 => part20 (C := C) (Z := Z) good.pivots Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v51
    have cut21 := fun v131 v158 c16 => part21 (C := C) (Z := Z) good.pivots Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v158 c16
    have cut22 := fun v131 v180 v181 => part22 (C := C) (Z := Z) good.pivots Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v180 v181
    have cut23 := fun v131 v206 => part23 (C := C) (Z := Z) good.pivots Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v206
    have cut24 := fun v131 v231 => part24 (C := C) (Z := Z) good.pivots Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v231
    have cut25 := fun v131 v256 c128 => part25 (C := C) (Z := Z) good.pivots Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v256 c128
    have cut26 := fun v131 v281 => part26 (C := C) (Z := Z) good.pivots Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v281
    have cut27 := fun v131 v304 => part27 (C := C) (Z := Z) good.pivots Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v304
    have cut28 := fun v131 v330 => part28 (C := C) (Z := Z) good.pivots Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v131 v330
    have cut29 := fun v51 v131 => part29 (C := C) (Z := Z) (tc := tc) good.pivots good.total Variants.none c none E (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) v51 v131 (harg5.unread x5)
    have htc : Totals tc (arg5.view.read (Elt Ideal) (harg5.unread x5)) := by rw [harg5.read_unread]; exact good.totals
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec
    sl_step
    iapply Hk
    isplitl [Hk0_part18_2]
    · iexists _; isplitr; · ipureintro; exact harg0.read_unread _
      iexact Hk0_part18_2
    isplitl [Hk0_part18_3]
    · iexists _; isplitr; · ipureintro; exact harg1.read_unread _
      iexact Hk0_part18_3
    isplitl [Hk0_part18_4]
    · iexists _; isplitr; · ipureintro; exact harg2.read_unread _
      iexact Hk0_part18_4
    isplitl [Hk0_part18_5]
    · iexists _; isplitr; · ipureintro; exact harg3.read_unread _
      iexact Hk0_part18_5
    isplitl [Hk0_part17_0]
    · iexists _; isplitr; · ipureintro; exact harg4.read_unread _
      iexact Hk0_part17_0
    isplitl [Hk0_part29_0]
    · iexists _; isplitr; · ipureintro; exact harg5.read_unread _
      iexact Hk0_part29_0
    isplitl [Hk0_part18_1]
    · iexists _; isplitr; · ipureintro; exact harg6.read_unread _
      iexact Hk0_part18_1
    isplitl [Hk0_part17_1]
    · iexists _; isplitr; · ipureintro; exact harg7.read_unread _
      iexact Hk0_part17_1
    isplitl [Hk0_part18_0]
    · iexists _; isplitr; · ipureintro; exact harg8.read_unread _
      iexact Hk0_part18_0
    isplitl [Hk0_part29_1]
    · iexists _; isplitr; swap; · iexact Hk0_part29_1
      ipureintro
      funext i
      refine Eq.trans (congrArg _ ?_) (hk0_part29_6 (i 1))
      funext a
      fin_cases a
      · exact Subsingleton.elim (α := Fin 1) _ _
      · rfl
    isplitl [Hk0_part29_2]
    · iexists _, _; isplitr; swap; · iexact Hk0_part29_2
      ipureintro; rfl
    isplitl [Hk0_part29_3]
    · iexists _, _; isplitr; swap; · iexact Hk0_part29_3
      ipureintro; rfl
    isplitl [Hk0_part29_4]
    · iexists _, _; isplitr; swap; · iexact Hk0_part29_4
      ipureintro; rfl
    isplitl [Hk0_part28_2]
    · iexists _, _; isplitr; swap; · iexact Hk0_part28_2
      ipureintro; rfl
    iexists _, _; isplitr; swap; · iexact Hk0_part29_5
    ipureintro; rfl

end Qeq

end
-- ==== Proof.Qeq.Launch.lean ====
/- The value of the kernel: the launch around the body leaves the energies in the output array, and the host lines after it
   lay them out one to a row. -/
module

public import proofs.«01_k».proof.Proof.Qeq.Body
public import Idealize.ShloMosaic.Lib.Claim
public import Idealize.ShloMosaic.Lib.Pipeline.ValueKit.Geometry

@[expose] public section

set_option maxRecDepth 16384

noncomputable section

namespace Qeq.Run

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
variable (C : Dev nD → Fin 16 → ℕ → ℕ → ℝ) (Z : Dev nD → Fin 16 → Fin 2 → ℕ → ℝ) (tc : Dev nD → Fin 16 → ℝ)

/-- The blocks that the body reads are good arguments for the data. -/
def GoodAt : Prop := ∀ (c : Dev nD) (t : Fin cfg0.N), Good (C c) (Z c) (tc c) (iblk m c 0 t) (iblk m c 1 t) (iblk m c 2 t) (iblk m c 3 t)
  (iblk m c 4 t) (iblk m c 5 t) (iblk m c 6 t) (iblk m c 7 t) (iblk m c 8 t)

/-- No output window is forgotten. -/
def noForget : Fin 10 → Bool := fun _ => false

/-- What the launch's arrays and buffers hold: the arrays start at `V`; after the body each input's buffer still holds its
    block and the output's the energies; nothing is owed and nothing is shared. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => energies (C c) (Z c) (tc c)
  Φ _ := Pipeline.ΦA spec0 c
  q _ := fullShare
  owed _ := 0

/-- The arrays at the start of the launch. -/
theorem A_eq (c : Dev nD) (w : Fin cfg0.W) : (dats m C Z tc 0 c).A w = V m c (Pipeline.arrRef spec0 w) := by
  dsimp only [dats]

/-- What each buffer holds after the body. -/
theorem after0_0 (c : Dev nD) (t : Fin cfg0.N) : (dats m C Z tc 0 c).after 0 t = iblk m c 0 t := by dsimp only [dats]
theorem after0_1 (c : Dev nD) (t : Fin cfg0.N) : (dats m C Z tc 0 c).after 1 t = iblk m c 1 t := by dsimp only [dats]
theorem after0_2 (c : Dev nD) (t : Fin cfg0.N) : (dats m C Z tc 0 c).after 2 t = iblk m c 2 t := by dsimp only [dats]
theorem after0_3 (c : Dev nD) (t : Fin cfg0.N) : (dats m C Z tc 0 c).after 3 t = iblk m c 3 t := by dsimp only [dats]
theorem after0_4 (c : Dev nD) (t : Fin cfg0.N) : (dats m C Z tc 0 c).after 4 t = iblk m c 4 t := by dsimp only [dats]
theorem after0_5 (c : Dev nD) (t : Fin cfg0.N) : (dats m C Z tc 0 c).after 5 t = iblk m c 5 t := by dsimp only [dats]
theorem after0_6 (c : Dev nD) (t : Fin cfg0.N) : (dats m C Z tc 0 c).after 6 t = iblk m c 6 t := by dsimp only [dats]
theorem after0_7 (c : Dev nD) (t : Fin cfg0.N) : (dats m C Z tc 0 c).after 7 t = iblk m c 7 t := by dsimp only [dats]
theorem after0_9 (c : Dev nD) (t : Fin cfg0.N) : (dats m C Z tc 0 c).after 9 t = energies (C c) (Z c) (tc c) := by dsimp only [dats]
theorem after0_8 (c : Dev nD) (t : Fin cfg0.N) : (dats m C Z tc 0 c).after 8 t = iblk m c 8 t := by dsimp only [dats]

/-- What each input's buffer holds before the body: its block. -/
theorem before0_0 (c : Dev nD) (t : Fin cfg0.N) (d) : (dats m C Z tc 0 c).before 0 t d = iblk m c 0 t :=
  before0_0_of m (dats m C Z tc 0 c) (A_eq m C Z tc c 0) (after0_0 m C Z tc c) t d
theorem before0_1 (c : Dev nD) (t : Fin cfg0.N) (d) : (dats m C Z tc 0 c).before 1 t d = iblk m c 1 t :=
  before0_1_of m (dats m C Z tc 0 c) (A_eq m C Z tc c 1) (after0_1 m C Z tc c) t d
theorem before0_2 (c : Dev nD) (t : Fin cfg0.N) (d) : (dats m C Z tc 0 c).before 2 t d = iblk m c 2 t :=
  before0_2_of m (dats m C Z tc 0 c) (A_eq m C Z tc c 2) (after0_2 m C Z tc c) t d
theorem before0_3 (c : Dev nD) (t : Fin cfg0.N) (d) : (dats m C Z tc 0 c).before 3 t d = iblk m c 3 t :=
  before0_3_of m (dats m C Z tc 0 c) (A_eq m C Z tc c 3) (after0_3 m C Z tc c) t d
theorem before0_4 (c : Dev nD) (t : Fin cfg0.N) (d) : (dats m C Z tc 0 c).before 4 t d = iblk m c 4 t :=
  before0_4_of m (dats m C Z tc 0 c) (A_eq m C Z tc c 4) (after0_4 m C Z tc c) t d
theorem before0_5 (c : Dev nD) (t : Fin cfg0.N) (d) : (dats m C Z tc 0 c).before 5 t d = iblk m c 5 t :=
  before0_5_of m (dats m C Z tc 0 c) (A_eq m C Z tc c 5) (after0_5 m C Z tc c) t d
theorem before0_6 (c : Dev nD) (t : Fin cfg0.N) (d) : (dats m C Z tc 0 c).before 6 t d = iblk m c 6 t :=
  before0_6_of m (dats m C Z tc 0 c) (A_eq m C Z tc c 6) (after0_6 m C Z tc c) t d
theorem before0_7 (c : Dev nD) (t : Fin cfg0.N) (d) : (dats m C Z tc 0 c).before 7 t d = iblk m c 7 t :=
  before0_7_of m (dats m C Z tc 0 c) (A_eq m C Z tc c 7) (after0_7 m C Z tc c) t d
theorem before0_8 (c : Dev nD) (t : Fin cfg0.N) (d) : (dats m C Z tc 0 c).before 8 t d = iblk m c 8 t :=
  before0_8_of m (dats m C Z tc 0 c) (A_eq m C Z tc c 8) (after0_8 m C Z tc c) t d

/-! ## The body obligation, at a generic point -/

/-- What the body starts from at point `t`, window by window. -/
def bodyPre (c : Dev nD) (t : Fin cfg0.N) : sProp 𝕄 :=
  iprop((dats m C Z tc 0 c).Φ t.castSucc ∗ (dats m C Z tc 0 c).owesAt () t.castSucc
    ∗ (∃ d, owns (c : Thread nD τ) (ms0_0 t) fullShare ((dats m C Z tc 0 c).before 0 t d))
    ∗ (∃ d, owns (c : Thread nD τ) (ms0_1 t) fullShare ((dats m C Z tc 0 c).before 1 t d))
    ∗ (∃ d, owns (c : Thread nD τ) (ms0_2 t) fullShare ((dats m C Z tc 0 c).before 2 t d))
    ∗ (∃ d, owns (c : Thread nD τ) (ms0_3 t) fullShare ((dats m C Z tc 0 c).before 3 t d))
    ∗ (∃ d, owns (c : Thread nD τ) (ms0_4 t) fullShare ((dats m C Z tc 0 c).before 4 t d))
    ∗ (∃ d, owns (c : Thread nD τ) (ms0_5 t) fullShare ((dats m C Z tc 0 c).before 5 t d))
    ∗ (∃ d, owns (c : Thread nD τ) (ms0_6 t) fullShare ((dats m C Z tc 0 c).before 6 t d))
    ∗ (∃ d, owns (c : Thread nD τ) (ms0_7 t) fullShare ((dats m C Z tc 0 c).before 7 t d))
    ∗ (∃ d, owns (c : Thread nD τ) (ms0_8 t) fullShare ((dats m C Z tc 0 c).before 8 t d))
    ∗ (∃ d, owns (c : Thread nD τ) (ms0_9 t) fullShare ((dats m C Z tc 0 c).before 9 t d)))

/-- What the body ends with at point `t`, window by window. -/
def bodyPost (c : Dev nD) (t : Fin cfg0.N) : sProp 𝕄 :=
  iprop((dats m C Z tc 0 c).Φ t.succ ∗ (dats m C Z tc 0 c).owesAt () t.succ
    ∗ owns (c : Thread nD τ) (ms0_0 t) fullShare ((dats m C Z tc 0 c).after 0 t)
    ∗ owns (c : Thread nD τ) (ms0_1 t) fullShare ((dats m C Z tc 0 c).after 1 t)
    ∗ owns (c : Thread nD τ) (ms0_2 t) fullShare ((dats m C Z tc 0 c).after 2 t)
    ∗ owns (c : Thread nD τ) (ms0_3 t) fullShare ((dats m C Z tc 0 c).after 3 t)
    ∗ owns (c : Thread nD τ) (ms0_4 t) fullShare ((dats m C Z tc 0 c).after 4 t)
    ∗ owns (c : Thread nD τ) (ms0_5 t) fullShare ((dats m C Z tc 0 c).after 5 t)
    ∗ owns (c : Thread nD τ) (ms0_6 t) fullShare ((dats m C Z tc 0 c).after 6 t)
    ∗ owns (c : Thread nD τ) (ms0_7 t) fullShare ((dats m C Z tc 0 c).after 7 t)
    ∗ owns (c : Thread nD τ) (ms0_8 t) fullShare ((dats m C Z tc 0 c).after 8 t)
    ∗ owns (c : Thread nD τ) (ms0_9 t) fullShare ((dats m C Z tc 0 c).after 9 t))

set_option maxHeartbeats 1200000 in
/-- The body at any point, from the buffers of the launch: the inputs hold their blocks, the work buffers anything. -/
theorem sound_body (good : GoodAt m C Z tc) (c : Dev nD) (t : Fin cfg0.N) :
    bodyPre m C Z tc c t ⊢ wp frame (wpE (defs₀ (F := Ideal)) Variants.none c none) Set.univ (bodyAt0 t) (fun _ => bodyPost m C Z tc c t) := by
  unfold bodyPre bodyPost bodyAt0
  simp only [before0_0, before0_1, before0_2, before0_3, before0_4, before0_5, before0_6, before0_7, before0_8]
  rw [show (dats m C Z tc 0 c).Φ t.succ = (dats m C Z tc 0 c).Φ t.castSucc from rfl,
    show (dats m C Z tc 0 c).owesAt () t.succ = (dats m C Z tc 0 c).owesAt () t.castSucc from rfl,
    after0_0, after0_1, after0_2, after0_3, after0_4, after0_5, after0_6, after0_7, after0_8, after0_9]
  rw [show (dats m C Z tc 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((body_run c _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (good c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The program's table calls the body on the buffers of point `t`. -/
theorem defs₀_row (t : Fin cfg0.N) :
    defs₀ (F := Ideal) .tc cfg0.body (cfg0.bodyArgs t (cfg0.slots t)) = bodyAt0 t := by
  unfold defs₀; rw [Defs.onTc_tc]

/-- The body does at every point what the launch asks of it. -/
theorem body_obligation (good : GoodAt m C Z tc) (c : Dev nD) : BodyObligation (dats m C Z tc 0 c) (defs₀ (F := Ideal)) Variants.none () Set.univ noForget := fun t => by
  rw [bigSep_W0, bigSep_W0, defs₀_row]
  exact triple_restated (sound_body m C Z tc good c t) rfl .rfl fun _ => .rfl

/-! ## The run and the frame -/

set_option backward.isDefEq.respectTransparency.types false in
set_option maxHeartbeats 800000 in
/-- The launch: it ends with the pipeline's arrays as the proof data say, and every other buffer as the host lines around it leave it. -/
theorem run_main (good : GoodAt m C Z tc) : θ_run defs (onTc (τ := τ) (main (F := Ideal))) (s₀ m ρ)
    (Pipeline.FramePost cfgs (dats m C Z tc) 0 (Pipeline.afterTail₀ cfgs (dats m C Z tc) 0 (V0 m) [hostOps1])) :=
  Pipeline.θ_run_frame_around cfgs (dats m C Z tc) (0 : Fin 1) launch0 defs₀ Variants.none m ρ main
    (hbody := fun c => (body_obligation m C Z tc good c).loose) (hshare := fun c => (dats m C Z tc 0 c).share_full fun _ => rfl)
    (howed := fun _ _ => rfl) (V₀ := V0 m) (opss := [hostOps1]) (hsub := sfx_sub) (hfresh := sfx_fresh) (hkeep := sfx_keeps)
    (hmain := hmain m Variants.none) (hA := A_eq m C Z tc) (hΦ := fun _ _ => rfl)

/-- The one block of the output is the whole output. -/
theorem out_arr (c : Dev nD) (i : S1x16.Idx) : (dats m C Z tc 0 c).arrAt 9 cfg0.N i = energies (C c) (Z c) (tc c) i := by
  refine ((dats m C Z tc 0 c).arrAt_emb_eq_after_last 9 ⟨0, by decide +kernel⟩ (by decide +kernel) i).trans ?_
  rfl

/-- The result buffer after the run. -/
theorem value_at (good : GoodAt m C Z tc) : θ_run defs (onTc (τ := τ) (main (F := Ideal))) ⟨m, fun _ => 0, ρ⟩ (fun r => ∀ c : Dev nD,
      r.2.mem ((c.tc : Thread nD τ).loc main_v14) = (fun i => ((molecule (C c (i 0)) (Z c (i 0)) (tc c (i 0)) : ℝ) : EReal))) :=
  (θ_run defs _ _).mono (fun r h c => by
    refine ((h c).2 main_v14 (Pipeline.mem_restRefs_of main_v14 (by decide) (by decide))).trans ?_
    unfold Pipeline.afterTail₀
    simp only [hostOps1, List.flatten_cons, List.flatten_nil, List.append_nil]
    rw [StableHlo.after_cons, StableHlo.after_nil, StableHlo.reshape_result]
    funext i
    show shapeCast S16x1 _ _ i = _
    erw [Pipeline.withArrays_arr (cfgs 0).spec (by decide +kernel) c (V0 m c) _ 9]
    rw [show (dats m C Z tc 0 c).arrAt 9 (cfgs 0).N = energies (C c) (Z c) (tc c) from funext (out_arr m C Z tc c)]
    pointwise
    rfl) (run_main m ρ C Z tc good)

/-- What the kernel computes: the energies, one to a row. -/
theorem value (good : GoodAt m C Z tc) : θ_run defs (onTc (τ := τ) (main (F := Ideal))) ⟨m, fun _ => 0, ρ⟩ (fun r => ∀ c : Dev nD,
      r.2.mem ((c.tc : Thread nD τ).loc main_v14) = (fun i => ((molecule (C c (i 0)) (Z c (i 0)) (tc c (i 0)) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h.1 c, h.2 c⟩) (θ_run_and (value_at m ρ C Z tc good)
    (frame_of m ρ (dats m C Z tc) (A_eq m C Z tc) (run_main m ρ C Z tc good)))

end Qeq.Run

end
-- ==== Proof.Qeq.Inputs.lean ====
/- The arrays that the kernel's body reads, entry by entry: they are the arguments, laid out by molecule and atom. -/
module

public import proofs.«01_k».proof.Proof.Qeq.Launch
public import proofs.«01_k».proof.Proof.Qeq.RefValue
public import Idealize.ShloMosaic.Lib.StableHlo.RunRead

@[expose] public section

set_option maxRecDepth 16384

noncomputable section

namespace Qeq.Run

open Idealize.ShloMosaic Idealize.ShloMosaic.TcCoe Idealize.ShloMosaic.Tactic Cert.KernelIdeal Cert.KernelIdeal.Gen
open Idealize.SL.Sem
open Qeq.Ref (Args atom)

variable (m : (ℓ : Loc nD τ sig) → Buf (Elt Ideal) ℓ) (c : Dev nD)

/-- The arguments of the computation, as the memory holds them. -/
abbrev args : Args where
  a0 := m ((c.tc : Thread nD τ).loc main_arg0)
  a1 := m ((c.tc : Thread nD τ).loc main_arg1)
  a2 := m ((c.tc : Thread nD τ).loc main_arg2)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)

variable (t : Fin cfg0.N)

/-- An index of a block that is the whole array stays where it is. -/
theorem whole_emb (b : Ref sig .tc) (inb) (i : (Rect.unit (s := b.ty.shape) (fun a => 0 * b.ty.shape.size a) b.ty.shape.size inb).shape.Idx) :
    ((View.whole b).slice (Rect.unit (s := b.ty.shape) (fun a => 0 * b.ty.shape.size a) b.ty.shape.size inb)).emb i = i := by
  funext a
  refine Fin.ext ((ValueKit.view_emb_slice_whole_unit_val b _ _ _ i a).trans ?_)
  omega

/-- Each window is the whole of its array. -/
theorem block0 : iblk m c 0 t = V m c main_v0 := funext fun i => congrArg (V m c main_v0) (whole_emb main_v0 _ i)
theorem block1 : iblk m c 1 t = V m c main_v3 := funext fun i => congrArg (V m c main_v3) (whole_emb main_v3 _ i)
theorem block2 : iblk m c 2 t = V m c main_v6 := funext fun i => congrArg (V m c main_v6) (whole_emb main_v6 _ i)
theorem block3 : iblk m c 3 t = V m c main_v9 := funext fun i => congrArg (V m c main_v9) (whole_emb main_v9 _ i)
theorem block4 : iblk m c 4 t = V m c main_v10 := funext fun i => congrArg (V m c main_v10) (whole_emb main_v10 _ i)
theorem block5 : iblk m c 5 t = V m c main_v11 := funext fun i => congrArg (V m c main_v11) (whole_emb main_v11 _ i)
theorem block6 : iblk m c 6 t = V m c main_v12 := funext fun i => congrArg (V m c main_v12) (whole_emb main_v12 _ i)
theorem block7 : iblk m c 7 t = V m c main_arg8 := funext fun i => congrArg (V m c main_arg8) (whole_emb main_arg8 _ i)
theorem block8 : iblk m c 8 t = V m c main_arg7 := funext fun i => congrArg (V m c main_arg7) (whole_emb main_arg7 _ i)

/-- The first array is the node features, cut into molecules. -/
theorem host0 : V m c main_v0 = shapeCast S16x256x128 (m ((c.tc : Thread nD τ).loc main_arg0)) shapeCasts_S4096x128_S16x256x128 := by
  show V0 m c (Proc.devRef .tc main_v0) = _
  unfold V0
  simp only [List.flatten_cons, List.flatten_nil, List.append_nil]
  after_reads_simp
  rfl

/-- The features of the atoms. -/
theorem input0 (b : Fin 16) (i : Fin 256) (k : Fin 128) : iblk m c 0 t (ix3 b i k) = (args m c).a0 (ix2 (atom b i) k) := by
  rw [block0, host0]
  refine shapeCast_apply _ _ _ _ ?_
  refine (Shape.rowMajor_val_two (d := ![4096, 128]) _).trans (Eq.trans ?_ (Shape.rowMajor_val_three (d := ![16, 256, 128]) _).symm)
  rfl

/-- The first coordinates. -/
theorem input1 (b : Fin 16) (i : Fin 256) : iblk m c 1 t (ix2 b i) = (args m c).a1 (ix2 (atom b i) 0) := by
  rw [block1]
  show V0 m c (Proc.devRef .tc main_v3) _ = _
  unfold V0
  simp only [List.flatten_cons, List.flatten_nil, List.append_nil]
  after_reads_simp
  show shapeCast S16x256 (shapeCast S4096 (extractStridedSlice S4096x1 ![0, 0] (m ((c.tc : Thread nD τ).loc main_arg1)) slices_S4096x3_S4096x1_0_0) shapeCasts_S4096x1_S4096) shapeCasts_S4096_S16x256 (ix2 b i) = _
  pointwise

/-- The second coordinates. -/
theorem input2 (b : Fin 16) (i : Fin 256) : iblk m c 2 t (ix2 b i) = (args m c).a1 (ix2 (atom b i) 1) := by
  rw [block2]
  show V0 m c (Proc.devRef .tc main_v6) _ = _
  unfold V0
  simp only [List.flatten_cons, List.flatten_nil, List.append_nil]
  after_reads_simp
  show shapeCast S16x256 (shapeCast S4096 (extractStridedSlice S4096x1 ![0, 1] (m ((c.tc : Thread nD τ).loc main_arg1)) slices_S4096x3_S4096x1_0_1) shapeCasts_S4096x1_S4096) shapeCasts_S4096_S16x256 (ix2 b i) = _
  pointwise

/-- The third coordinates. -/
theorem input3 (b : Fin 16) (i : Fin 256) : iblk m c 3 t (ix2 b i) = (args m c).a1 (ix2 (atom b i) 2) := by
  rw [block3]
  show V0 m c (Proc.devRef .tc main_v9) _ = _
  unfold V0
  simp only [List.flatten_cons, List.flatten_nil, List.append_nil]
  after_reads_simp
  show shapeCast S16x256 (shapeCast S4096 (extractStridedSlice S4096x1 ![0, 2] (m ((c.tc : Thread nD τ).loc main_arg1)) slices_S4096x3_S4096x1_0_2) shapeCasts_S4096x1_S4096) shapeCasts_S4096_S16x256 (ix2 b i) = _
  pointwise

/-- The types. -/
theorem input4 (b : Fin 16) (i : Fin 256) : iblk m c 4 t (ix2 b i) = (args m c).a2 (ix1 (atom b i)) := by
  rw [block4]
  show V0 m c (Proc.devRef .tc main_v10) _ = _
  unfold V0
  simp only [List.flatten_cons, List.flatten_nil, List.append_nil]
  after_reads_simp
  show shapeCast S16x256 (m ((c.tc : Thread nD τ).loc main_arg2)) shapeCasts_S4096_S16x256 (ix2 b i) = _
  pointwise

/-- The total charges. -/
theorem input5 (b : Fin 16) : iblk m c 5 t (ix2 0 b) = (args m c).a5 (ix2 b 0) := by
  rw [block5]
  show V0 m c (Proc.devRef .tc main_v11) _ = _
  unfold V0
  simp only [List.flatten_cons, List.flatten_nil, List.append_nil]
  after_reads_simp
  show shapeCast S1x16 (m ((c.tc : Thread nD τ).loc main_arg5)) shapeCasts_S16x1_S1x16 (ix2 0 b) = _
  pointwise

/-- The weights. -/
theorem input6 (k : Fin 128) : iblk m c 6 t (ix2 0 k) = (args m c).a6 (ix2 k 0) := by
  rw [block6]
  show V0 m c (Proc.devRef .tc main_v12) _ = _
  unfold V0
  simp only [List.flatten_cons, List.flatten_nil, List.append_nil]
  after_reads_simp
  show shapeCast S1x128 (m ((c.tc : Thread nD τ).loc main_arg6)) shapeCasts_S128x1_S1x128 (ix2 0 k) = _
  pointwise

/-- The widths of the types. -/
theorem input7 (n : Fin 4) : iblk m c 7 t (ix1 n) = (args m c).a8 (ix1 n) := by
  rw [block7, V_main_arg8]

/-- The hardnesses of the types. -/
theorem input8 (n : Fin 4) : iblk m c 8 t (ix1 n) = (args m c).a7 (ix1 n) := by
  rw [block8, V_main_arg7]

end Qeq.Run

end
-- ==== Proof.Qeq.Values.lean ====
/- The kernel's matrices and node energies are the reference's. -/
module

public import proofs.«01_k».proof.Proof.Qeq.Inputs

@[expose] public section

set_option maxRecDepth 16384

noncomputable section

namespace Qeq.Run

open Idealize.ShloMosaic Cert.KernelIdeal Cert.KernelIdeal.Gen
open Qeq.Ref (Args atom Regular)

/-- One of four numbers, chosen by a type in turn. -/
theorem choose_at (x : Fin 4 → EReal) (d : EReal) (n : Fin 4) :
    Scalar.select (IntOp.cmpi .eq (BitVec.ofNat 32 n) 3#32) (x 3) (Scalar.select (IntOp.cmpi .eq (BitVec.ofNat 32 n) 2#32) (x 2)
      (Scalar.select (IntOp.cmpi .eq (BitVec.ofNat 32 n) 1#32) (x 1) (Scalar.select (IntOp.cmpi .eq (BitVec.ofNat 32 n) 0#32) (x 0) d))) = x n := by
  fin_cases n <;> rfl

/-- The kernel's width of an atom is that of its type. -/
theorem widths_at (x4 : Vec Ideal S16x256 .i32) (x7 : Vec Ideal S4 .f32) (b : Fin 16) (i : Fin 256) (n : Fin 4)
    (h : x4 (ix2 b i) = BitVec.ofNat 32 n) : widths x4 x7 (ix2 b i) = x7 (ix1 n) := by
  rw [← choose_at (fun n => x7 (ix1 n)) (Ideal.ofBits .f32 0#32) n, ← h]
  pointwise [widths, k0_pay67, k0_pay65]

/-- The kernel's hardness of an atom is that of its type. -/
theorem hards_at (x4 : Vec Ideal S16x256 .i32) (x8 : Vec Ideal S4 .f32) (b : Fin 16) (i : Fin 256) (n : Fin 4)
    (h : x4 (ix2 b i) = BitVec.ofNat 32 n) : hards x4 x8 (ix2 b i) = x8 (ix1 n) := by
  rw [← choose_at (fun n => x8 (ix1 n)) (Ideal.ofBits .f32 0#32) n, ← h]
  pointwise [hards, hards3, k0_pay69, k0_pay68, k0_pay66, k0_pay65]

/-- The kernel's energy of an atom. -/
theorem chi_at (x6 : Vec Ideal S1x128 .f32) (x0 : Vec Ideal S16x256x128 .f32) (b : Fin 16) (i : Fin 256) :
    k0_pay70 x6 x0 (ix2 b i) = ∑ k : Fin 128, x0 (ix3 b i k) * x6 (ix2 0 k) := by
  pointwise [k0_pay70]

/-- The kernel's distance of two atoms. -/
theorem distance_at (x1 x2 x3 : Vec Ideal S16x256 .f32) (b : Fin 16) (i j : Fin 256) :
    k0_pay71 x1 x2 x3 (ix3 b i j) = Ideal.sqrt (
      (x1 (ix2 b i) - x1 (ix2 b j) + Ideal.ofBits .f32 0x358637BD#32) * (x1 (ix2 b i) - x1 (ix2 b j) + Ideal.ofBits .f32 0x358637BD#32)
      + (x2 (ix2 b i) - x2 (ix2 b j) + Ideal.ofBits .f32 0x358637BD#32) * (x2 (ix2 b i) - x2 (ix2 b j) + Ideal.ofBits .f32 0x358637BD#32)
      + (x3 (ix2 b i) - x3 (ix2 b j) + Ideal.ofBits .f32 0x358637BD#32) * (x3 (ix2 b i) - x3 (ix2 b j) + Ideal.ofBits .f32 0x358637BD#32)) := by
  pointwise [k0_pay71]

/-- The entry of a pair of atoms, as the kernel computes it. -/
def pair (w : FVec Ideal S16x256 .f32) (d : FVec Ideal S16x256x256 .f32) (b : Fin 16) (i j : Fin 256) : EReal :=
  Ideal.div (Ideal.ofBits .f32 0x416664F3#32 * Ideal.erf (Ideal.div (d (ix3 b i j)) (Ideal.ofBits .f32 0x3FB504F3#32
    * Ideal.sqrt (w (ix2 b i) * w (ix2 b i) + w (ix2 b j) * w (ix2 b j))))) (d (ix3 b i j))

/-- The kernel's matrix at an entry. -/
theorem matrix_at (w h : FVec Ideal S16x256 .f32) (d : FVec Ideal S16x256x256 .f32) (b : Fin 16) (i j : Fin 256) :
    k0_pay72 w h d (ix3 b i j) = ((if (i : ℕ) < j then pair w d b i j else 0) + (if (j : ℕ) < i then pair w d b j i else 0))
      + if (i : ℕ) = j then h (ix2 b i) * h (ix2 b i) + Ideal.div (Ideal.ofBits .f32 0x416664F3#32) (Ideal.ofBits .f32 0x3FE2DFC5#32 * w (ix2 b i)) else 0 := by
  pointwise [k0_pay72]
  refine congr (congrArg HAdd.hAdd (congr (congrArg HAdd.hAdd ?_) ?_)) ?_
  · exact if_congr (StableHlo.Predicate.slt_ofNat_iff (i : ℕ) (j : ℕ) (by omega) (by omega)) rfl rfl
  · exact if_congr (StableHlo.Predicate.slt_ofNat_iff (j : ℕ) (i : ℕ) (by omega) (by omega)) rfl rfl
  · exact Ref.word_sel (i := (i : ℕ)) (j := (j : ℕ)) (by omega) (by omega) _ _

/-- A quotient by a product, when one factor is a positive number. -/
theorem div_mul (d g : EReal) {k : ℝ} (hk : 0 < k) : Ideal.div d ((k : EReal) * g) = Ideal.div (Ideal.div d (k : EReal)) g := by
  have hk0 : (k : EReal) ≠ 0 := by exact_mod_cast hk.ne'
  have hd : Ideal.div d (k : EReal) = d * (k : EReal)⁻¹ := by unfold Ideal.div; rw [if_neg hk0]
  rw [hd]
  unfold Ideal.div
  by_cases hg : g = 0
  · rw [hg, mul_zero, if_pos rfl, if_pos rfl]
    have hpos : (0 : EReal) < (k : EReal)⁻¹ := by
      rw [← EReal.coe_inv]; exact_mod_cast inv_pos.mpr hk
    have : 0 < d ↔ 0 < d * (k : EReal)⁻¹ := by
      constructor
      · exact fun h => EReal.mul_pos h hpos
      · intro h
        by_contra hc
        have hd0 : d ≤ 0 := not_lt.mp hc
        have := EReal.mul_nonpos_iff.mpr (Or.inr ⟨hd0, hpos.le⟩)
        exact absurd h (not_lt.mpr this)
    exact if_congr this rfl rfl
  · rw [if_neg (mul_ne_zero hk0 hg), if_neg hg, EReal.mul_inv, mul_assoc]

/-- The word of the root of two is a positive real number. -/
theorem root_two : ∃ k : ℝ, 0 < k ∧ Ideal.ofBits .f32 0x3FB504F3#32 = (k : EReal) := by
  refine ⟨11863283 / 8388608, by norm_num, ?_⟩
  simp [Ideal.ofBits, Ideal.ieee, -EReal.coe_mul]
  norm_num

variable (m : (ℓ : Loc nD τ sig) → Buf (Elt Ideal) ℓ) (c : Dev nD) (t : Fin cfg0.N)

/-- The kernel's distances are the reference's. -/
theorem distances (b : Fin 16) (i j : Fin 256) :
    k0_pay71 (iblk m c 1 t) (iblk m c 2 t) (iblk m c 3 t) (ix3 b i j) = Ref.distance (args m c) (ix3 b i j) := by
  rw [distance_at, Ref.distance_at, Fin.sum_univ_three, input1, input1, input2, input2, input3, input3]
  rfl

variable {m c} (h : Regular (args m c))
include h

/-- The kernel's widths are the reference's. -/
theorem widths_eq (b : Fin 16) (i : Fin 256) : widths (iblk m c 4 t) (iblk m c 7 t) (ix2 b i) = Ref.width (args m c) (ix2 b i) := by
  obtain ⟨n, hn⟩ := h.types (atom b i)
  rw [widths_at _ _ b i n ((input4 m c t b i).trans hn), input7, Ref.width_at _ b i n hn]

/-- The squares of the kernel's hardnesses are the reference's. -/
theorem hards_eq (b : Fin 16) (i : Fin 256) :
    hards (iblk m c 4 t) (iblk m c 8 t) (ix2 b i) * hards (iblk m c 4 t) (iblk m c 8 t) (ix2 b i) = Ref.hardness (args m c) (ix2 b i) := by
  obtain ⟨n, hn⟩ := h.types (atom b i)
  rw [hards_at _ _ b i n ((input4 m c t b i).trans hn), input8, Ref.hardness_at _ b i n hn]

/-- The kernel's entry of a pair is the reference's. -/
theorem pair_eq (b : Fin 16) (i j : Fin 256) :
    pair (widths (iblk m c 4 t) (iblk m c 7 t)) (k0_pay71 (iblk m c 1 t) (iblk m c 2 t) (iblk m c 3 t)) b i j = Ref.pairs (args m c) (ix3 b i j) := by
  obtain ⟨k, hk, e⟩ := root_two
  rw [pair, Ref.pairs_at, distances, widths_eq t h, widths_eq t h, e, div_mul _ _ hk]

/-- The kernel's matrices are the reference's. -/
theorem matrices (b : Fin 16) (i j : Fin 256) :
    k0_pay72 (widths (iblk m c 4 t) (iblk m c 7 t)) (hards (iblk m c 4 t) (iblk m c 8 t)) (k0_pay71 (iblk m c 1 t) (iblk m c 2 t) (iblk m c 3 t)) (ix3 b i j)
      = Ref.matrix (args m c) (ix3 b i j) := by
  rw [matrix_at, Ref.matrix_at, Ref.upper_at, Ref.upper_at, Ref.diagonal_at, pair_eq t h, pair_eq t h, hards_eq t h, widths_eq t h]

/-- The kernel's node energies are the reference's. -/
theorem chis (b : Fin 16) (i : Fin 256) : k0_pay70 (iblk m c 6 t) (iblk m c 0 t) (ix2 b i) = Ref.chi (args m c) (ix2 b i) := by
  rw [chi_at, Ref.chi_at]
  exact Finset.sum_congr rfl fun k _ => by rw [input0, input6]

/-- The arrays that the body reads are good arguments for the reference's data. -/
theorem good : Good (Ref.realMat (args m c)) (Ref.realSides (args m c)) (Ref.realTotal (args m c)) (iblk m c 0 t) (iblk m c 1 t) (iblk m c 2 t) (iblk m c 3 t)
    (iblk m c 4 t) (iblk m c 5 t) (iblk m c 6 t) (iblk m c 7 t) (iblk m c 8 t) where
  pivots b := schur_pivots (Ref.realMat_symm b) (h.pivots b)
  total b := (charge_eq (Ref.realMat_symm b) (h.pivots b) (z := Ref.realSides (args m c) b) (fun _ _ => rfl) (fun _ => rfl)).1
  coeffs b i j := (matrices t h b i j).trans (Ref.matrix_real h.finite b i j)
  chi := ⟨fun b j => by
    rw [chis t h, Ref.chi_real h.finite]
    exact congrArg _ (neg_neg _).symm, fun _ _ => rfl⟩
  totals b := (input5 m c t b).trans (Ref.total_real h.finite b)

end Qeq.Run

end
-- ==== Proof.lean ====
/- The proof of the claims. The two launches of the kernel end with their arguments unchanged and every
   semaphore counter at zero (`Frames/Kernel.lean`, `Frames/KernelIdeal.lean`); the reference is host operations
   only and has no semaphore. Over the extended reals the kernel's result (`Qeq/Launch.lean`) and the reference's
   (`Qeq/RefLoop.lean`, `Qeq/RefValue.lean`) are both the energies of the molecules, `Qeq.molecule`. -/
module

public import proofs.«01_k».proof.Defs
public import proofs.«01_k».proof.Proof.Frames.Kernel
public import proofs.«01_k».proof.Proof.Frames.KernelIdeal
public import proofs.«01_k».proof.Proof.Gen.ReferenceIdeal.Run
public import proofs.«01_k».proof.Proof.Gen.ReferenceIdeal.Step
public import proofs.«01_k».proof.Proof.Gen.Pre_regular
public import proofs.«01_k».proof.Proof.Qeq.RefPre
public import proofs.«01_k».proof.Proof.Qeq.RefLoop
public import proofs.«01_k».proof.Proof.Qeq.Values

@[expose] public section

noncomputable section

namespace Cert.Proof

open Idealize.ShloMosaic Idealize.SL.Sem Qeq

/-- The reference ends with its arguments unchanged; it declares no semaphore. -/
theorem reference_frame : Cert.quiescent_ReferenceIdeal := fun m ρ _ =>
  (θ_run Cert.ReferenceIdeal.defs _ _).mono
    (fun r h => And.intro (fun c => (h c).2) (sem_eq_zero_of_no_sems (by decide) r.2))
    (Cert.ReferenceIdeal.Value.run (F := Ideal) m ρ)

/-- The energies of the molecules, by the arguments in the kernel's memory. -/
def energy (m : (ℓ : Loc Cert.KernelIdeal.nD Cert.KernelIdeal.τ Cert.KernelIdeal.sig) → Buf (Elt Ideal) ℓ) (c : Dev Cert.KernelIdeal.nD) :
    FVec Ideal Cert.KernelIdeal.S16x1 .f32 :=
  fun i => ((molecule (Ref.realMat (Run.args m c) (i 0)) (Ref.realSides (Run.args m c) (i 0)) (Ref.realTotal (Run.args m c) (i 0)) : ℝ) : EReal)

/-- Kernel and reference both end with the energies of the molecules. -/
theorem algebraic : Cert.algebraic_KernelIdeal_ReferenceIdeal_pre_regular := by
  intro m g m' g' pre same
  have reg : ∀ c, Ref.Regular (Run.args m c) := fun c => Ref.regular_of (Run.args m c) _ (congrFun (pre c) ix0)
  refine ⟨energy m, Run.value m g _ _ _ fun c t => Run.good t (reg c), ?_⟩
  refine (θ_run Cert.ReferenceIdeal.defs _ _).mono (fun r h c => ⟨(h c).1.trans ?_, (h c).2⟩)
    (Ref.run_iter m' g' (fun c => Ref.trips (Run.args m c)) (fun c => ?_) fun _ _ => rfl)
  · obtain ⟨h0, h1, h2, h3, h4, h5, h6, h7, h8⟩ := same c
    unfold Ref.initState
    rw [h0, h1, h2, h5, h6, h7, h8]
    rfl
  · obtain ⟨h0, h1, h2, h3, h4, h5, h6, h7, h8⟩ := same c
    rw [h0, h1, h2, h4, h6, h7, h8]
    funext i
    rw [show i = ix2 (i 0) 0 from by funext a; fin_cases a; rfl; exact Subsingleton.elim (α := Fin 1) _ _]
    exact Ref.result (reg c) (i 0)

/-- The claims together. -/
theorem claim : Cert.Claim :=
  ⟨Cert.Kernel.Gen.facts, Cert.KernelIdeal.Gen.facts, Cert.ReferenceIdeal.Gen.facts, Cert.Pre_regular.Gen.facts,
   fun m ρ _ => Frames.Kernel.frame m ρ, fun m ρ _ => Frames.KernelIdeal.frame m ρ, fun m ρ _ => Frames.KernelIdeal.frame m ρ,
   fun m ρ _ => reference_frame m ρ trivial, fun m ρ _ => reference_frame m ρ trivial, trivial, algebraic⟩

end Cert.Proof

end
